-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S256x256
  ∧ IdealRules.bf16_pack.Statement Cert.KernelIdeal.S64x256
  ∧ IdealRules.bf16_pack.Statement Cert.KernelIdeal.S64x128
  ∧ IdealRules.bf16_pack.Statement Cert.KernelIdeal.S32x128

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v11) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x12x8192x256 : Shape := ⟨4, ![2, 12, 8192, 256]⟩
abbrev S2x12x8192x512 : Shape := ⟨4, ![2, 12, 8192, 512]⟩
abbrev S2x12x8192 : Shape := ⟨3, ![2, 12, 8192]⟩
abbrev S2x12x256x512 : Shape := ⟨4, ![2, 12, 256, 512]⟩
abbrev S_ : Shape := ⟨0, ![]⟩

class Facts : Prop where
  bitsLt_bf16_f32 : FTy.bits .bf16 < FTy.bits .f32
  bcast_S_S2x12x8192x256 : S_.BroadcastsInDim S2x12x8192x256 (![] : Fin 0 → Fin S2x12x8192x256.rank)
  reducesTo_S2x12x8192x256_S_d0_1_2_3 : S2x12x8192x256.ReducesTo [0, 1, 2, 3] S_
  h_S_ : 0 < S_.numel
  bcast_S_S2x12x8192x512 : S_.BroadcastsInDim S2x12x8192x512 (![] : Fin 0 → Fin S2x12x8192x512.rank)
  reducesTo_S2x12x8192x512_S_d0_1_2_3 : S2x12x8192x512.ReducesTo [0, 1, 2, 3] S_
  bcast_S_S2x12x8192 : S_.BroadcastsInDim S2x12x8192 (![] : Fin 0 → Fin S2x12x8192.rank)
  reducesTo_S2x12x8192_S_d0_1_2 : S2x12x8192.ReducesTo [0, 1, 2] S_
  bcast_S_S2x12x256x512 : S_.BroadcastsInDim S2x12x256x512 (![] : Fin 0 → Fin S2x12x256x512.rank)
  reducesTo_S2x12x256x512_S_d0_1_2_3 : S2x12x256x512.ReducesTo [0, 1, 2, 3] S_

variable [Facts]

def fn_part1 {F : FTy → Type} [FloatOps F] (main_arg4 : FVec F S2x12x8192 .f32) (main_arg5 : FVec F S2x12x256x512 .f32) (main_v16 : IVec S_ 1) (main_v17 : FVec F S2x12x8192 .f32) : IVec S_ 1 :=
  let main_cst_4 : FVec F S_ .f32 := constant S_ .f32 0x7F7FFFFF#32
  let main_v18 : FVec F S2x12x8192 .f32 := broadcastInDim S2x12x8192 ![] bcast_S_S2x12x8192 main_cst_4
  let main_v19 : IVec S2x12x8192 1 := cmpf .ole main_v17 main_v18
  let main_c_5 : IVec S_ 1 := constantI S_ 1 1#1
  let main_v20 : IVec S_ 1 := (fun x v => Host.reduce IntOp.andi x v reducesTo_S2x12x8192_S_d0_1_2 h_S_) main_v19 main_c_5
  let main_v21 : IVec S_ 1 := andi main_v16 main_v20
  let main_v22 : FVec F S2x12x8192 .f32 := Host.absf main_arg4
  let main_cst_6 : FVec F S_ .f32 := constant S_ .f32 0x7F7FFFFF#32
  let main_v23 : FVec F S2x12x8192 .f32 := broadcastInDim S2x12x8192 ![] bcast_S_S2x12x8192 main_cst_6
  let main_v24 : IVec S2x12x8192 1 := cmpf .ole main_v22 main_v23
  let main_c_7 : IVec S_ 1 := constantI S_ 1 1#1
  let main_v25 : IVec S_ 1 := (fun x v => Host.reduce IntOp.andi x v reducesTo_S2x12x8192_S_d0_1_2 h_S_) main_v24 main_c_7
  let main_v26 : IVec S_ 1 := andi main_v21 main_v25
  let main_v27 : FVec F S2x12x256x512 .f32 := Host.absf main_arg5
  let main_cst_8 : FVec F S_ .f32 := constant S_ .f32 0x7F7FFFFF#32
  let main_v28 : FVec F S2x12x256x512 .f32 := broadcastInDim S2x12x256x512 ![] bcast_S_S2x12x256x512 main_cst_8
  let main_v29 : IVec S2x12x256x512 1 := cmpf .ole main_v27 main_v28
  let main_c_9 : IVec S_ 1 := constantI S_ 1 1#1
  let main_v30 : IVec S_ 1 := (fun x v => Host.reduce IntOp.andi x v reducesTo_S2x12x256x512_S_d0_1_2_3 h_S_) main_v29 main_c_9
  let main_v31 : IVec S_ 1 := andi main_v26 main_v30
  main_v31

def fn {F : FTy → Type} [FloatOps F] (main_arg0 : FVec F S2x12x8192x256 .bf16) (main_arg1 : FVec F S2x12x8192x256 .bf16) (main_arg2 : FVec F S2x12x8192x512 .bf16) (main_arg3 : FVec F S2x12x8192 .f32) (main_arg4 : FVec F S2x12x8192 .f32) (main_arg5 : FVec F S2x12x256x512 .f32) : IVec S_ 1 :=
  let main_v0 : FVec F S2x12x8192x256 .f32 := (extf .f32 · bitsLt_bf16_f32) main_arg0
  let main_v1 : FVec F S2x12x8192x256 .f32 := Host.absf main_v0
  let main_cst : FVec F S_ .f32 := constant S_ .f32 0x7F7F0000#32
  let main_v2 : FVec F S2x12x8192x256 .f32 := broadcastInDim S2x12x8192x256 ![] bcast_S_S2x12x8192x256 main_cst
  let main_v3 : IVec S2x12x8192x256 1 := cmpf .ole main_v1 main_v2
  let main_c : IVec S_ 1 := constantI S_ 1 1#1
  let main_v4 : IVec S_ 1 := (fun x v => Host.reduce IntOp.andi x v reducesTo_S2x12x8192x256_S_d0_1_2_3 h_S_) main_v3 main_c
  let main_v5 : FVec F S2x12x8192x256 .f32 := (extf .f32 · bitsLt_bf16_f32) main_arg1
  let main_v6 : FVec F S2x12x8192x256 .f32 := Host.absf main_v5
  let main_cst_0 : FVec F S_ .f32 := constant S_ .f32 0x7F7F0000#32
  let main_v7 : FVec F S2x12x8192x256 .f32 := broadcastInDim S2x12x8192x256 ![] bcast_S_S2x12x8192x256 main_cst_0
  let main_v8 : IVec S2x12x8192x256 1 := cmpf .ole main_v6 main_v7
  let main_c_1 : IVec S_ 1 := constantI S_ 1 1#1
  let main_v9 : IVec S_ 1 := (fun x v => Host.reduce IntOp.andi x v reducesTo_S2x12x8192x256_S_d0_1_2_3 h_S_) main_v8 main_c_1
  let main_v10 : IVec S_ 1 := andi main_v4 main_v9
  let main_v11 : FVec F S2x12x8192x512 .f32 := (extf .f32 · bitsLt_bf16_f32) main_arg2
  let main_v12 : FVec F S2x12x8192x512 .f32 := Host.absf main_v11
  let main_cst_2 : FVec F S_ .f32 := constant S_ .f32 0x7F7F0000#32
  let main_v13 : FVec F S2x12x8192x512 .f32 := broadcastInDim S2x12x8192x512 ![] bcast_S_S2x12x8192x512 main_cst_2
  let main_v14 : IVec S2x12x8192x512 1 := cmpf .ole main_v12 main_v13
  let main_c_3 : IVec S_ 1 := constantI S_ 1 1#1
  let main_v15 : IVec S_ 1 := (fun x v => Host.reduce IntOp.andi x v reducesTo_S2x12x8192x512_S_d0_1_2_3 h_S_) main_v14 main_c_3
  let main_v16 : IVec S_ 1 := andi main_v10 main_v15
  let main_v17 : FVec F S2x12x8192 .f32 := Host.absf main_arg3
  fn_part1 (F := F) main_arg4 main_arg5 main_v16 main_v17
-- ==== Kernel.lean ====
abbrev S2x12x8192x256 : Shape := ⟨4, ![2, 12, 8192, 256]⟩
abbrev S2x12x8192x512 : Shape := ⟨4, ![2, 12, 8192, 512]⟩
abbrev S2x12x8192 : Shape := ⟨3, ![2, 12, 8192]⟩
abbrev S2x12x256x512 : Shape := ⟨4, ![2, 12, 256, 512]⟩
abbrev S24x8192x256 : Shape := ⟨3, ![24, 8192, 256]⟩
abbrev S24x8192x512 : Shape := ⟨3, ![24, 8192, 512]⟩
abbrev S24x128x64 : Shape := ⟨3, ![24, 128, 64]⟩
abbrev S24x256x512 : Shape := ⟨3, ![24, 256, 512]⟩
abbrev S6x4x128 : Shape := ⟨3, ![6, 4, 128]⟩
abbrev S4x128x256 : Shape := ⟨3, ![4, 128, 256]⟩
abbrev S4x128x512 : Shape := ⟨3, ![4, 128, 512]⟩
abbrev S4x128x64 : Shape := ⟨3, ![4, 128, 64]⟩
abbrev S4x256x512 : Shape := ⟨3, ![4, 256, 512]⟩
abbrev S1x4x128 : Shape := ⟨3, ![1, 4, 128]⟩
abbrev S4x64x128 : Shape := ⟨3, ![4, 64, 128]⟩
abbrev S4x128x128 : Shape := ⟨3, ![4, 128, 128]⟩
abbrev S4x2x128x256 : Shape := ⟨4, ![4, 2, 128, 256]⟩
abbrev S4x2x256x128 : Shape := ⟨4, ![4, 2, 256, 128]⟩
abbrev S4x2x64x128 : Shape := ⟨4, ![4, 2, 64, 128]⟩
abbrev S4x2x8x128 : Shape := ⟨4, ![4, 2, 8, 128]⟩
abbrev S64x128 : Shape := ⟨2, ![64, 128]⟩
abbrev S1x128x64 : Shape := ⟨3, ![1, 128, 64]⟩
abbrev S128x64 : Shape := ⟨2, ![128, 64]⟩
abbrev S128x128 : Shape := ⟨2, ![128, 128]⟩
abbrev S1x128x128 : Shape := ⟨3, ![1, 128, 128]⟩
abbrev S1x64x128 : Shape := ⟨3, ![1, 64, 128]⟩
abbrev S1x1x128x256 : Shape := ⟨4, ![1, 1, 128, 256]⟩
abbrev S128x256 : Shape := ⟨2, ![128, 256]⟩
abbrev S1x256x256 : Shape := ⟨3, ![1, 256, 256]⟩
abbrev S256x256 : Shape := ⟨2, ![256, 256]⟩
abbrev S1x1x64x128 : Shape := ⟨4, ![1, 1, 64, 128]⟩
abbrev S64x256 : Shape := ⟨2, ![64, 256]⟩
abbrev S1x64x256 : Shape := ⟨3, ![1, 64, 256]⟩
abbrev S1x1x256x128 : Shape := ⟨4, ![1, 1, 256, 128]⟩
abbrev S256x128 : Shape := ⟨2, ![256, 128]⟩
abbrev S1x1x1x128 : Shape := ⟨4, ![1, 1, 1, 128]⟩
abbrev S1x128 : Shape := ⟨2, ![1, 128]⟩
abbrev S1x256 : Shape := ⟨2, ![1, 256]⟩
abbrev S16x256 : Shape := ⟨2, ![16, 256]⟩
abbrev S16x128 : Shape := ⟨2, ![16, 128]⟩
abbrev S128 : Shape := ⟨1, ![128]⟩
abbrev S1 : Shape := ⟨1, ![1]⟩
abbrev S1x1 : Shape := ⟨2, ![1, 1]⟩
abbrev S1x1x128 : Shape := ⟨3, ![1, 1, 128]⟩
abbrev S64 : Shape := ⟨1, ![64]⟩
abbrev S64x1 : Shape := ⟨2, ![64, 1]⟩
abbrev S64x128x1 : Shape := ⟨3, ![64, 128, 1]⟩
abbrev S8x128 : Shape := ⟨2, ![8, 128]⟩
abbrev S1x1x8x128 : Shape := ⟨4, ![1, 1, 8, 128]⟩
abbrev S16x128x1 : Shape := ⟨3, ![16, 128, 1]⟩
abbrev S32x128 : Shape := ⟨2, ![32, 128]⟩
abbrev S32x256 : Shape := ⟨2, ![32, 256]⟩

abbrev nBuf : Space → Nat
  | .hbm => 18
  | .vmem => 36
  | .smem => 0
  | _ => 0

abbrev bufTy : (tb : Table) → Fin (tcTables nBuf tb) → BufTy
  | .hbm, ⟨0, _⟩ => ⟨S2x12x8192x256, .bf16⟩
  | .hbm, ⟨1, _⟩ => ⟨S2x12x8192x256, .bf16⟩
  | .hbm, ⟨2, _⟩ => ⟨S2x12x8192x512, .bf16⟩
  | .hbm, ⟨3, _⟩ => ⟨S2x12x8192, .f32⟩
  | .hbm, ⟨4, _⟩ => ⟨S2x12x8192, .f32⟩
  | .hbm, ⟨5, _⟩ => ⟨S2x12x256x512, .f32⟩
  | .hbm, ⟨6, _⟩ => ⟨S24x8192x256, .bf16⟩
  | .hbm, ⟨7, _⟩ => ⟨S24x8192x256, .bf16⟩
  | .hbm, ⟨8, _⟩ => ⟨S24x8192x512, .bf16⟩
  | .hbm, ⟨9, _⟩ => ⟨S24x128x64, .f32⟩
  | .hbm, ⟨10, _⟩ => ⟨S24x128x64, .f32⟩
  | .hbm, ⟨11, _⟩ => ⟨S24x256x512, .f32⟩
  | .hbm, ⟨12, _⟩ => ⟨S24x8192x512, .bf16⟩
  | .hbm, ⟨13, _⟩ => ⟨S24x256x512, .f32⟩
  | .hbm, ⟨14, _⟩ => ⟨S24x8192x256, .fp8e4m3⟩
  | .hbm, ⟨15, _⟩ => ⟨S6x4x128, .f32⟩
  | .hbm, ⟨16, _⟩ => ⟨S24x8192x256, .fp8e4m3⟩
  | .hbm, ⟨17, _⟩ => ⟨S6x4x128, .f32⟩
  | .local _ .vmem, ⟨0, _⟩ => ⟨S4x128x256, .bf16⟩
  | .local _ .vmem, ⟨1, _⟩ => ⟨S4x128x256, .bf16⟩
  | .local _ .vmem, ⟨2, _⟩ => ⟨S4x128x256, .bf16⟩
  | .local _ .vmem, ⟨3, _⟩ => ⟨S4x128x256, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S4x256x512, .f32⟩
  | .local _ .vmem, ⟨11, _⟩ => ⟨S4x256x512, .f32⟩
  | .local _ .vmem, ⟨12, _⟩ => ⟨S4x128x512, .bf16⟩
  | .local _ .vmem, ⟨13, _⟩ => ⟨S4x128x512, .bf16⟩
  | .local _ .vmem, ⟨14, _⟩ => ⟨S4x256x512, .f32⟩
  | .local _ .vmem, ⟨15, _⟩ => ⟨S4x256x512, .f32⟩
  | .local _ .vmem, ⟨16, _⟩ => ⟨S4x128x256, .fp8e4m3⟩
  | .local _ .vmem, ⟨17, _⟩ => ⟨S4x128x256, .fp8e4m3⟩
  | .local _ .vmem, ⟨18, _⟩ => ⟨S1x4x128, .f32⟩
  | .local _ .vmem, ⟨19, _⟩ => ⟨S1x4x128, .f32⟩
  | .local _ .vmem, ⟨20, _⟩ => ⟨S4x128x256, .fp8e4m3⟩
  | .local _ .vmem, ⟨21, _⟩ => ⟨S4x128x256, .fp8e4m3⟩
  | .local _ .vmem, ⟨22, _⟩ => ⟨S1x4x128, .f32⟩
  | .local _ .vmem, ⟨23, _⟩ => ⟨S1x4x128, .f32⟩
  | .local _ .vmem, ⟨24, _⟩ => ⟨S4x64x128, .f32⟩
  | .local _ .vmem, ⟨25, _⟩ => ⟨S4x64x128, .f32⟩
  | .local _ .vmem, ⟨26, _⟩ => ⟨S4x128x128, .f32⟩
  | .local _ .vmem, ⟨27, _⟩ => ⟨S4x128x128, .f32⟩
  | .local _ .vmem, ⟨28, _⟩ => ⟨S4x2x128x256, .bf16⟩
  | .local _ .vmem, ⟨29, _⟩ => ⟨S4x2x256x128, .bf16⟩
  | .local _ .vmem, ⟨30, _⟩ => ⟨S4x2x128x256, .bf16⟩
  | .local _ .vmem, ⟨31, _⟩ => ⟨S4x2x128x256, .bf16⟩
  | .local _ .vmem, ⟨32, _⟩ => ⟨S4x2x64x128, .f32⟩
  | .local _ .vmem, ⟨33, _⟩ => ⟨S4x2x64x128, .f32⟩
  | .local _ .vmem, ⟨34, _⟩ => ⟨S4x2x64x128, .f32⟩
  | .local _ .vmem, ⟨35, _⟩ => ⟨S4x2x8x128, .f32⟩
  | _, _ => ⟨S2x12x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨1, ![385], ![false]⟩

def k0_off1 (i : grid0.Coords) (c0_i32_378 : BitVec 32) : Fin 3 → Nat :=
  let c0_462 : Index := 0#32
  let arg0 : BitVec 32 := BitVec.ofNat 32 (i 0).val
  let c383_i32 : BitVec 32 := 383#32
  let v0 : BitVec 32 := Scalar.minsi arg0 c383_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v868 : BitVec 32 := Scalar.muli v10 c2_i32
  let v869 : BitVec 32 := Scalar.addi v868 c0_i32_378
  let v1090 : Index := Scalar.indexCast v869
  let c0_463 : Index := 0#32
  ![0, v1090.toNat, 0]
def k0_off2 (i : grid0.Coords) (c0_i32_378 : BitVec 32) : Fin 3 → Nat :=
  let c1_570 : Index := 1#32
  let arg0 : BitVec 32 := BitVec.ofNat 32 (i 0).val
  let c383_i32 : BitVec 32 := 383#32
  let v0 : BitVec 32 := Scalar.minsi arg0 c383_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v868 : BitVec 32 := Scalar.muli v10 c2_i32
  let v869 : BitVec 32 := Scalar.addi v868 c0_i32_378
  let v1345 : Index := Scalar.indexCast v869
  let c0_571 : Index := 0#32
  ![1, v1345.toNat, 0]
def k0_off3 (i : grid0.Coords) (c0_i32_378 : BitVec 32) : Fin 3 → Nat :=
  let c2_678 : Index := 2#32
  let arg0 : BitVec 32 := BitVec.ofNat 32 (i 0).val
  let c383_i32 : BitVec 32 := 383#32
  let v0 : BitVec 32 := Scalar.minsi arg0 c383_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v868 : BitVec 32 := Scalar.muli v10 c2_i32
  let v869 : BitVec 32 := Scalar.addi v868 c0_i32_378
  let v1600 : Index := Scalar.indexCast v869
  let c0_679 : Index := 0#32
  ![2, v1600.toNat, 0]
def k0_off4 (i : grid0.Coords) (c0_i32_378 : BitVec 32) : Fin 3 → Nat :=
  let c3_786 : Index := 3#32
  let arg0 : BitVec 32 := BitVec.ofNat 32 (i 0).val
  let c383_i32 : BitVec 32 := 383#32
  let v0 : BitVec 32 := Scalar.minsi arg0 c383_i32
  let c64_i32 : BitVec 32 := 64#32
  let c0_i32 : BitVec 32 := 0#32
  let v1 : BitVec 1 := Scalar.cmpi .eq c64_i32 c0_i32
  let c1_i32 : BitVec 32 := 1#32
  let v2 : BitVec 32 := Scalar.select v1 c1_i32 c64_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v868 : BitVec 32 := Scalar.muli v10 c2_i32
  let v869 : BitVec 32 := Scalar.addi v868 c0_i32_378
  let v1855 : Index := Scalar.indexCast v869
  let c0_787 : Index := 0#32
  ![3, v1855.toNat, 0]
def cc0_transform_0 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c383_i32_11 : BitVec 32 := 383#32
  let v29 : BitVec 32 := Scalar.minsi arg0 c383_i32_11
  let c0_i32_12 : BitVec 32 := 0#32
  let c0_i32_13 : BitVec 32 := 0#32
  ![v17.toNat, v28.toNat, c0_i32_12.toNat]

def cc0_transform_1 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c383_i32_11 : BitVec 32 := 383#32
  let v29 : BitVec 32 := Scalar.minsi arg0 c383_i32_11
  let c0_i32_12 : BitVec 32 := 0#32
  let c0_i32_13 : BitVec 32 := 0#32
  ![v17.toNat, v28.toNat, c0_i32_12.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c64_i32_8 : BitVec 32 := 64#32
  let c0_i32_9 : BitVec 32 := 0#32
  let v21 : BitVec 1 := Scalar.cmpi .eq c64_i32_8 c0_i32_9
  let c1_i32_10 : BitVec 32 := 1#32
  let v22 : BitVec 32 := Scalar.select v21 c1_i32_10 c64_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c1_i32_14 : BitVec 32 := 1#32
  let v31 : BitVec 32 := Scalar.subi arg0 c1_i32_14
  let c0_i32_15 : BitVec 32 := 0#32
  let v32 : BitVec 32 := Scalar.maxsi v31 c0_i32_15
  let c0_i32_16 : BitVec 32 := 0#32
  let c0_i32_17 : BitVec 32 := 0#32
  ![v18.toNat, v30.toNat, c0_i32_16.toNat]

def cc0_transform_3 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c383_i32_5 : BitVec 32 := 383#32
  let v19 : BitVec 32 := Scalar.minsi arg0 c383_i32_5
  let c0_i32_6 : BitVec 32 := 0#32
  let c0_i32_7 : BitVec 32 := 0#32
  let c0_i32_8 : BitVec 32 := 0#32
  ![v17.toNat, c0_i32_6.toNat, c0_i32_7.toNat]

def cc0_transform_4 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c383_i32_5 : BitVec 32 := 383#32
  let v19 : BitVec 32 := Scalar.minsi arg0 c383_i32_5
  let c0_i32_6 : BitVec 32 := 0#32
  let c0_i32_7 : BitVec 32 := 0#32
  let c0_i32_8 : BitVec 32 := 0#32
  ![v17.toNat, c0_i32_6.toNat, c0_i32_7.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c1_i32_8 : BitVec 32 := 1#32
  let v21 : BitVec 32 := Scalar.subi arg0 c1_i32_8
  let c0_i32_9 : BitVec 32 := 0#32
  let v22 : BitVec 32 := Scalar.maxsi v21 c0_i32_9
  let c0_i32_10 : BitVec 32 := 0#32
  let c0_i32_11 : BitVec 32 := 0#32
  let c0_i32_12 : BitVec 32 := 0#32
  ![v18.toNat, c0_i32_10.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c64_i32_8 : BitVec 32 := 64#32
  let c0_i32_9 : BitVec 32 := 0#32
  let v21 : BitVec 1 := Scalar.cmpi .eq c64_i32_8 c0_i32_9
  let c1_i32_10 : BitVec 32 := 1#32
  let v22 : BitVec 32 := Scalar.select v21 c1_i32_10 c64_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c1_i32_14 : BitVec 32 := 1#32
  let v31 : BitVec 32 := Scalar.subi arg0 c1_i32_14
  let c0_i32_15 : BitVec 32 := 0#32
  let v32 : BitVec 32 := Scalar.maxsi v31 c0_i32_15
  let c0_i32_16 : BitVec 32 := 0#32
  let c0_i32_17 : BitVec 32 := 0#32
  ![v18.toNat, v30.toNat, c0_i32_16.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c64_i32 : BitVec 32 := 64#32
  let v2 : BitVec 32 := Scalar.divsi v1 c64_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c64_i32 c0_i32_2
  let v9 : BitVec 32 := Scalar.extui v8
  let c0_i32_3 : BitVec 32 := 0#32
  let v10 : BitVec 1 := Scalar.cmpi .slt c64_i32 c0_i32_3
  let v11 : BitVec 32 := Scalar.extui v10
  let v12 : BitVec 32 := Scalar.subi v9 v11
  let v13 : BitVec 1 := Scalar.cmpi .ne v7 v12
  let v14 : BitVec 32 := Scalar.remsi v1 c64_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c1_i32_8 : BitVec 32 := 1#32
  let v21 : BitVec 32 := Scalar.subi arg0 c1_i32_8
  let c0_i32_9 : BitVec 32 := 0#32
  let v22 : BitVec 32 := Scalar.maxsi v21 c0_i32_9
  let c0_i32_10 : BitVec 32 := 0#32
  let c0_i32_11 : BitVec 32 := 0#32
  let c0_i32_12 : BitVec 32 := 0#32
  ![v18.toNat, c0_i32_10.toNat, c0_i32_11.toNat]

def cc0_transform_8 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c383_i32_11 : BitVec 32 := 383#32
  let v29 : BitVec 32 := Scalar.minsi arg0 c383_i32_11
  let c0_i32_12 : BitVec 32 := 0#32
  let c0_i32_13 : BitVec 32 := 0#32
  ![v17.toNat, v28.toNat, c0_i32_12.toNat]

def cc0_transform_9 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c383_i32_5 : BitVec 32 := 383#32
  let v19 : BitVec 32 := Scalar.minsi arg0 c383_i32_5
  let c0_i32_6 : BitVec 32 := 0#32
  let c0_i32_7 : BitVec 32 := 0#32
  let c0_i32_8 : BitVec 32 := 0#32
  ![v17.toNat, c0_i32_6.toNat, c0_i32_7.toNat]

def cc0_transform_10 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c64_i32_5 : BitVec 32 := 64#32
  let c0_i32_6 : BitVec 32 := 0#32
  let v19 : BitVec 1 := Scalar.cmpi .eq c64_i32_5 c0_i32_6
  let c1_i32_7 : BitVec 32 := 1#32
  let v20 : BitVec 32 := Scalar.select v19 c1_i32_7 c64_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c383_i32_11 : BitVec 32 := 383#32
  let v29 : BitVec 32 := Scalar.minsi arg0 c383_i32_11
  let c0_i32_12 : BitVec 32 := 0#32
  let c0_i32_13 : BitVec 32 := 0#32
  ![v17.toNat, v28.toNat, c0_i32_12.toNat]

def cc0_transform_11 (i : grid0.Coords) : Fin 3 → Nat :=
  let arg0 : BitVec 32 := BitVec.ofNat 32 (i 0).val
  let c383_i32 : BitVec 32 := 383#32
  let v0 : BitVec 32 := Scalar.minsi arg0 c383_i32
  let c64_i32 : BitVec 32 := 64#32
  let v1 : BitVec 32 := Scalar.divsi v0 c64_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c64_i32 c0_i32_1
  let v8 : BitVec 32 := Scalar.extui v7
  let c0_i32_2 : BitVec 32 := 0#32
  let v9 : BitVec 1 := Scalar.cmpi .slt c64_i32 c0_i32_2
  let v10 : BitVec 32 := Scalar.extui v9
  let v11 : BitVec 32 := Scalar.subi v8 v10
  let v12 : BitVec 1 := Scalar.cmpi .ne v6 v11
  let v13 : BitVec 32 := Scalar.remsi v0 c64_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c383_i32_4 : BitVec 32 := 383#32
  let v18 : BitVec 32 := Scalar.minsi arg0 c383_i32_4
  let c383_i32_5 : BitVec 32 := 383#32
  let v19 : BitVec 32 := Scalar.minsi arg0 c383_i32_5
  let c0_i32_6 : BitVec 32 := 0#32
  let c0_i32_7 : BitVec 32 := 0#32
  let c0_i32_8 : BitVec 32 := 0#32
  ![v17.toNat, c0_i32_6.toNat, c0_i32_7.toNat]

abbrev stage0_0 : Fin 2 → Memref sig .tc .vmem S4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F]
-- ==== ReferenceIdeal.lean ====
abbrev S2x12x8192x256 : Shape := ⟨4, ![2, 12, 8192, 256]⟩
abbrev S2x12x8192x512 : Shape := ⟨4, ![2, 12, 8192, 512]⟩
abbrev S2x12x8192 : Shape := ⟨3, ![2, 12, 8192]⟩
abbrev S2x12x256x512 : Shape := ⟨4, ![2, 12, 256, 512]⟩
abbrev S24x128x64x256 : Shape := ⟨4, ![24, 128, 64, 256]⟩
abbrev S24x128x64x512 : Shape := ⟨4, ![24, 128, 64, 512]⟩
abbrev S24x128x1x64 : Shape := ⟨4, ![24, 128, 1, 64]⟩
abbrev S24x256x512 : Shape := ⟨3, ![24, 256, 512]⟩
abbrev S24x128x1x1 : Shape := ⟨4, ![24, 128, 1, 1]⟩
abbrev S1x64x64 : Shape := ⟨3, ![1, 64, 64]⟩
abbrev S24x1x64x256 : Shape := ⟨4, ![24, 1, 64, 256]⟩
abbrev S24x64x256 : Shape := ⟨3, ![24, 64, 256]⟩
abbrev S24x1x64x512 : Shape := ⟨4, ![24, 1, 64, 512]⟩
abbrev S24x64x512 : Shape := ⟨3, ![24, 64, 512]⟩
abbrev S24x1x1x64 : Shape := ⟨4, ![24, 1, 1, 64]⟩
abbrev S24x1x64 : Shape := ⟨3, ![24, 1, 64]⟩
abbrev S24x64 : Shape := ⟨2, ![24, 64]⟩
abbrev S24x64x1 : Shape := ⟨3, ![24, 64, 1]⟩
abbrev S24x1 : Shape := ⟨2, ![24, 1]⟩
abbrev S24x1x1 : Shape := ⟨3, ![24, 1, 1]⟩
abbrev S1x1x253 : Shape := ⟨3, ![1, 1, 253]⟩
abbrev S24x1x253 : Shape := ⟨3, ![24, 1, 253]⟩
abbrev S24x1x1x1 : Shape := ⟨4, ![24, 1, 1, 1]⟩
abbrev S24x64x64 : Shape := ⟨3, ![24, 64, 64]⟩
abbrev S24x8192x512 : Shape := ⟨3, ![24, 8192, 512]⟩
abbrev S24x8192x256 : Shape := ⟨3, ![24, 8192, 256]⟩
abbrev S6x4x128 : Shape := ⟨3, ![6, 4, 128]⟩

abbrev nBuf : Space → Nat
  | .hbm => 23
  | .vmem => 12
  | .smem => 0
  | _ => 0

abbrev bufTy : (tb : Table) → Fin (tcTables nBuf tb) → BufTy
  | .hbm, ⟨0, _⟩ => ⟨S2x12x8192x256, .bf16⟩
  | .hbm, ⟨1, _⟩ => ⟨S2x12x8192x256, .bf16⟩
  | .hbm, ⟨2, _⟩ => ⟨S2x12x8192x512, .bf16⟩
  | .hbm, ⟨3, _⟩ => ⟨S2x12x8192, .f32⟩
  | .hbm, ⟨4, _⟩ => ⟨S2x12x8192, .f32⟩
  | .hbm, ⟨5, _⟩ => ⟨S2x12x256x512, .f32⟩
  | .hbm, ⟨6, _⟩ => ⟨S24x128x64x256, .bf16⟩
  | .hbm, ⟨7, _⟩ => ⟨S24x128x64x256, .bf16⟩
  | .hbm, ⟨8, _⟩ => ⟨S24x128x64x512, .bf16⟩
  | .hbm, ⟨9, _⟩ => ⟨S24x128x1x64, .f32⟩
  | .hbm, ⟨10, _⟩ => ⟨S24x128x1x64, .f32⟩
  | .hbm, ⟨11, _⟩ => ⟨S24x256x512, .f32⟩
  | .hbm, ⟨12, _⟩ => ⟨S24x128x64x512, .bf16⟩
  | .hbm, ⟨13, _⟩ => ⟨S24x256x512, .f32⟩
  | .hbm, ⟨14, _⟩ => ⟨S24x128x64x256, .fp8e4m3⟩
  | .hbm, ⟨15, _⟩ => ⟨S24x128x1x1, .f32⟩
  | .hbm, ⟨16, _⟩ => ⟨S24x128x64x256, .fp8e4m3⟩
  | .hbm, ⟨17, _⟩ => ⟨S24x128x1x1, .f32⟩
  | .hbm, ⟨18, _⟩ => ⟨S24x8192x512, .bf16⟩
  | .hbm, ⟨19, _⟩ => ⟨S24x8192x256, .fp8e4m3⟩
  | .hbm, ⟨20, _⟩ => ⟨S6x4x128, .f32⟩
  | .hbm, ⟨21, _⟩ => ⟨S24x8192x256, .fp8e4m3⟩
  | .hbm, ⟨22, _⟩ => ⟨S6x4x128, .f32⟩
  | .local _ .vmem, ⟨0, _⟩ => ⟨S24x128x64x256, .bf16⟩
  | .local _ .vmem, ⟨1, _⟩ => ⟨S24x128x64x256, .bf16⟩
  | .local _ .vmem, ⟨2, _⟩ => ⟨S24x128x64x512, .bf16⟩
  | .local _ .vmem, ⟨3, _⟩ => ⟨S24x128x1x64, .f32⟩
  | .local _ .vmem, ⟨4, _⟩ => ⟨S24x128x1x64, .f32⟩
  | .local _ .vmem, ⟨5, _⟩ => ⟨S24x256x512, .f32⟩
  | .local _ .vmem, ⟨6, _⟩ => ⟨S24x128x64x512, .bf16⟩
  | .local _ .vmem, ⟨7, _⟩ => ⟨S24x256x512, .f32⟩
  | .local _ .vmem, ⟨8, _⟩ => ⟨S24x128x64x256, .fp8e4m3⟩
  | .local _ .vmem, ⟨9, _⟩ => ⟨S24x128x1x1, .f32⟩
  | .local _ .vmem, ⟨10, _⟩ => ⟨S24x128x64x256, .fp8e4m3⟩
  | .local _ .vmem, ⟨11, _⟩ => ⟨S24x128x1x1, .f32⟩
  | _, _ => ⟨S2x12x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v8 : BitVec 32 := Scalar.addi c0_i32 c128_i32
  let c1_i32 : BitVec 32 := 1#32
  ⟨c0_i32, v8, c1_i32⟩
def k0_off1 (k0_t1 : Fin k0_t1_loop.trips) : Fin 4 → Nat :=
  let c0_7 : Index := 0#32
  let c0_i32 : BitVec 32 := 0#32
  let c1_i32 : BitVec 32 := 1#32
  let arg12 : BitVec 32 := Scf.iv c0_i32 c1_i32 k0_t1
  let v11 : Index := Scalar.indexCast arg12
  let c0_8 : Index := 0#32
  let c0_9 : Index := 0#32
  ![0, v11.toNat, 0, 0]
def k0_off2 (k0_t1 : Fin k0_t1_loop.trips) : Fin 4 → Nat :=
  let c0_13 : Index := 0#32
  let c0_i32 : BitVec 32 := 0#32
  let c1_i32 : BitVec 32 := 1#32
  let arg12 : BitVec 32 := Scf.iv c0_i32 c1_i32 k0_t1
  let v19 : Index := Scalar.indexCast arg12
  let c0_14 : Index := 0#32
  let c0_15 : Index := 0#32
  ![0, v19.toNat, 0, 0]
def k0_off3 (k0_t1 : Fin k0_t1_loop.trips) : Fin 4 → Nat :=
  let c0_16 : Index := 0#32
  let c0_i32 : BitVec 32 := 0#32
  let c1_i32 : BitVec 32 := 1#32
  let arg12 : BitVec 32 := Scf.iv c0_i32 c1_i32 k0_t1
  let v23 : Index := Scalar.indexCast arg12
  let c0_17 : Index := 0#32
  let c0_18 : Index := 0#32
  ![0, v23.toNat, 0, 0]
def k0_off4 (k0_t1 : Fin k0_t1_loop.trips) : Fin 4 → Nat :=
  let c0_50 : Index := 0#32
  let c0_i32 : BitVec 32 := 0#32
  let c1_i32 : BitVec 32 := 1#32
  let arg12 : BitVec 32 := Scf.iv c0_i32 c1_i32 k0_t1
  let v105 : Index := Scalar.indexCast arg12
  let c0_51 : Index := 0#32
  let c0_52 : Index := 0#32
  ![0, v105.toNat, 0, 0]
abbrev stage0_0 : Fin 1 → Memref sig .tc .vmem S24x128x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x128x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x128x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x128x64x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x128x64x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x128x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x128x64x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x128x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/- One run of the kernel's body on buffers held whole: it returns, the six input blocks as they were, and what it leaves in
   the eighteen buffers it writes is found by the run. -/
module

public import proofs.«01_k».proof.Proof.Gen.Kernel.Skeleton
public import proofs.«01_k».proof.Proof.Gen.Kernel.Frame

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [BitOps F]

local notation "𝕄" => MT nD τ sig Unit (Elt F) ℕ (UR sig nD τ) ℕ

/-- The contents of the buffers the body writes: the windows of `o`, the state, the codes and the scales, and the scratch. -/
structure Outs (c : Dev nD) (arg7 : Memref sig .tc .vmem S4x128x512 .bf16) (arg8 : Memref sig .tc .vmem S4x256x512 .f32) (arg9 : Memref sig .tc .vmem S4x128x256 .fp8e4m3) (arg10 : Memref sig .tc .vmem S1x4x128 .f32) (arg11 : Memref sig .tc .vmem S4x128x256 .fp8e4m3) (arg12 : Memref sig .tc .vmem S1x4x128 .f32) (arg13 : Memref sig .tc .vmem S4x64x128 .f32) (arg14 : Memref sig .tc .vmem S4x64x128 .f32) (arg15 : Memref sig .tc .vmem S4x128x128 .f32) (arg16 : Memref sig .tc .vmem S4x128x128 .f32) (arg17 : Memref sig .tc .vmem S4x2x128x256 .bf16) (arg18 : Memref sig .tc .vmem S4x2x256x128 .bf16) (arg19 : Memref sig .tc .vmem S4x2x128x256 .bf16) (arg20 : Memref sig .tc .vmem S4x2x128x256 .bf16) (arg21 : Memref sig .tc .vmem S4x2x64x128 .f32) (arg22 : Memref sig .tc .vmem S4x2x64x128 .f32) (arg23 : Memref sig .tc .vmem S4x2x64x128 .f32) (arg24 : Memref sig .tc .vmem S4x2x8x128 .f32) where
  g7 : Buf (Elt F) (arg7.view.loc (c : Thread nD τ))
  g8 : Buf (Elt F) (arg8.view.loc (c : Thread nD τ))
  g9 : Buf (Elt F) (arg9.view.loc (c : Thread nD τ))
  g10 : Buf (Elt F) (arg10.view.loc (c : Thread nD τ))
  g11 : Buf (Elt F) (arg11.view.loc (c : Thread nD τ))
  g12 : Buf (Elt F) (arg12.view.loc (c : Thread nD τ))
  g13 : Buf (Elt F) (arg13.view.loc (c : Thread nD τ))
  g14 : Buf (Elt F) (arg14.view.loc (c : Thread nD τ))
  g15 : Buf (Elt F) (arg15.view.loc (c : Thread nD τ))
  g16 : Buf (Elt F) (arg16.view.loc (c : Thread nD τ))
  g17 : Buf (Elt F) (arg17.view.loc (c : Thread nD τ))
  g18 : Buf (Elt F) (arg18.view.loc (c : Thread nD τ))
  g19 : Buf (Elt F) (arg19.view.loc (c : Thread nD τ))
  g20 : Buf (Elt F) (arg20.view.loc (c : Thread nD τ))
  g21 : Buf (Elt F) (arg21.view.loc (c : Thread nD τ))
  g22 : Buf (Elt F) (arg22.view.loc (c : Thread nD τ))
  g23 : Buf (Elt F) (arg23.view.loc (c : Thread nD τ))
  g24 : Buf (Elt F) (arg24.view.loc (c : Thread nD τ))

set_option maxHeartbeats 40000000 in
def body_run (c : Dev nD) (i : grid0.Coords) (arg1 : Memref sig .tc .vmem S4x128x256 .bf16) (harg1 : arg1.IsWhole) (arg2 : Memref sig .tc .vmem S4x128x256 .bf16) (harg2 : arg2.IsWhole) (arg3 : Memref sig .tc .vmem S4x128x512 .bf16) (harg3 : arg3.IsWhole) (arg4 : Memref sig .tc .vmem S4x128x64 .f32) (harg4 : arg4.IsWhole) (arg5 : Memref sig .tc .vmem S4x128x64 .f32) (harg5 : arg5.IsWhole) (arg6 : Memref sig .tc .vmem S4x256x512 .f32) (harg6 : arg6.IsWhole) (arg7 : Memref sig .tc .vmem S4x128x512 .bf16) (harg7 : arg7.IsWhole) (arg8 : Memref sig .tc .vmem S4x256x512 .f32) (harg8 : arg8.IsWhole) (arg9 : Memref sig .tc .vmem S4x128x256 .fp8e4m3) (harg9 : arg9.IsWhole) (arg10 : Memref sig .tc .vmem S1x4x128 .f32) (harg10 : arg10.IsWhole) (arg11 : Memref sig .tc .vmem S4x128x256 .fp8e4m3) (harg11 : arg11.IsWhole) (arg12 : Memref sig .tc .vmem S1x4x128 .f32) (harg12 : arg12.IsWhole) (arg13 : Memref sig .tc .vmem S4x64x128 .f32) (harg13 : arg13.IsWhole) (arg14 : Memref sig .tc .vmem S4x64x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x2x128x256 .bf16) (harg17 : arg17.IsWhole) (arg18 : Memref sig .tc .vmem S4x2x256x128 .bf16) (harg18 : arg18.IsWhole) (arg19 : Memref sig .tc .vmem S4x2x128x256 .bf16) (harg19 : arg19.IsWhole) (arg20 : Memref sig .tc .vmem S4x2x128x256 .bf16) (harg20 : arg20.IsWhole) (arg21 : Memref sig .tc .vmem S4x2x64x128 .f32) (harg21 : arg21.IsWhole) (arg22 : Memref sig .tc .vmem S4x2x64x128 .f32) (harg22 : arg22.IsWhole) (arg23 : Memref sig .tc .vmem S4x2x64x128 .f32) (harg23 : arg23.IsWhole) (arg24 : Memref sig .tc .vmem S4x2x8x128 .f32) (harg24 : arg24.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) :
    { g : Outs (F := F) c arg7 arg8 arg9 arg10 arg11 arg12 arg13 arg14 arg15 arg16 arg17 arg18 arg19 arg20 arg21 arg22 arg23 arg24 // ∀ (E : Set ℕ) (K : PUnit → sProp 𝕄),
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19) ∗ (arg20.view.loc (c : Thread nD τ) ↦{fullShare} f20) ∗ (arg21.view.loc (c : Thread nD τ) ↦{fullShare} f21) ∗ (arg22.view.loc (c : Thread nD τ) ↦{fullShare} f22) ∗ (arg23.view.loc (c : Thread nD τ) ↦{fullShare} f23) ∗ (arg24.view.loc (c : Thread nD τ) ↦{fullShare} f24) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g.g7) ∗ (arg8.view.loc (c : Thread nD τ) ↦[arg8.view.set]{fullShare} g.g8) ∗ (arg9.view.loc (c : Thread nD τ) ↦[arg9.view.set]{fullShare} g.g9) ∗ (arg10.view.loc (c : Thread nD τ) ↦[arg10.view.set]{fullShare} g.g10) ∗ (arg11.view.loc (c : Thread nD τ) ↦[arg11.view.set]{fullShare} g.g11) ∗ (arg12.view.loc (c : Thread nD τ) ↦[arg12.view.set]{fullShare} g.g12) ∗ (arg13.view.loc (c : Thread nD τ) ↦{fullShare} g.g13) ∗ (arg14.view.loc (c : Thread nD τ) ↦{fullShare} g.g14) ∗ (arg15.view.loc (c : Thread nD τ) ↦{fullShare} g.g15) ∗ (arg16.view.loc (c : Thread nD τ) ↦{fullShare} g.g16) ∗ (arg17.view.loc (c : Thread nD τ) ↦{fullShare} g.g17) ∗ (arg18.view.loc (c : Thread nD τ) ↦{fullShare} g.g18) ∗ (arg19.view.loc (c : Thread nD τ) ↦{fullShare} g.g19) ∗ (arg20.view.loc (c : Thread nD τ) ↦{fullShare} g.g20) ∗ (arg21.view.loc (c : Thread nD τ) ↦{fullShare} g.g21) ∗ (arg22.view.loc (c : Thread nD τ) ↦{fullShare} g.g22) ∗ (arg23.view.loc (c : Thread nD τ) ↦{fullShare} g.g23) ∗ (arg24.view.loc (c : Thread nD τ) ↦{fullShare} g.g24)) -∗ K ⟨⟩))
      ⊢ wp frame (wpE (defs₀ (F := F)) Variants.none c none) E (cc0_gated_delta i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨⟨?_, ?_, ?_, ?_, ?_, ?_, ?_, ?_, ?_, ?_, ?_, ?_, ?_, ?_, ?_, ?_, ?_, ?_⟩, fun E K => ?run⟩
  case run =>
    simp only [cc0_gated_delta_eq_skeleton]; unfold cc0_gated_delta_skel
    iintro ⟨H1, H2, H3, H4, H5, H6, H7, H8, H9, H10, H11, H12, H13, H14, H15, H16, H17, H18, H19, H20, H21, H22, H23, H24, HK⟩
    sl_exec_parts
    sl_step
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

end Cert.Kernel.Hand

end
-- ==== Proof.KernelBody.lean ====
/- The pipeline's body obligation from a fact about contents alone: what the body found in its windows and scratch and what
   it leaves there (`Step`), for any relation on the windows and any condition on the scratch; and the launch. -/
module

public import proofs.«01_k».proof.Proof.KernelRun

@[expose] public section

set_option maxRecDepth 65536

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (RDat)

variable {F : FTy → Type} [BitOps F]

local notation "𝕄" => MT nD τ sig Unit (Elt F) ℕ (UR sig nD τ) ℕ

/-- The contents of the twelve scratch buffers. -/
structure Scr (F : FTy → Type) [BitOps F] (c : Dev nD) where
  s0 : Buf (Elt F) ((c : Thread nD τ).loc cc0_scratch0)
  s1 : Buf (Elt F) ((c : Thread nD τ).loc cc0_scratch1)
  s2 : Buf (Elt F) ((c : Thread nD τ).loc cc0_scratch2)
  s3 : Buf (Elt F) ((c : Thread nD τ).loc cc0_scratch3)
  s4 : Buf (Elt F) ((c : Thread nD τ).loc cc0_scratch4)
  s5 : Buf (Elt F) ((c : Thread nD τ).loc cc0_scratch5)
  s6 : Buf (Elt F) ((c : Thread nD τ).loc cc0_scratch6)
  s7 : Buf (Elt F) ((c : Thread nD τ).loc cc0_scratch7)
  s8 : Buf (Elt F) ((c : Thread nD τ).loc cc0_scratch8)
  s9 : Buf (Elt F) ((c : Thread nD τ).loc cc0_scratch9)
  s10 : Buf (Elt F) ((c : Thread nD τ).loc cc0_scratch10)
  s11 : Buf (Elt F) ((c : Thread nD τ).loc cc0_scratch11)

/-- The scratch held whole at the contents `s`. -/
def scrPts (c : Dev nD) (s : Scr F c) : sProp 𝕄 :=
  iprop((((c : Thread nD τ).loc cc0_scratch0) ↦{fullShare} s.s0) ∗ (((c : Thread nD τ).loc cc0_scratch1) ↦{fullShare} s.s1) ∗ (((c : Thread nD τ).loc cc0_scratch2) ↦{fullShare} s.s2) ∗ (((c : Thread nD τ).loc cc0_scratch3) ↦{fullShare} s.s3) ∗ (((c : Thread nD τ).loc cc0_scratch4) ↦{fullShare} s.s4) ∗ (((c : Thread nD τ).loc cc0_scratch5) ↦{fullShare} s.s5) ∗ (((c : Thread nD τ).loc cc0_scratch6) ↦{fullShare} s.s6) ∗ (((c : Thread nD τ).loc cc0_scratch7) ↦{fullShare} s.s7) ∗ (((c : Thread nD τ).loc cc0_scratch8) ↦{fullShare} s.s8) ∗ (((c : Thread nD τ).loc cc0_scratch9) ↦{fullShare} s.s9) ∗ (((c : Thread nD τ).loc cc0_scratch10) ↦{fullShare} s.s10) ∗ (((c : Thread nD τ).loc cc0_scratch11) ↦{fullShare} s.s11))

theorem scopedRest_to (c : Dev nD) :
    (Pipeline.scopedRest (Ix := Unit) (Name := ℕ) (U := UR sig nD τ) (Lvl := ℕ) (Val := Elt F) spec0 c : sProp 𝕄) ⊢ iprop(∃ s : Scr F c, scrPts c s) := by
  rw [scopedRest0_eq]
  iintro ⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩, ⟨%s11, H11⟩⟩
  iexists (⟨s0, s1, s2, s3, s4, s5, s6, s7, s8, s9, s10, s11⟩ : Scr F c)
  unfold scrPts
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem scopedRest_of (c : Dev nD) (s : Scr F c) :
    scrPts c s ⊢ (Pipeline.scopedRest (Ix := Unit) (Name := ℕ) (U := UR sig nD τ) (Lvl := ℕ) (Val := Elt F) spec0 c : sProp 𝕄) := by
  rw [scopedRest0_eq]
  unfold scrPts
  iintro ⟨H0, H1, H2, H3, H4, H5, H6, H7, H8, H9, H10, H11⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- What the body leaves at point `t` in the buffers it writes, from what it found. -/
def ran (c : Dev nD) (t : Fin cfg0.N) (f0 : Buf (Elt F) ((st0_0 t).view.loc (c : Thread nD τ))) (f1 : Buf (Elt F) ((st0_1 t).view.loc (c : Thread nD τ))) (f2 : Buf (Elt F) ((st0_2 t).view.loc (c : Thread nD τ))) (f3 : Buf (Elt F) ((st0_3 t).view.loc (c : Thread nD τ))) (f4 : Buf (Elt F) ((st0_4 t).view.loc (c : Thread nD τ))) (f5 : Buf (Elt F) ((st0_5 t).view.loc (c : Thread nD τ))) (f6 : Buf (Elt F) ((st0_6 t).view.loc (c : Thread nD τ))) (f7 : Buf (Elt F) ((st0_7 t).view.loc (c : Thread nD τ))) (f8 : Buf (Elt F) ((st0_8 t).view.loc (c : Thread nD τ))) (f9 : Buf (Elt F) ((st0_9 t).view.loc (c : Thread nD τ))) (f10 : Buf (Elt F) ((st0_10 t).view.loc (c : Thread nD τ))) (f11 : Buf (Elt F) ((st0_11 t).view.loc (c : Thread nD τ))) (s : Scr F c) : Outs (F := F) c (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) :=
  (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11)).1

/-- The scratch the body leaves. -/
def Outs.scr {c : Dev nD} {t : Fin cfg0.N} (g : Outs (F := F) c (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11)) : Scr F c :=
  ⟨g.g13, g.g14, g.g15, g.g16, g.g17, g.g18, g.g19, g.g20, g.g21, g.g22, g.g23, g.g24⟩

/-- What the windows' arrays may be left at: a relation on each window's contents before and after the body. -/
abbrev Rel (F : FTy → Type) [BitOps F] := (w : Fin cfg0.W) → Fin cfg0.N → (Y X : (cfg0.win w).block.Idx → Elt F (cfg0.win w).elt) → Prop

/-- The proof data: the arrays at what the region finds, the windows related by `after`, the scratch in `SC`. -/
def rdat (V₀ : (c : Dev nD) → (b : Ref sig .tc) → Buf (Elt F) ((c : Thread nD τ).loc b)) (after : Dev nD → Rel F) (SC : (c : Dev nD) → Fin (cfg0.N + 1) → Scr F c → Prop) (c : Dev nD) :
    RDat τ (Elt F) Unit ℕ (UR sig nD τ) ℕ cfg0 c where
  A w := V₀ c (Pipeline.arrRef spec0 w)
  after w t Y X := after c w t Y X
  Φ t := iprop((∃ s : Scr F c, ⌜SC c t s⌝ ∗ scrPts c s) ∗ ∃ r, prngReg c r)
  q _ := fullShare
  owed _ := 0

/-- The obligation about contents: whatever the body finds at point `t` in the windows (`Y`) and the scratch (`s`), what it
    leaves is in the relation and in the condition at the next point. -/
def Step (V₀ : (c : Dev nD) → (b : Ref sig .tc) → Buf (Elt F) ((c : Thread nD τ).loc b)) (after : Dev nD → Rel F) (SC : (c : Dev nD) → Fin (cfg0.N + 1) → Scr F c → Prop) (c : Dev nD) : Prop :=
  ∀ (t : Fin cfg0.N) (Y : (w : Fin cfg0.W) → (cfg0.win w).block.Idx → Elt F (cfg0.win w).elt) (s : Scr F c)
    (f0 : Buf (Elt F) ((st0_0 t).view.loc (c : Thread nD τ))) (f1 : Buf (Elt F) ((st0_1 t).view.loc (c : Thread nD τ))) (f2 : Buf (Elt F) ((st0_2 t).view.loc (c : Thread nD τ))) (f3 : Buf (Elt F) ((st0_3 t).view.loc (c : Thread nD τ))) (f4 : Buf (Elt F) ((st0_4 t).view.loc (c : Thread nD τ))) (f5 : Buf (Elt F) ((st0_5 t).view.loc (c : Thread nD τ))) (f6 : Buf (Elt F) ((st0_6 t).view.loc (c : Thread nD τ))) (f7 : Buf (Elt F) ((st0_7 t).view.loc (c : Thread nD τ))) (f8 : Buf (Elt F) ((st0_8 t).view.loc (c : Thread nD τ))) (f9 : Buf (Elt F) ((st0_9 t).view.loc (c : Thread nD τ))) (f10 : Buf (Elt F) ((st0_10 t).view.loc (c : Thread nD τ))) (f11 : Buf (Elt F) ((st0_11 t).view.loc (c : Thread nD τ))),
    (∀ w, (rdat V₀ after SC c).Finds w t (Y w)) → SC c t.castSucc s →
    (st0_0 t).view.read (Elt F) f0 = Y 0 → (st0_1 t).view.read (Elt F) f1 = Y 1 → (st0_2 t).view.read (Elt F) f2 = Y 2 → (st0_3 t).view.read (Elt F) f3 = Y 3 → (st0_4 t).view.read (Elt F) f4 = Y 4 → (st0_5 t).view.read (Elt F) f5 = Y 5 → (st0_6 t).view.read (Elt F) f6 = Y 6 → (st0_7 t).view.read (Elt F) f7 = Y 7 → (st0_8 t).view.read (Elt F) f8 = Y 8 → (st0_9 t).view.read (Elt F) f9 = Y 9 → (st0_10 t).view.read (Elt F) f10 = Y 10 → (st0_11 t).view.read (Elt F) f11 = Y 11 →
    SC c t.succ (ran c t f0 f1 f2 f3 f4 f5 f6 f7 f8 f9 f10 f11 s).scr
    ∧ after c 0 t (Y 0) (Y 0) ∧ after c 1 t (Y 1) (Y 1) ∧ after c 2 t (Y 2) (Y 2) ∧ after c 3 t (Y 3) (Y 3) ∧ after c 4 t (Y 4) (Y 4) ∧ after c 5 t (Y 5) (Y 5)
    ∧ after c 6 t (Y 6) ((st0_6 t).view.read (Elt F) (ran c t f0 f1 f2 f3 f4 f5 f6 f7 f8 f9 f10 f11 s).g7) ∧ after c 7 t (Y 7) ((st0_7 t).view.read (Elt F) (ran c t f0 f1 f2 f3 f4 f5 f6 f7 f8 f9 f10 f11 s).g8) ∧ after c 8 t (Y 8) ((st0_8 t).view.read (Elt F) (ran c t f0 f1 f2 f3 f4 f5 f6 f7 f8 f9 f10 f11 s).g9) ∧ after c 9 t (Y 9) ((st0_9 t).view.read (Elt F) (ran c t f0 f1 f2 f3 f4 f5 f6 f7 f8 f9 f10 f11 s).g10) ∧ after c 10 t (Y 10) ((st0_10 t).view.read (Elt F) (ran c t f0 f1 f2 f3 f4 f5 f6 f7 f8 f9 f10 f11 s).g11) ∧ after c 11 t (Y 11) ((st0_11 t).view.read (Elt F) (ran c t f0 f1 f2 f3 f4 f5 f6 f7 f8 f9 f10 f11 s).g12)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem obligation (V₀ : (c : Dev nD) → (b : Ref sig .tc) → Buf (Elt F) ((c : Thread nD τ).loc b)) (after : Dev nD → Rel F) (SC : (c : Dev nD) → Fin (cfg0.N + 1) → Scr F c → Prop)
    (c : Dev nD) (hstep : Step V₀ after SC c) :
    (rdat V₀ after SC c).BodyObligation (defs₀ (F := F)) Variants.none () Set.univ := fun t Y hY => by
  rw [bigSep_W0, bigSep_W0, defs₀_row]
  unfold bodyAt0
  rw [show (rdat V₀ after SC c).Φ t.castSucc = iprop((∃ s : Scr F c, ⌜SC c t.castSucc s⌝ ∗ scrPts c s) ∗ ∃ r, prngReg c r) from rfl,
    show (rdat V₀ after SC c).Φ t.succ = iprop((∃ s : Scr F c, ⌜SC c t.succ s⌝ ∗ scrPts c s) ∗ ∃ r, prngReg c r) from rfl,
    show (rdat V₀ after SC c).owesAt () t.succ = (rdat V₀ after SC c).owesAt () t.castSucc from rfl]
  unfold owns
  iintro ⟨⟨⟨%s, %hs, HS⟩, HP⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  have hst := hstep t Y s f0 f1 f2 f3 f4 f5 f6 f7 f8 f9 f10 f11 hY hs hf0 hf1 hf2 hf3 hf4 hf5 hf6 hf7 hf8 hf9 hf10 hf11
  have hr := (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11)).2 Set.univ
  unfold ran at hst
  generalize body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11) = br at hst hr
  obtain ⟨hsc, ha0, ha1, ha2, ha3, ha4, ha5, ha6, ha7, ha8, ha9, ha10, ha11⟩ := hst
  unfold scrPts
  icases HS with ⟨S0, S1, S2, S3, S4, S5, S6, S7, S8, S9, S10, S11⟩
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, S0, S1, S2, S3, S4, S5, S6, S7, S8, S9, S10, S11⟩
  isplitl [HP S0 S1 S2 S3 S4 S5 S6 S7 S8 S9 S10 S11]
  · isplitr [HP]
    · iexists br.1.scr
      isplitr; · ipureintro; exact hsc
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact HP
  isplitl [Ho]; · iexact Ho
  isplitl [H0]
  · iexists (Y 0); isplitr; · ipureintro; exact ha0
    iexists _; isplitr; · ipureintro; exact hf0
    iexact H0
  isplitl [H1]
  · iexists (Y 1); isplitr; · ipureintro; exact ha1
    iexists _; isplitr; · ipureintro; exact hf1
    iexact H1
  isplitl [H2]
  · iexists (Y 2); isplitr; · ipureintro; exact ha2
    iexists _; isplitr; · ipureintro; exact hf2
    iexact H2
  isplitl [H3]
  · iexists (Y 3); isplitr; · ipureintro; exact ha3
    iexists _; isplitr; · ipureintro; exact hf3
    iexact H3
  isplitl [H4]
  · iexists (Y 4); isplitr; · ipureintro; exact ha4
    iexists _; isplitr; · ipureintro; exact hf4
    iexact H4
  isplitl [H5]
  · iexists (Y 5); isplitr; · ipureintro; exact ha5
    iexists _; isplitr; · ipureintro; exact hf5
    iexact H5
  isplitl [H6]
  · iexists (((st0_6 t).view.read (Elt F) br.1.g7)); isplitr; · ipureintro; exact ha6
    iexists _; isplitr; · ipureintro; exact rfl
    iexact H6
  isplitl [H7]
  · iexists (((st0_7 t).view.read (Elt F) br.1.g8)); isplitr; · ipureintro; exact ha7
    iexists _; isplitr; · ipureintro; exact rfl
    iexact H7
  isplitl [H8]
  · iexists (((st0_8 t).view.read (Elt F) br.1.g9)); isplitr; · ipureintro; exact ha8
    iexists _; isplitr; · ipureintro; exact rfl
    iexact H8
  isplitl [H9]
  · iexists (((st0_9 t).view.read (Elt F) br.1.g10)); isplitr; · ipureintro; exact ha9
    iexists _; isplitr; · ipureintro; exact rfl
    iexact H9
  isplitl [H10]
  · iexists (((st0_10 t).view.read (Elt F) br.1.g11)); isplitr; · ipureintro; exact ha10
    iexists _; isplitr; · ipureintro; exact rfl
    iexact H10
  iexists (((st0_11 t).view.read (Elt F) br.1.g12)); isplitr; · ipureintro; exact ha11
  iexists _; isplitr; · ipureintro; exact rfl
  iexact H11

set_option backward.isDefEq.respectTransparency.types false in
set_option maxHeartbeats 800000 in
/-- The launch: every fair execution ends, with the arrays at contents the proof data allows, the other buffers as the region
    found them, and every semaphore counter at zero. -/
theorem launch (m : (ℓ : Loc nD τ sig) → Buf (Elt F) ℓ) (ρ : Dev nD → PrngReg) (after : Dev nD → Rel F) (SC : (c : Dev nD) → Fin (cfg0.N + 1) → Scr F c → Prop)
    (h0 : ∀ c s, SC c 0 s) (hstep : ∀ c, Step (V m) after SC c) :
    θ_run defs (onTc (τ := τ) (main (F := F))) (s₀ m ρ) (fun r => RDat.FramePost cfg0 (rdat (V m) after SC) (V m) r ∧ r.2.sem = fun _ => 0) :=
  Pipeline.RDat.θ_run_frame_track (Q' := _) cfgs (0 : Fin 1) launch0 defs₀ Variants.none (rdat (V m) after SC) m ρ main
    (hbody := fun c => obligation (V m) after SC c (hstep c)) (hshare := fun c w => (rdat (V m) after SC c).share_full (fun _ => rfl) w)
    (howed := fun _ _ => rfl) (V := V m) (hmain := hmain m Variants.none) (hA := fun _ _ => rfl)
    (hin := fun c => by
      rw [show (rdat (V m) after SC c).Φ 0 = iprop((∃ s : Scr F c, ⌜SC c 0 s⌝ ∗ scrPts c s) ∗ ∃ r, prngReg c r) from rfl]
      unfold Pipeline.ΦA
      iintro ⟨H, HP⟩
      isplitr [HP]
      · ihave H' := (scopedRest_to c) $$ H
        icases H' with ⟨%s, HS⟩
        iexists s
        isplitr; · ipureintro; exact h0 c s
        iexact HS
      · iexact HP)
    (hout := fun c => by
      rw [show (rdat (V m) after SC c).Φ (Fin.last cfg0.N) = iprop((∃ s : Scr F c, ⌜SC c (Fin.last cfg0.N) s⌝ ∗ scrPts c s) ∗ ∃ r, prngReg c r) from rfl]
      unfold Pipeline.ΦA
      iintro ⟨⟨%s, %hs, HS⟩, HP⟩
      isplitr [HP]
      · iapply (scopedRest_of c s); iexact HS
      · iexact HP)
    (hQ' := fun _ h => h)

/-- The argument arrays end as launched, and the counters at zero. -/
theorem frame_of_launch (m : (ℓ : Loc nD τ sig) → Buf (Elt F) ℓ) (after : Dev nD → Rel F) (SC : (c : Dev nD) → Fin (cfg0.N + 1) → Scr F c → Prop)
    (r : PUnit × MemSt nD τ sig (Elt F)) (h : RDat.FramePost cfg0 (rdat (V m) after SC) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩

/-- The frame: the relation and the condition say nothing. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r h => ⟨frame_of_launch m _ _ r h.1, h.2⟩)
    (launch m ρ (fun _ _ _ _ _ => True) (fun _ _ _ => True) (fun _ _ => trivial)
      fun _ _ _ _ _ _ _ _ _ _ _ _ _ _ _ _ _ _ _ _ _ _ _ _ _ _ _ _ _ _ => by simp only [and_self])

end Cert.Kernel.Hand

end
-- ==== Proof.KernelIdealRun.lean ====
/- One run of the kernel's body on buffers held whole: it returns, the six input blocks as they were, and what it leaves in
   the eighteen buffers it writes is found by the run. -/
module

public import proofs.«01_k».proof.Proof.Gen.KernelIdeal.Skeleton
public import proofs.«01_k».proof.Proof.Gen.KernelIdeal.Frame

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The contents of the buffers the body writes: the windows of `o`, the state, the codes and the scales, and the scratch. -/
structure Outs (c : Dev nD) (arg7 : Memref sig .tc .vmem S4x128x512 .bf16) (arg8 : Memref sig .tc .vmem S4x256x512 .f32) (arg9 : Memref sig .tc .vmem S4x128x256 .fp8e4m3) (arg10 : Memref sig .tc .vmem S1x4x128 .f32) (arg11 : Memref sig .tc .vmem S4x128x256 .fp8e4m3) (arg12 : Memref sig .tc .vmem S1x4x128 .f32) (arg13 : Memref sig .tc .vmem S4x64x128 .f32) (arg14 : Memref sig .tc .vmem S4x64x128 .f32) (arg15 : Memref sig .tc .vmem S4x128x128 .f32) (arg16 : Memref sig .tc .vmem S4x128x128 .f32) (arg17 : Memref sig .tc .vmem S4x2x128x256 .bf16) (arg18 : Memref sig .tc .vmem S4x2x256x128 .bf16) (arg19 : Memref sig .tc .vmem S4x2x128x256 .bf16) (arg20 : Memref sig .tc .vmem S4x2x128x256 .bf16) (arg21 : Memref sig .tc .vmem S4x2x64x128 .f32) (arg22 : Memref sig .tc .vmem S4x2x64x128 .f32) (arg23 : Memref sig .tc .vmem S4x2x64x128 .f32) (arg24 : Memref sig .tc .vmem S4x2x8x128 .f32) where
  g7 : Buf (Elt F) (arg7.view.loc (c : Thread nD τ))
  g8 : Buf (Elt F) (arg8.view.loc (c : Thread nD τ))
  g9 : Buf (Elt F) (arg9.view.loc (c : Thread nD τ))
  g10 : Buf (Elt F) (arg10.view.loc (c : Thread nD τ))
  g11 : Buf (Elt F) (arg11.view.loc (c : Thread nD τ))
  g12 : Buf (Elt F) (arg12.view.loc (c : Thread nD τ))
  g13 : Buf (Elt F) (arg13.view.loc (c : Thread nD τ))
  g14 : Buf (Elt F) (arg14.view.loc (c : Thread nD τ))
  g15 : Buf (Elt F) (arg15.view.loc (c : Thread nD τ))
  g16 : Buf (Elt F) (arg16.view.loc (c : Thread nD τ))
  g17 : Buf (Elt F) (arg17.view.loc (c : Thread nD τ))
  g18 : Buf (Elt F) (arg18.view.loc (c : Thread nD τ))
  g19 : Buf (Elt F) (arg19.view.loc (c : Thread nD τ))
  g20 : Buf (Elt F) (arg20.view.loc (c : Thread nD τ))
  g21 : Buf (Elt F) (arg21.view.loc (c : Thread nD τ))
  g22 : Buf (Elt F) (arg22.view.loc (c : Thread nD τ))
  g23 : Buf (Elt F) (arg23.view.loc (c : Thread nD τ))
  g24 : Buf (Elt F) (arg24.view.loc (c : Thread nD τ))

set_option maxHeartbeats 40000000 in
def body_run (c : Dev nD) (i : grid0.Coords) (arg1 : Memref sig .tc .vmem S4x128x256 .bf16) (harg1 : arg1.IsWhole) (arg2 : Memref sig .tc .vmem S4x128x256 .bf16) (harg2 : arg2.IsWhole) (arg3 : Memref sig .tc .vmem S4x128x512 .bf16) (harg3 : arg3.IsWhole) (arg4 : Memref sig .tc .vmem S4x128x64 .f32) (harg4 : arg4.IsWhole) (arg5 : Memref sig .tc .vmem S4x128x64 .f32) (harg5 : arg5.IsWhole) (arg6 : Memref sig .tc .vmem S4x256x512 .f32) (harg6 : arg6.IsWhole) (arg7 : Memref sig .tc .vmem S4x128x512 .bf16) (harg7 : arg7.IsWhole) (arg8 : Memref sig .tc .vmem S4x256x512 .f32) (harg8 : arg8.IsWhole) (arg9 : Memref sig .tc .vmem S4x128x256 .fp8e4m3) (harg9 : arg9.IsWhole) (arg10 : Memref sig .tc .vmem S1x4x128 .f32) (harg10 : arg10.IsWhole) (arg11 : Memref sig .tc .vmem S4x128x256 .fp8e4m3) (harg11 : arg11.IsWhole) (arg12 : Memref sig .tc .vmem S1x4x128 .f32) (harg12 : arg12.IsWhole) (arg13 : Memref sig .tc .vmem S4x64x128 .f32) (harg13 : arg13.IsWhole) (arg14 : Memref sig .tc .vmem S4x64x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S4x2x128x256 .bf16) (harg17 : arg17.IsWhole) (arg18 : Memref sig .tc .vmem S4x2x256x128 .bf16) (harg18 : arg18.IsWhole) (arg19 : Memref sig .tc .vmem S4x2x128x256 .bf16) (harg19 : arg19.IsWhole) (arg20 : Memref sig .tc .vmem S4x2x128x256 .bf16) (harg20 : arg20.IsWhole) (arg21 : Memref sig .tc .vmem S4x2x64x128 .f32) (harg21 : arg21.IsWhole) (arg22 : Memref sig .tc .vmem S4x2x64x128 .f32) (harg22 : arg22.IsWhole) (arg23 : Memref sig .tc .vmem S4x2x64x128 .f32) (harg23 : arg23.IsWhole) (arg24 : Memref sig .tc .vmem S4x2x8x128 .f32) (harg24 : arg24.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) :
    { g : Outs (F := F) c arg7 arg8 arg9 arg10 arg11 arg12 arg13 arg14 arg15 arg16 arg17 arg18 arg19 arg20 arg21 arg22 arg23 arg24 // ∀ (E : Set ℕ) (K : PUnit → sProp 𝕄),
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17) ∗ (arg18.view.loc (c : Thread nD τ) ↦{fullShare} f18) ∗ (arg19.view.loc (c : Thread nD τ) ↦{fullShare} f19) ∗ (arg20.view.loc (c : Thread nD τ) ↦{fullShare} f20) ∗ (arg21.view.loc (c : Thread nD τ) ↦{fullShare} f21) ∗ (arg22.view.loc (c : Thread nD τ) ↦{fullShare} f22) ∗ (arg23.view.loc (c : Thread nD τ) ↦{fullShare} f23) ∗ (arg24.view.loc (c : Thread nD τ) ↦{fullShare} f24) ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g.g7) ∗ (arg8.view.loc (c : Thread nD τ) ↦[arg8.view.set]{fullShare} g.g8) ∗ (arg9.view.loc (c : Thread nD τ) ↦[arg9.view.set]{fullShare} g.g9) ∗ (arg10.view.loc (c : Thread nD τ) ↦[arg10.view.set]{fullShare} g.g10) ∗ (arg11.view.loc (c : Thread nD τ) ↦[arg11.view.set]{fullShare} g.g11) ∗ (arg12.view.loc (c : Thread nD τ) ↦[arg12.view.set]{fullShare} g.g12) ∗ (arg13.view.loc (c : Thread nD τ) ↦{fullShare} g.g13) ∗ (arg14.view.loc (c : Thread nD τ) ↦{fullShare} g.g14) ∗ (arg15.view.loc (c : Thread nD τ) ↦{fullShare} g.g15) ∗ (arg16.view.loc (c : Thread nD τ) ↦{fullShare} g.g16) ∗ (arg17.view.loc (c : Thread nD τ) ↦{fullShare} g.g17) ∗ (arg18.view.loc (c : Thread nD τ) ↦{fullShare} g.g18) ∗ (arg19.view.loc (c : Thread nD τ) ↦{fullShare} g.g19) ∗ (arg20.view.loc (c : Thread nD τ) ↦{fullShare} g.g20) ∗ (arg21.view.loc (c : Thread nD τ) ↦{fullShare} g.g21) ∗ (arg22.view.loc (c : Thread nD τ) ↦{fullShare} g.g22) ∗ (arg23.view.loc (c : Thread nD τ) ↦{fullShare} g.g23) ∗ (arg24.view.loc (c : Thread nD τ) ↦{fullShare} g.g24)) -∗ K ⟨⟩))
      ⊢ wp frame (wpE (defs₀ (F := F)) Variants.none c none) E (cc0_gated_delta i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨⟨?_, ?_, ?_, ?_, ?_, ?_, ?_, ?_, ?_, ?_, ?_, ?_, ?_, ?_, ?_, ?_, ?_, ?_⟩, fun E K => ?run⟩
  case run =>
    simp only [cc0_gated_delta_eq_skeleton]; unfold cc0_gated_delta_skel
    iintro ⟨H1, H2, H3, H4, H5, H6, H7, H8, H9, H10, H11, H12, H13, H14, H15, H16, H17, H18, H19, H20, H21, H22, H23, H24, HK⟩
    sl_exec_parts
    sl_step
    iapply HK
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24

end Cert.KernelIdeal.Hand

end
-- ==== Proof.KernelIdealBody.lean ====
/- The pipeline's body obligation from a fact about contents alone: what the body found in its windows and scratch and what
   it leaves there (`Step`), for any relation on the windows and any condition on the scratch; and the launch. -/
module

public import proofs.«01_k».proof.Proof.KernelIdealRun

@[expose] public section

set_option maxRecDepth 65536

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (RDat)

variable {F : FTy → Type} [FloatOps F]

local notation "𝕄" => MT nD τ sig Unit (Elt F) ℕ (UR sig nD τ) ℕ

/-- The contents of the twelve scratch buffers. -/
structure Scr (F : FTy → Type) [FloatOps F] (c : Dev nD) where
  s0 : Buf (Elt F) ((c : Thread nD τ).loc cc0_scratch0)
  s1 : Buf (Elt F) ((c : Thread nD τ).loc cc0_scratch1)
  s2 : Buf (Elt F) ((c : Thread nD τ).loc cc0_scratch2)
  s3 : Buf (Elt F) ((c : Thread nD τ).loc cc0_scratch3)
  s4 : Buf (Elt F) ((c : Thread nD τ).loc cc0_scratch4)
  s5 : Buf (Elt F) ((c : Thread nD τ).loc cc0_scratch5)
  s6 : Buf (Elt F) ((c : Thread nD τ).loc cc0_scratch6)
  s7 : Buf (Elt F) ((c : Thread nD τ).loc cc0_scratch7)
  s8 : Buf (Elt F) ((c : Thread nD τ).loc cc0_scratch8)
  s9 : Buf (Elt F) ((c : Thread nD τ).loc cc0_scratch9)
  s10 : Buf (Elt F) ((c : Thread nD τ).loc cc0_scratch10)
  s11 : Buf (Elt F) ((c : Thread nD τ).loc cc0_scratch11)

/-- The scratch held whole at the contents `s`. -/
def scrPts (c : Dev nD) (s : Scr F c) : sProp 𝕄 :=
  iprop((((c : Thread nD τ).loc cc0_scratch0) ↦{fullShare} s.s0) ∗ (((c : Thread nD τ).loc cc0_scratch1) ↦{fullShare} s.s1) ∗ (((c : Thread nD τ).loc cc0_scratch2) ↦{fullShare} s.s2) ∗ (((c : Thread nD τ).loc cc0_scratch3) ↦{fullShare} s.s3) ∗ (((c : Thread nD τ).loc cc0_scratch4) ↦{fullShare} s.s4) ∗ (((c : Thread nD τ).loc cc0_scratch5) ↦{fullShare} s.s5) ∗ (((c : Thread nD τ).loc cc0_scratch6) ↦{fullShare} s.s6) ∗ (((c : Thread nD τ).loc cc0_scratch7) ↦{fullShare} s.s7) ∗ (((c : Thread nD τ).loc cc0_scratch8) ↦{fullShare} s.s8) ∗ (((c : Thread nD τ).loc cc0_scratch9) ↦{fullShare} s.s9) ∗ (((c : Thread nD τ).loc cc0_scratch10) ↦{fullShare} s.s10) ∗ (((c : Thread nD τ).loc cc0_scratch11) ↦{fullShare} s.s11))

theorem scopedRest_to (c : Dev nD) :
    (Pipeline.scopedRest (Ix := Unit) (Name := ℕ) (U := UR sig nD τ) (Lvl := ℕ) (Val := Elt F) spec0 c : sProp 𝕄) ⊢ iprop(∃ s : Scr F c, scrPts c s) := by
  rw [scopedRest0_eq]
  iintro ⟨⟨%s0, H0⟩, ⟨%s1, H1⟩, ⟨%s2, H2⟩, ⟨%s3, H3⟩, ⟨%s4, H4⟩, ⟨%s5, H5⟩, ⟨%s6, H6⟩, ⟨%s7, H7⟩, ⟨%s8, H8⟩, ⟨%s9, H9⟩, ⟨%s10, H10⟩, ⟨%s11, H11⟩⟩
  iexists (⟨s0, s1, s2, s3, s4, s5, s6, s7, s8, s9, s10, s11⟩ : Scr F c)
  unfold scrPts
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem scopedRest_of (c : Dev nD) (s : Scr F c) :
    scrPts c s ⊢ (Pipeline.scopedRest (Ix := Unit) (Name := ℕ) (U := UR sig nD τ) (Lvl := ℕ) (Val := Elt F) spec0 c : sProp 𝕄) := by
  rw [scopedRest0_eq]
  unfold scrPts
  iintro ⟨H0, H1, H2, H3, H4, H5, H6, H7, H8, H9, H10, H11⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- What the body leaves at point `t` in the buffers it writes, from what it found. -/
def ran (c : Dev nD) (t : Fin cfg0.N) (f0 : Buf (Elt F) ((st0_0 t).view.loc (c : Thread nD τ))) (f1 : Buf (Elt F) ((st0_1 t).view.loc (c : Thread nD τ))) (f2 : Buf (Elt F) ((st0_2 t).view.loc (c : Thread nD τ))) (f3 : Buf (Elt F) ((st0_3 t).view.loc (c : Thread nD τ))) (f4 : Buf (Elt F) ((st0_4 t).view.loc (c : Thread nD τ))) (f5 : Buf (Elt F) ((st0_5 t).view.loc (c : Thread nD τ))) (f6 : Buf (Elt F) ((st0_6 t).view.loc (c : Thread nD τ))) (f7 : Buf (Elt F) ((st0_7 t).view.loc (c : Thread nD τ))) (f8 : Buf (Elt F) ((st0_8 t).view.loc (c : Thread nD τ))) (f9 : Buf (Elt F) ((st0_9 t).view.loc (c : Thread nD τ))) (f10 : Buf (Elt F) ((st0_10 t).view.loc (c : Thread nD τ))) (f11 : Buf (Elt F) ((st0_11 t).view.loc (c : Thread nD τ))) (s : Scr F c) : Outs (F := F) c (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) :=
  (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11)).1

/-- The scratch the body leaves. -/
def Outs.scr {c : Dev nD} {t : Fin cfg0.N} (g : Outs (F := F) c (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11)) : Scr F c :=
  ⟨g.g13, g.g14, g.g15, g.g16, g.g17, g.g18, g.g19, g.g20, g.g21, g.g22, g.g23, g.g24⟩

/-- What the windows' arrays may be left at: a relation on each window's contents before and after the body. -/
abbrev Rel (F : FTy → Type) [FloatOps F] := (w : Fin cfg0.W) → Fin cfg0.N → (Y X : (cfg0.win w).block.Idx → Elt F (cfg0.win w).elt) → Prop

/-- The proof data: the arrays at what the region finds, the windows related by `after`, the scratch in `SC`. -/
def rdat (V₀ : (c : Dev nD) → (b : Ref sig .tc) → Buf (Elt F) ((c : Thread nD τ).loc b)) (after : Dev nD → Rel F) (SC : (c : Dev nD) → Fin (cfg0.N + 1) → Scr F c → Prop) (c : Dev nD) :
    RDat τ (Elt F) Unit ℕ (UR sig nD τ) ℕ cfg0 c where
  A w := V₀ c (Pipeline.arrRef spec0 w)
  after w t Y X := after c w t Y X
  Φ t := iprop((∃ s : Scr F c, ⌜SC c t s⌝ ∗ scrPts c s) ∗ ∃ r, prngReg c r)
  q _ := fullShare
  owed _ := 0

/-- The obligation about contents: whatever the body finds at point `t` in the windows (`Y`) and the scratch (`s`), what it
    leaves is in the relation and in the condition at the next point. -/
def Step (V₀ : (c : Dev nD) → (b : Ref sig .tc) → Buf (Elt F) ((c : Thread nD τ).loc b)) (after : Dev nD → Rel F) (SC : (c : Dev nD) → Fin (cfg0.N + 1) → Scr F c → Prop) (c : Dev nD) : Prop :=
  ∀ (t : Fin cfg0.N) (Y : (w : Fin cfg0.W) → (cfg0.win w).block.Idx → Elt F (cfg0.win w).elt) (s : Scr F c)
    (f0 : Buf (Elt F) ((st0_0 t).view.loc (c : Thread nD τ))) (f1 : Buf (Elt F) ((st0_1 t).view.loc (c : Thread nD τ))) (f2 : Buf (Elt F) ((st0_2 t).view.loc (c : Thread nD τ))) (f3 : Buf (Elt F) ((st0_3 t).view.loc (c : Thread nD τ))) (f4 : Buf (Elt F) ((st0_4 t).view.loc (c : Thread nD τ))) (f5 : Buf (Elt F) ((st0_5 t).view.loc (c : Thread nD τ))) (f6 : Buf (Elt F) ((st0_6 t).view.loc (c : Thread nD τ))) (f7 : Buf (Elt F) ((st0_7 t).view.loc (c : Thread nD τ))) (f8 : Buf (Elt F) ((st0_8 t).view.loc (c : Thread nD τ))) (f9 : Buf (Elt F) ((st0_9 t).view.loc (c : Thread nD τ))) (f10 : Buf (Elt F) ((st0_10 t).view.loc (c : Thread nD τ))) (f11 : Buf (Elt F) ((st0_11 t).view.loc (c : Thread nD τ))),
    (∀ w, (rdat V₀ after SC c).Finds w t (Y w)) → SC c t.castSucc s →
    (st0_0 t).view.read (Elt F) f0 = Y 0 → (st0_1 t).view.read (Elt F) f1 = Y 1 → (st0_2 t).view.read (Elt F) f2 = Y 2 → (st0_3 t).view.read (Elt F) f3 = Y 3 → (st0_4 t).view.read (Elt F) f4 = Y 4 → (st0_5 t).view.read (Elt F) f5 = Y 5 → (st0_6 t).view.read (Elt F) f6 = Y 6 → (st0_7 t).view.read (Elt F) f7 = Y 7 → (st0_8 t).view.read (Elt F) f8 = Y 8 → (st0_9 t).view.read (Elt F) f9 = Y 9 → (st0_10 t).view.read (Elt F) f10 = Y 10 → (st0_11 t).view.read (Elt F) f11 = Y 11 →
    SC c t.succ (ran c t f0 f1 f2 f3 f4 f5 f6 f7 f8 f9 f10 f11 s).scr
    ∧ after c 0 t (Y 0) (Y 0) ∧ after c 1 t (Y 1) (Y 1) ∧ after c 2 t (Y 2) (Y 2) ∧ after c 3 t (Y 3) (Y 3) ∧ after c 4 t (Y 4) (Y 4) ∧ after c 5 t (Y 5) (Y 5)
    ∧ after c 6 t (Y 6) ((st0_6 t).view.read (Elt F) (ran c t f0 f1 f2 f3 f4 f5 f6 f7 f8 f9 f10 f11 s).g7) ∧ after c 7 t (Y 7) ((st0_7 t).view.read (Elt F) (ran c t f0 f1 f2 f3 f4 f5 f6 f7 f8 f9 f10 f11 s).g8) ∧ after c 8 t (Y 8) ((st0_8 t).view.read (Elt F) (ran c t f0 f1 f2 f3 f4 f5 f6 f7 f8 f9 f10 f11 s).g9) ∧ after c 9 t (Y 9) ((st0_9 t).view.read (Elt F) (ran c t f0 f1 f2 f3 f4 f5 f6 f7 f8 f9 f10 f11 s).g10) ∧ after c 10 t (Y 10) ((st0_10 t).view.read (Elt F) (ran c t f0 f1 f2 f3 f4 f5 f6 f7 f8 f9 f10 f11 s).g11) ∧ after c 11 t (Y 11) ((st0_11 t).view.read (Elt F) (ran c t f0 f1 f2 f3 f4 f5 f6 f7 f8 f9 f10 f11 s).g12)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem obligation (V₀ : (c : Dev nD) → (b : Ref sig .tc) → Buf (Elt F) ((c : Thread nD τ).loc b)) (after : Dev nD → Rel F) (SC : (c : Dev nD) → Fin (cfg0.N + 1) → Scr F c → Prop)
    (c : Dev nD) (hstep : Step V₀ after SC c) :
    (rdat V₀ after SC c).BodyObligation (defs₀ (F := F)) Variants.none () Set.univ := fun t Y hY => by
  rw [bigSep_W0, bigSep_W0, defs₀_row]
  unfold bodyAt0
  rw [show (rdat V₀ after SC c).Φ t.castSucc = iprop((∃ s : Scr F c, ⌜SC c t.castSucc s⌝ ∗ scrPts c s) ∗ ∃ r, prngReg c r) from rfl,
    show (rdat V₀ after SC c).Φ t.succ = iprop((∃ s : Scr F c, ⌜SC c t.succ s⌝ ∗ scrPts c s) ∗ ∃ r, prngReg c r) from rfl,
    show (rdat V₀ after SC c).owesAt () t.succ = (rdat V₀ after SC c).owesAt () t.castSucc from rfl]
  unfold owns
  iintro ⟨⟨⟨%s, %hs, HS⟩, HP⟩, Ho, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  have hst := hstep t Y s f0 f1 f2 f3 f4 f5 f6 f7 f8 f9 f10 f11 hY hs hf0 hf1 hf2 hf3 hf4 hf5 hf6 hf7 hf8 hf9 hf10 hf11
  have hr := (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11)).2 Set.univ
  unfold ran at hst
  generalize body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (f1 := f0) (f2 := f1) (f3 := f2) (f4 := f3) (f5 := f4) (f6 := f5) (f7 := f6) (f8 := f7) (f9 := f8) (f10 := f9) (f11 := f10) (f12 := f11) (f13 := s.s0) (f14 := s.s1) (f15 := s.s2) (f16 := s.s3) (f17 := s.s4) (f18 := s.s5) (f19 := s.s6) (f20 := s.s7) (f21 := s.s8) (f22 := s.s9) (f23 := s.s10) (f24 := s.s11) = br at hst hr
  obtain ⟨hsc, ha0, ha1, ha2, ha3, ha4, ha5, ha6, ha7, ha8, ha9, ha10, ha11⟩ := hst
  unfold scrPts
  icases HS with ⟨S0, S1, S2, S3, S4, S5, S6, S7, S8, S9, S10, S11⟩
  iapply (hr _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iintro ⟨H0, H1, H2, H3, H4, H5, H6, H7, H8, H9, H10, H11, S0, S1, S2, S3, S4, S5, S6, S7, S8, S9, S10, S11⟩
  isplitl [HP S0 S1 S2 S3 S4 S5 S6 S7 S8 S9 S10 S11]
  · isplitr [HP]
    · iexists br.1.scr
      isplitr; · ipureintro; exact hsc
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      iexact S11
    · iexact HP
  isplitl [Ho]; · iexact Ho
  isplitl [H0]
  · iexists (Y 0); isplitr; · ipureintro; exact ha0
    iexists _; isplitr; · ipureintro; exact hf0
    iexact H0
  isplitl [H1]
  · iexists (Y 1); isplitr; · ipureintro; exact ha1
    iexists _; isplitr; · ipureintro; exact hf1
    iexact H1
  isplitl [H2]
  · iexists (Y 2); isplitr; · ipureintro; exact ha2
    iexists _; isplitr; · ipureintro; exact hf2
    iexact H2
  isplitl [H3]
  · iexists (Y 3); isplitr; · ipureintro; exact ha3
    iexists _; isplitr; · ipureintro; exact hf3
    iexact H3
  isplitl [H4]
  · iexists (Y 4); isplitr; · ipureintro; exact ha4
    iexists _; isplitr; · ipureintro; exact hf4
    iexact H4
  isplitl [H5]
  · iexists (Y 5); isplitr; · ipureintro; exact ha5
    iexists _; isplitr; · ipureintro; exact hf5
    iexact H5
  isplitl [H6]
  · iexists (((st0_6 t).view.read (Elt F) br.1.g7)); isplitr; · ipureintro; exact ha6
    iexists _; isplitr; · ipureintro; exact rfl
    iexact H6
  isplitl [H7]
  · iexists (((st0_7 t).view.read (Elt F) br.1.g8)); isplitr; · ipureintro; exact ha7
    iexists _; isplitr; · ipureintro; exact rfl
    iexact H7
  isplitl [H8]
  · iexists (((st0_8 t).view.read (Elt F) br.1.g9)); isplitr; · ipureintro; exact ha8
    iexists _; isplitr; · ipureintro; exact rfl
    iexact H8
  isplitl [H9]
  · iexists (((st0_9 t).view.read (Elt F) br.1.g10)); isplitr; · ipureintro; exact ha9
    iexists _; isplitr; · ipureintro; exact rfl
    iexact H9
  isplitl [H10]
  · iexists (((st0_10 t).view.read (Elt F) br.1.g11)); isplitr; · ipureintro; exact ha10
    iexists _; isplitr; · ipureintro; exact rfl
    iexact H10
  iexists (((st0_11 t).view.read (Elt F) br.1.g12)); isplitr; · ipureintro; exact ha11
  iexists _; isplitr; · ipureintro; exact rfl
  iexact H11

set_option backward.isDefEq.respectTransparency.types false in
set_option maxHeartbeats 800000 in
/-- The launch: every fair execution ends, with the arrays at contents the proof data allows, the other buffers as the region
    found them, and every semaphore counter at zero. -/
theorem launch (m : (ℓ : Loc nD τ sig) → Buf (Elt F) ℓ) (ρ : Dev nD → PrngReg) (after : Dev nD → Rel F) (SC : (c : Dev nD) → Fin (cfg0.N + 1) → Scr F c → Prop)
    (h0 : ∀ c s, SC c 0 s) (hstep : ∀ c, Step (V m) after SC c) :
    θ_run defs (onTc (τ := τ) (main (F := F))) (s₀ m ρ) (fun r => RDat.FramePost cfg0 (rdat (V m) after SC) (V m) r ∧ r.2.sem = fun _ => 0) :=
  Pipeline.RDat.θ_run_frame_track (Q' := _) cfgs (0 : Fin 1) launch0 defs₀ Variants.none (rdat (V m) after SC) m ρ main
    (hbody := fun c => obligation (V m) after SC c (hstep c)) (hshare := fun c w => (rdat (V m) after SC c).share_full (fun _ => rfl) w)
    (howed := fun _ _ => rfl) (V := V m) (hmain := hmain m Variants.none) (hA := fun _ _ => rfl)
    (hin := fun c => by
      rw [show (rdat (V m) after SC c).Φ 0 = iprop((∃ s : Scr F c, ⌜SC c 0 s⌝ ∗ scrPts c s) ∗ ∃ r, prngReg c r) from rfl]
      unfold Pipeline.ΦA
      iintro ⟨H, HP⟩
      isplitr [HP]
      · ihave H' := (scopedRest_to c) $$ H
        icases H' with ⟨%s, HS⟩
        iexists s
        isplitr; · ipureintro; exact h0 c s
        iexact HS
      · iexact HP)
    (hout := fun c => by
      rw [show (rdat (V m) after SC c).Φ (Fin.last cfg0.N) = iprop((∃ s : Scr F c, ⌜SC c (Fin.last cfg0.N) s⌝ ∗ scrPts c s) ∗ ∃ r, prngReg c r) from rfl]
      unfold Pipeline.ΦA
      iintro ⟨⟨%s, %hs, HS⟩, HP⟩
      isplitr [HP]
      · iapply (scopedRest_of c s); iexact HS
      · iexact HP)
    (hQ' := fun _ h => h)

/-- The argument arrays end as launched, and the counters at zero. -/
theorem frame_of_launch (m : (ℓ : Loc nD τ sig) → Buf (Elt F) ℓ) (after : Dev nD → Rel F) (SC : (c : Dev nD) → Fin (cfg0.N + 1) → Scr F c → Prop)
    (r : PUnit × MemSt nD τ sig (Elt F)) (h : RDat.FramePost cfg0 (rdat (V m) after SC) (V m) r) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨((h c).2 main_arg0 (Pipeline.mem_restRefs_of main_arg0 (by decide) (by decide))).trans (V_main_arg0 m c), ((h c).2 main_arg1 (Pipeline.mem_restRefs_of main_arg1 (by decide) (by decide))).trans (V_main_arg1 m c), ((h c).2 main_arg2 (Pipeline.mem_restRefs_of main_arg2 (by decide) (by decide))).trans (V_main_arg2 m c), ((h c).2 main_arg3 (Pipeline.mem_restRefs_of main_arg3 (by decide) (by decide))).trans (V_main_arg3 m c), ((h c).2 main_arg4 (Pipeline.mem_restRefs_of main_arg4 (by decide) (by decide))).trans (V_main_arg4 m c), ((h c).2 main_arg5 (Pipeline.mem_restRefs_of main_arg5 (by decide) (by decide))).trans (V_main_arg5 m c)⟩

/-- The frame: the relation and the condition say nothing. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun r h => ⟨frame_of_launch m _ _ r h.1, h.2⟩)
    (launch m ρ (fun _ _ _ _ _ => True) (fun _ _ _ => True) (fun _ _ => trivial)
      fun _ _ _ _ _ _ _ _ _ _ _ _ _ _ _ _ _ _ _ _ _ _ _ _ _ _ _ _ _ _ => by simp only [and_self])

end Cert.KernelIdeal.Hand

end
-- ==== Proof.QuantMath.lean ====
/- The quantiser's scale, over the extended reals: the power of two that the count of the powers of two not above a number
   gives, and the least power of two above the number, are the same. -/
module

public import Idealize.ShloMosaic.Lib.Pointwise
public import Idealize.ShloMosaic.Lib.IdealHost

@[expose] public section

noncomputable section

namespace Cert.Quant

open Idealize.ShloMosaic

/-- The number whose exponent field is `i` and whose other bits are zero. -/
def pow (i : ℕ) : EReal := Ideal.ofBits .f32 (BitVec.ofNat 32 i <<< (23#32).toNat)

theorem bits_of (i : Fin 256) : (BitVec.ofNat 32 i.val <<< 23).extractLsb' 31 1 = 0#1
    ∧ ((BitVec.ofNat 32 i.val <<< 23).extractLsb' 23 8).toNat = i.val
    ∧ ((BitVec.ofNat 32 i.val <<< 23).extractLsb' 0 23).toNat = 0 := by
  revert i; decide +kernel

theorem ieee_of {b : BitVec 32} {i : ℕ} (h1 : b.extractLsb' (8 + 23) 1 = 0#1) (h2 : (b.extractLsb' 23 8).toNat = i) (h3 : (b.extractLsb' 0 23).toNat = 0) :
    Ideal.ieee 8 23 b = if i = 255 then ⊤ else if i = 0 then 0 else (((2 : ℝ) ^ ((i : ℤ) - 127) : ℝ) : EReal) := by
  unfold Ideal.ieee
  rw [h1, h2, h3]
  by_cases e : i = 255
  · simp [e]
  · by_cases e0 : i = 0
    · simp [e0]
    · have e' : ¬ i = 2 ^ 8 - 1 := by omega
      simp only [e, e0, e', if_false]
      congr 1
      rw [show ((2 ^ 23 + 0 : ℕ) : ℝ) = 2 ^ (23 : ℤ) by norm_num]
      rw [if_neg (by decide), one_mul, ← zpow_add₀ (by norm_num : (2 : ℝ) ≠ 0)]
      congr 1
      push_cast
      ring

theorem pow_eq (i : ℕ) (h : i < 256) :
    pow i = if i = 255 then ⊤ else if i = 0 then 0 else (((2 : ℝ) ^ ((i : ℤ) - 127) : ℝ) : EReal) := by
  obtain ⟨h1, h2, h3⟩ := bits_of ⟨i, h⟩
  exact ieee_of h1 h2 h3

theorem pow_top : pow 255 = ⊤ := by rw [pow_eq _ (by norm_num)]; simp
theorem pow_zero' : pow 0 = 0 := by rw [pow_eq _ (by norm_num)]; simp
theorem pow_mid {i : ℕ} (h0 : i ≠ 0) (h : i < 255) : pow i = (((2 : ℝ) ^ ((i : ℤ) - 127) : ℝ) : EReal) := by
  rw [pow_eq _ (by omega), if_neg (by omega), if_neg h0]

/-- The least of the powers of two from the 125th negative one up that lies above `y`, or one for a `y` below the least normal
    number. -/
def scaleOf (y : EReal) : EReal :=
  if y < Ideal.ofBits .f32 0x00800000#32 then 1
  else Finset.univ.fold min ⊤ fun j : Fin 253 => if y < Ideal.exp2 (((j : ℕ) : ℝ) - 125 : ℝ) then Ideal.exp2 (((j : ℕ) : ℝ) - 125 : ℝ) else ⊤

theorem tiny : Ideal.ofBits .f32 0x00800000#32 = (((2 : ℝ) ^ (-126 : ℤ) : ℝ) : EReal) := by
  have := pow_mid (i := 1) (by norm_num) (by norm_num)
  rw [show ((1 : ℕ) : ℤ) - 127 = -126 by norm_num] at this
  rw [← this]; rfl

theorem exp2_coe (r : ℝ) : Ideal.exp2 (r : EReal) = (((2 : ℝ) ^ r : ℝ) : EReal) := by
  rfl

/-- How many of the 256 powers do not lie above `y`. -/
def count (y : EReal) : ℕ := (Finset.univ.filter fun i : Fin 256 => ¬ y < pow i).card

theorem pow_lt_iff {r : ℝ} {e : ℤ} (h1 : (2 : ℝ) ^ e ≤ r) (h2 : r < (2 : ℝ) ^ (e + 1)) (n : ℤ) : r < (2 : ℝ) ^ n ↔ e < n := by
  constructor
  · intro h
    by_contra hc
    have : (2 : ℝ) ^ n ≤ (2 : ℝ) ^ e := zpow_le_zpow_right₀ (by norm_num) (by omega)
    linarith
  · intro h
    exact lt_of_lt_of_le h2 (zpow_le_zpow_right₀ (by norm_num) (by omega))

theorem count_of {r : ℝ} {e : ℕ} (he0 : e ≠ 0) (he : e < 254) (h1 : (2 : ℝ) ^ ((e : ℤ) - 127) ≤ r) (h2 : r < (2 : ℝ) ^ ((e : ℤ) - 126)) :
    count (r : EReal) = e + 1 := by
  unfold count
  have : (Finset.univ.filter fun i : Fin 256 => ¬ (r : EReal) < pow i) = Finset.univ.filter fun i : Fin 256 => i.val < e + 1 := by
    ext ⟨i, hi⟩
    simp only [Finset.mem_filter, Finset.mem_univ, true_and]
    have hr : 0 < r := lt_of_lt_of_le (by positivity) h1
    by_cases a : i = 255
    · subst a; rw [pow_top]; simp; omega
    · by_cases b : i = 0
      · subst b; rw [pow_zero']
        constructor
        · intro; omega
        · intro _ hc
          have := EReal.coe_lt_coe_iff.mp (show ((r : ℝ) : EReal) < ((0 : ℝ) : EReal) from hc)
          linarith
      · rw [pow_mid b (by omega), EReal.coe_lt_coe_iff, pow_lt_iff (e := (e : ℤ) - 127) h1 (by rwa [show (e : ℤ) - 127 + 1 = e - 126 by ring])]
        omega
  rw [this]
  rw [Fin.card_filter_val_lt]; omega

theorem count_small {y : EReal} (h0 : 0 ≤ y) (h : y < (((2 : ℝ) ^ (-126 : ℤ) : ℝ) : EReal)) : count y = 1 := by
  unfold count
  have : (Finset.univ.filter fun i : Fin 256 => ¬ y < pow i) = Finset.univ.filter fun i : Fin 256 => i.val < 1 := by
    ext ⟨i, hi⟩
    simp only [Finset.mem_filter, Finset.mem_univ, true_and]
    by_cases a : i = 255
    · subst a; rw [pow_top]
      have : y < ⊤ := lt_trans h (EReal.coe_lt_top _)
      simp [this]
    · by_cases b : i = 0
      · subst b; rw [pow_zero']; simp [h0]
      · rw [pow_mid b (by omega)]
        have : y < (((2 : ℝ) ^ ((i : ℤ) - 127) : ℝ) : EReal) := lt_of_lt_of_le h (by
          rw [EReal.coe_le_coe_iff]; exact zpow_le_zpow_right₀ (by norm_num) (by omega))
        simp [this]; omega
  rw [this, Fin.card_filter_val_lt]; omega

theorem scale_small {y : EReal} (h : y < (((2 : ℝ) ^ (-126 : ℤ) : ℝ) : EReal)) : scaleOf y = 1 := by
  unfold scaleOf; rw [tiny, if_pos h]

theorem scale_of {r : ℝ} {e : ℕ} (he0 : e ≠ 0) (he : e < 254) (h1 : (2 : ℝ) ^ ((e : ℤ) - 127) ≤ r) (h2 : r < (2 : ℝ) ^ ((e : ℤ) - 126)) :
    scaleOf (r : EReal) = (((2 : ℝ) ^ ((e : ℤ) - 126) : ℝ) : EReal) := by
  unfold scaleOf
  have hlow : ¬ ((r : ℝ) : EReal) < (((2 : ℝ) ^ (-126 : ℤ) : ℝ) : EReal) := by
    rw [EReal.coe_lt_coe_iff, not_lt]
    exact le_trans (zpow_le_zpow_right₀ (by norm_num) (by omega)) h1
  rw [tiny, if_neg hlow]
  have hz : ∀ j : Fin 253, Ideal.exp2 ((((j : ℕ) : ℝ) - 125 : ℝ) : EReal) = (((2 : ℝ) ^ ((j : ℤ) - 125) : ℝ) : EReal) := fun j => by
    rw [exp2_coe, ← Real.rpow_intCast]; push_cast; rfl
  simp only [hz]
  apply le_antisymm
  · refine (Finset.fold_min_le _).mpr (.inr ⟨⟨e - 1, by omega⟩, Finset.mem_univ _, ?_⟩)
    have e1 : (((⟨e - 1, by omega⟩ : Fin 253) : ℕ) : ℤ) - 125 = (e : ℤ) - 126 := by simp only []; omega
    rw [e1, if_pos (by rw [EReal.coe_lt_coe_iff]; exact h2)]
  · refine (Finset.le_fold_min _).mpr ⟨le_top, fun j _ => ?_⟩
    split
    · next h =>
      rw [EReal.coe_lt_coe_iff, pow_lt_iff (e := (e : ℤ) - 127) h1 (by rwa [show (e : ℤ) - 127 + 1 = e - 126 by ring])] at h
      rw [EReal.coe_le_coe_iff]
      exact zpow_le_zpow_right₀ (by norm_num) (by omega)
    · exact le_top

/-- The count as the program turns it into an exponent: one less, and 126 where that is zero. -/
theorem quant_cases {y : EReal} (h0 : 0 ≤ y) (h : y < (((2 : ℝ) ^ (120 : ℤ) : ℝ) : EReal)) :
    ∃ e : ℕ, 1 ≤ e ∧ e ≤ 247 ∧ (if count y - 1 = 0 then 126 else count y - 1) = e ∧ 1 ≤ count y ∧ count y ≤ 256
      ∧ scaleOf y = (((2 : ℝ) ^ ((e : ℤ) - 126) : ℝ) : EReal) := by
  by_cases hs : y < (((2 : ℝ) ^ (-126 : ℤ) : ℝ) : EReal)
  · refine ⟨126, by norm_num, by norm_num, ?_, ?_, ?_, ?_⟩
    · rw [count_small h0 hs]; simp
    · rw [count_small h0 hs]
    · rw [count_small h0 hs]; norm_num
    · rw [scale_small hs]; norm_num
  · rw [not_lt] at hs
    lift y to ℝ using ⟨ne_top_of_lt h, ne_bot_of_gt (lt_of_lt_of_le (EReal.bot_lt_coe _) hs)⟩ with r
    rw [EReal.coe_le_coe_iff] at hs
    rw [EReal.coe_lt_coe_iff] at h
    have hr : 0 < r := lt_of_lt_of_le (by positivity) hs
    obtain ⟨n, hn1, hn2⟩ := exists_mem_Ico_zpow hr (by norm_num : (1 : ℝ) < 2)
    have a1 : -127 < n := by
      have := lt_of_le_of_lt hs hn2
      have := (zpow_lt_zpow_iff_right₀ (by norm_num : (1 : ℝ) < 2)).mp this
      omega
    have a2 : n < 120 := (zpow_lt_zpow_iff_right₀ (by norm_num : (1 : ℝ) < 2)).mp (lt_of_le_of_lt hn1 h)
    obtain ⟨e, he⟩ : ∃ e : ℕ, (e : ℤ) = n + 127 := ⟨(n + 127).toNat, by omega⟩
    have q1 : (2 : ℝ) ^ ((e : ℤ) - 127) ≤ r := by rw [show (e : ℤ) - 127 = n by omega]; exact hn1
    have q2 : r < (2 : ℝ) ^ ((e : ℤ) - 126) := by rw [show (e : ℤ) - 126 = n + 1 by omega]; exact hn2
    have hc := count_of (by omega) (by omega) q1 q2
    refine ⟨e, by omega, by omega, ?_, by omega, by omega, scale_of (by omega) (by omega) q1 q2⟩
    rw [hc]; simp; omega

/-! ## The quantiser of one chunk -/

/-- The largest magnitude of a chunk. -/
def absMax (X : Fin 64 → Fin 256 → EReal) : EReal :=
  Finset.univ.fold max ⊥ fun r => Finset.univ.fold max ⊥ fun l => max (X r l) (-X r l)

/-- That times the reciprocal of the largest code. -/
def mulOf (X : Fin 64 → Fin 256 → EReal) : EReal := absMax X * Ideal.ofBits .f32 0x3B124925#32

/-- The chunk's scale. -/
def scale (X : Fin 64 → Fin 256 → EReal) : EReal := scaleOf (mulOf X)

/-- The chunk's codes. -/
def code (X : Fin 64 → Fin 256 → EReal) (r : Fin 64) (l : Fin 256) : EReal :=
  min (Ideal.ofBits .f32 0x43E00000#32) (max (Ideal.ofBits .f32 0xC3E00000#32) (X r l * Ideal.div 1 (scale X)))

/-- Every entry's magnitude is at most the largest finite half-width number. -/
def InRange (X : Fin 64 → Fin 256 → EReal) : Prop := ∀ r l, max (X r l) (-X r l) ≤ Ideal.ofBits .f32 0x7F7F0000#32

theorem negInf : Ideal.ofBits .f32 0xFF800000#32 = ⊥ := by
  simp [Ideal.ofBits, Ideal.ieee]

theorem posInf : Ideal.ofBits .f32 0x7F800000#32 = ⊤ := by
  simp [Ideal.ofBits, Ideal.ieee]

theorem abs_le' {φ : FTy} (x : EReal) {c : EReal} : (FloatOps.absf (F := Ideal) (φ := φ) x : EReal) ≤ c ↔ x ≤ c ∧ -x ≤ c := by
  show max x (-x) ≤ c ↔ _
  exact max_le_iff

theorem absMax_le (X : Fin 64 → Fin 256 → EReal) (c : EReal) : absMax X ≤ c ↔ ∀ r l, X r l ≤ c ∧ -X r l ≤ c := by
  unfold absMax
  simp only [Finset.fold_max_le, bot_le, true_and, Finset.mem_univ, forall_true_left, max_le_iff]

theorem ieee_pos {b : BitVec 32} {i m : ℕ} (h1 : b.extractLsb' (8 + 23) 1 = 0#1) (h2 : (b.extractLsb' 23 8).toNat = i) (h3 : (b.extractLsb' 0 23).toNat = m)
    (h0 : i ≠ 0) (ht : i ≠ 255) : Ideal.ieee 8 23 b = ((((2 ^ 23 + m : ℕ) : ℝ) * (2 : ℝ) ^ ((i : ℤ) - 127 - 23) : ℝ) : EReal) := by
  unfold Ideal.ieee
  rw [h1, h2, h3]
  have e' : ¬ i = 2 ^ 8 - 1 := by omega
  simp only [h0, e', if_false]
  rw [if_neg (by decide), one_mul]
  rfl

theorem recip : ∃ c : ℝ, 0 ≤ c ∧ c ≤ 1 / 256 ∧ Ideal.ofBits .f32 0x3B124925#32 = (c : EReal) := by
  have h : Ideal.ofBits .f32 0x3B124925#32 = _ := ieee_pos (b := 0x3B124925#32) (i := 118) (m := 1198373) (by decide) (by decide) (by decide) (by decide) (by decide)
  refine ⟨_, ?_, ?_, h⟩ <;> norm_num

theorem large : ∃ c : ℝ, 0 ≤ c ∧ c < 2 ^ (128 : ℤ) ∧ Ideal.ofBits .f32 0x7F7F0000#32 = (c : EReal) := by
  have h : Ideal.ofBits .f32 0x7F7F0000#32 = _ := ieee_pos (b := 0x7F7F0000#32) (i := 254) (m := 8323072) (by decide) (by decide) (by decide) (by decide) (by decide)
  refine ⟨_, ?_, ?_, h⟩ <;> norm_num

theorem absMax_nonneg (X : Fin 64 → Fin 256 → EReal) : 0 ≤ absMax X := by
  have h := (absMax_le X (absMax X)).mp le_rfl 0 0
  rcases le_total 0 (X 0 0) with p | p
  · exact p.trans h.1
  · refine le_trans ?_ h.2
    rw [EReal.le_neg]; simpa using p

theorem mulOf_nonneg (X : Fin 64 → Fin 256 → EReal) : 0 ≤ mulOf X := by
  obtain ⟨c, h0, _, he⟩ := recip
  unfold mulOf; rw [he]
  exact mul_nonneg (absMax_nonneg X) (EReal.coe_nonneg.mpr h0)

theorem mulOf_lt {X : Fin 64 → Fin 256 → EReal} (hx : InRange X) : mulOf X < (((2 : ℝ) ^ (120 : ℤ) : ℝ) : EReal) := by
  obtain ⟨c, h0, h1, he⟩ := recip
  obtain ⟨d, hd0, hd1, hde⟩ := large
  have ha : absMax X ≤ (d : EReal) := by
    rw [absMax_le]
    intro r l
    have := hx r l
    rw [hde, max_le_iff] at this
    exact this
  have hn := absMax_nonneg X
  unfold mulOf
  rw [he]
  generalize absMax X = a at ha hn
  lift a to ℝ using ⟨ne_top_of_le_ne_top (EReal.coe_ne_top d) ha, ne_bot_of_gt (lt_of_lt_of_le EReal.bot_lt_zero hn)⟩ with a
  rw [EReal.coe_le_coe_iff] at ha
  rw [← EReal.coe_mul, EReal.coe_lt_coe_iff]
  have hn' : (0 : ℝ) ≤ a := EReal.coe_nonneg.mp hn
  have e1 : (2 : ℝ) ^ (120 : ℤ) = 2 ^ (128 : ℤ) * (1 / 256) := by
    rw [show (1 / 256 : ℝ) = 2 ^ (-8 : ℤ) by norm_num, ← zpow_add₀ (by norm_num : (2 : ℝ) ≠ 0)]; norm_num
  have hlt : a < 2 ^ (128 : ℤ) := lt_of_le_of_lt ha hd1
  rw [e1]
  calc a * c ≤ a * (1 / 256) := mul_le_mul_of_nonneg_left h1 hn'
    _ < _ := mul_lt_mul_of_pos_right hlt (by norm_num)

theorem inv_pow (e : ℕ) : Ideal.div 1 (((2 : ℝ) ^ ((e : ℤ) - 126) : ℝ) : EReal) = (((2 : ℝ) ^ (126 - (e : ℤ)) : ℝ) : EReal) := by
  have hp : (0 : ℝ) < (2 : ℝ) ^ ((e : ℤ) - 126) := by positivity
  unfold Ideal.div
  rw [if_neg (by intro h; have := EReal.coe_eq_zero.mp h; exact hp.ne' this), one_mul, ← EReal.coe_inv, ← zpow_neg]
  congr 2; ring

end Cert.Quant

end
-- ==== Proof.QuantStage.lean ====
/- The chunk quantiser of the kernel's body, step by step, as functions of what it loads; and what each step holds. -/
module

public import proofs.«01_k».proof.Proof.Gen.KernelIdeal.Skeleton
public import proofs.«01_k».proof.Proof.QuantMath

@[expose] public section

set_option maxRecDepth 65536

noncomputable section

namespace Cert.KernelIdeal.Hand

open Idealize.ShloMosaic Idealize.ShloMosaic.TcCoe
open Cert.KernelIdeal Cert.KernelIdeal.Gen

section Steps
variable {F : FTy → Type} [FloatOps F]

/-- The chunk's largest magnitude times the reciprocal of the codes' largest. -/
def qMul (v871 : FVec F S64x256 .bf16) : FVec F S1x1 .f32 :=
  let v874 : FVec F S64x256 .bf16 := absf v871
  let v875 : FVec F S16x256 .bf16 := extractStridedSlice S16x256 ![0, 0] v874 slices_S64x256_o0_0_S16x256
  let v876 : FVec F S16x256 .bf16 := extractStridedSlice S16x256 ![16, 0] v874 slices_S64x256_o16_0_S16x256
  let v877 : FVec F S16x256 .bf16 := maximumf v875 v876
  let v878 : FVec F S16x256 .bf16 := extractStridedSlice S16x256 ![32, 0] v874 slices_S64x256_o32_0_S16x256
  let v879 : FVec F S16x256 .bf16 := extractStridedSlice S16x256 ![48, 0] v874 slices_S64x256_o48_0_S16x256
  let v880 : FVec F S16x256 .bf16 := maximumf v878 v879
  let v881 : FVec F S16x256 .bf16 := maximumf v877 v880
  let v882 : FVec F S16x128 .bf16 := extractStridedSlice S16x128 ![0, 0] v881 slices_S16x256_o0_0_S16x128
  let v883 : FVec F S16x128 .bf16 := extractStridedSlice S16x128 ![0, 128] v881 slices_S16x256_o0_128_S16x128
  let v884 : FVec F S16x128 .bf16 := maximumf v882 v883
  let v885 : FVec F S16x128 .f32 := extf .f32 v884 bitsLt_bf16_f32
  let v886 : FVec F S128 .f32 := multiReduction .maximumf [0] S128 v885 0xFF800000#32 reduces_S16x128_S128 (.inl rfl) rfl
  let v887 : FVec F S1x128 .f32 := shapeCast S1x128 v886 shapeCasts_S128_S1x128
  let v888 : FVec F S1 .f32 := multiReduction .maximumf [1] S1 v887 0xFF800000#32 reduces_S1x128_S1 (.inl rfl) rfl
  let v889 : FVec F S1x1 .f32 := shapeCast S1x1 v888 shapeCasts_S1_S1x1
  let v890 : FVec F S1x1 .f32 := broadcast S1x1 (Scalar.ofBits .f32 0x3B124925#32)
  mulf v889 v890

/-- The exponent: how many powers of two do not exceed that, less one, and 126 for none but zero. -/
def qExp (v891 : FVec F S1x1 .f32) : IVec S1x1 32 :=
  let v896 : FVec F S1x256 .f32 := broadcastTo S1x256 v891 broadcasts_S1x1_S1x256
  let v892 : IVec S1x256 32 := iota .tc S1x256 32 [1] iota_S1x256_d1_w32
  let v893 : IVec S1x256 32 := broadcast S1x256 23#32
  let v894 : IVec S1x256 32 := shli v892 v893
  let v895 : FVec F S1x256 .f32 := bitcastToFloat .f32 v894
  let v897 : IVec S1x256 1 := cmpf .olt v896 v895
  let v898 : FVec F S1x256 .f32 := broadcast S1x256 (Scalar.ofBits .f32 0x00000000#32)
  let v899 : FVec F S1x256 .f32 := broadcast S1x256 (Scalar.ofBits .f32 0x3F800000#32)
  let v900 : FVec F S1x256 .f32 := select v897 v898 v899
  let v901 : FVec F S1 .f32 := multiReduction .add [1] S1 v900 0x00000000#32 reduces_S1x256_S1 (.inl rfl) rfl
  let v902 : FVec F S1x1 .f32 := shapeCast S1x1 v901 shapeCasts_S1_S1x1
  let v903 : IVec S1x1 32 := fptosi 32 v902
  let v904 : IVec S1x1 32 := broadcast S1x1 1#32
  let v905 : IVec S1x1 32 := subi v903 v904
  let v906 : IVec S1x1 32 := broadcast S1x1 0#32
  let v907 : IVec S1x1 1 := cmpi .eq v905 v906
  let v908 : IVec S1x1 32 := broadcast S1x1 126#32
  select v907 v908 v905

/-- The scale of that exponent. -/
def qScale (v909 : IVec S1x1 32) : FVec F S1x1 .f32 :=
  let v910 : IVec S1x1 32 := broadcast S1x1 1#32
  let v911 : IVec S1x1 32 := addi v909 v910
  let v912 : IVec S1x1 32 := broadcast S1x1 23#32
  let v913 : IVec S1x1 32 := shli v911 v912
  bitcastToFloat .f32 v913

/-- The codes of a chunk at that exponent. -/
def qCodes (v871 : FVec F S64x256 .bf16) (v909 : IVec S1x1 32) : FVec F S64x256 .fp8e4m3 :=
  let v926 : F .bf16 := Scalar.truncf .bf16 bitsLt_bf16_f32 (Scalar.ofBits .f32 0x43E00000#32)
  let v927 : FVec F S64x256 .bf16 := broadcast S64x256 v926
  let v923 : F .bf16 := Scalar.truncf .bf16 bitsLt_bf16_f32 (Scalar.ofBits .f32 0xC3E00000#32)
  let v924 : FVec F S64x256 .bf16 := broadcast S64x256 v923
  let v915 : IVec S1x1 32 := broadcast S1x1 253#32
  let v916 : IVec S1x1 32 := subi v915 v909
  let v917 : IVec S1x1 32 := broadcast S1x1 23#32
  let v918 : IVec S1x1 32 := shli v916 v917
  let v919 : FVec F S1x1 .f32 := bitcastToFloat .f32 v918
  let v920 : FVec F S1x1 .bf16 := truncf .bf16 v919 bitsLt_bf16_f32
  let v921 : FVec F S64x256 .bf16 := broadcastTo S64x256 v920 broadcasts_S1x1_S64x256
  let v922 : FVec F S64x256 .bf16 := mulf v871 v921
  let v925 : FVec F S64x256 .bf16 := maximumf v924 v922
  let v928 : FVec F S64x256 .bf16 := minimumf v927 v925
  truncf .fp8e4m3 v928 bitsLt_fp8e4m3_bf16

end Steps

open Cert.Quant

theorem shl23 (a : BitVec 32) : IntOp.shli ArithUnit.vector a 23#32 = a <<< (23#32).toNat := rfl

theorem qMul_apply (x : FVec Ideal S64x256 .bf16) :
    qMul x (ix2 0 0) = mulOf fun r l => x (ix2 r l) := by
  unfold qMul mulOf
  pointwise []
  congr 1
  rw [negInf]
  refine eq_of_forall_ge_iff fun c => ?_
  unfold absMax
  simp only [Finset.fold_max_le, bot_le, true_and, Finset.mem_univ, forall_true_left, max_le_iff]
  constructor
  · intro h r l
    have hl := l.isLt
    have hr := r.isLt
    by_cases a : l.val < 128
    · have h1 := h ⟨l.val, a⟩ ⟨r.val % 16, by omega⟩
      rcases (by omega : r.val / 16 = 0 ∨ r.val / 16 = 1 ∨ r.val / 16 = 2 ∨ r.val / 16 = 3) with q | q | q | q
      · have := h1.1.1.1; rw [abs_le'] at this
        rwa [show (⟨r.val % 16, by omega⟩ : Fin 64) = r from Fin.ext (by simp only []; omega)] at this
      · have := h1.1.1.2; rw [abs_le'] at this
        rwa [show (⟨16 + r.val % 16, by omega⟩ : Fin 64) = r from Fin.ext (by simp only []; omega)] at this
      · have := h1.1.2.1; rw [abs_le'] at this
        rwa [show (⟨32 + r.val % 16, by omega⟩ : Fin 64) = r from Fin.ext (by simp only []; omega)] at this
      · have := h1.1.2.2; rw [abs_le'] at this
        rwa [show (⟨48 + r.val % 16, by omega⟩ : Fin 64) = r from Fin.ext (by simp only []; omega)] at this
    · have h1 := h ⟨l.val - 128, by omega⟩ ⟨r.val % 16, by omega⟩
      have el : (⟨128 + (l.val - 128), by omega⟩ : Fin 256) = l := Fin.ext (by simp only []; omega)
      rcases (by omega : r.val / 16 = 0 ∨ r.val / 16 = 1 ∨ r.val / 16 = 2 ∨ r.val / 16 = 3) with q | q | q | q
      · have := h1.2.1.1; rw [abs_le', el] at this
        rwa [show (⟨r.val % 16, by omega⟩ : Fin 64) = r from Fin.ext (by simp only []; omega)] at this
      · have := h1.2.1.2; rw [abs_le', el] at this
        rwa [show (⟨16 + r.val % 16, by omega⟩ : Fin 64) = r from Fin.ext (by simp only []; omega)] at this
      · have := h1.2.2.1; rw [abs_le', el] at this
        rwa [show (⟨32 + r.val % 16, by omega⟩ : Fin 64) = r from Fin.ext (by simp only []; omega)] at this
      · have := h1.2.2.2; rw [abs_le', el] at this
        rwa [show (⟨48 + r.val % 16, by omega⟩ : Fin 64) = r from Fin.ext (by simp only []; omega)] at this
  · intro h l r
    simp only [abs_le']
    exact ⟨⟨⟨h _ _, h _ _⟩, ⟨h _ _, h _ _⟩⟩, ⟨⟨h _ _, h _ _⟩, ⟨h _ _, h _ _⟩⟩⟩

theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The exponent step, at the count of the powers not above its operand. -/
theorem qExp_apply (y : FVec Ideal S1x1 .f32) (e : ℕ) (he : e ≤ 247)
    (hc : (if Quant.count (y (ix2 0 0)) - 1 = 0 then 126 else Quant.count (y (ix2 0 0)) - 1) = e) (h1 : 1 ≤ Quant.count (y (ix2 0 0))) (h2 : Quant.count (y (ix2 0 0)) ≤ 256) :
    qExp y (ix2 0 0) = BitVec.ofNat 32 e := by
  unfold qExp
  pointwise []
  have hs : (∑ x : Fin 256, if y (ix2 0 0) < Ideal.ofBits FTy.f32 (IntOp.shli ArithUnit.vector (BitVec.ofNat 32 ↑x) 23#32) then (0 : EReal) else 1)
      = ((Quant.count (y (ix2 0 0)) : ℝ) : EReal) := by
    unfold Quant.count
    rw [Finset.card_filter]
    push_cast
    rw [coe_sum']
    refine Finset.sum_congr rfl fun x _ => ?_
    rw [shl23]
    unfold pow
    by_cases h : y (ix2 0 0) < Ideal.ofBits FTy.f32 (BitVec.ofNat 32 ↑x <<< (23#32).toNat)
    · rw [if_pos h, if_neg (not_not_intro h)]; rfl
    · rw [if_neg h, if_pos h]; rfl
  rw [hs]
  generalize Quant.count (y (ix2 0 0)) = n at *
  have hf : (FloatOps.fptosi (F := Ideal) (φ := .f32) 32 (((n : ℝ) : EReal)) : BitVec 32) = BitVec.ofNat 32 n := by
    show Ideal.fptosi 32 ((n : ℝ) : EReal) = _
    unfold Ideal.fptosi
    show BitVec.ofInt 32 (max _ (min _ (if (0 : ℝ) ≤ (n : ℝ) then ⌊(n : ℝ)⌋ else ⌈(n : ℝ)⌉))) = _
    rw [if_pos (Nat.cast_nonneg n), Int.floor_natCast, min_eq_right (by norm_num; omega), max_eq_right (by norm_num)]
    exact BitVec.ofInt_natCast ..
  rw [hf]
  have hsub : IntOp.subi (BitVec.ofNat 32 n) 1#32 = BitVec.ofNat 32 (n - 1) := by
    show BitVec.ofNat 32 n - 1#32 = _
    apply BitVec.eq_of_toNat_eq
    simp only [BitVec.toNat_sub, BitVec.toNat_ofNat]
    omega
  rw [hsub]
  by_cases h0 : n - 1 = 0
  · rw [h0, if_pos rfl] at hc
    rw [h0, ← hc]; rfl
  · rw [if_neg h0] at hc
    have : IntOp.cmpi CmpIPredicate.eq (BitVec.ofNat 32 (n - 1)) 0#32 = 0#1 := by
      show BitVec.ofBool (BitVec.ofNat 32 (n - 1) == 0#32) = 0#1
      have : (BitVec.ofNat 32 (n - 1) == 0#32) = false := by
        rw [beq_eq_false_iff_ne]
        intro hh
        have := congrArg BitVec.toNat hh
        simp only [BitVec.toNat_ofNat] at this
        omega
      rw [this]; rfl
    rw [this, hc]; rfl

theorem qScale_apply (ev : IVec S1x1 32) (e : ℕ) (he : e ≤ 247) (h : ev (ix2 0 0) = BitVec.ofNat 32 e) :
    qScale (F := Ideal) ev (ix2 0 0) = (((2 : ℝ) ^ ((e : ℤ) - 126) : ℝ) : EReal) := by
  unfold qScale
  pointwise []
  rw [h, shl23, show IntOp.addi (BitVec.ofNat 32 e) 1#32 = BitVec.ofNat 32 (e + 1) from by
    show BitVec.ofNat 32 e + 1#32 = _
    apply BitVec.eq_of_toNat_eq; simp only [BitVec.toNat_add, BitVec.toNat_ofNat]; omega]
  refine (pow_mid (i := e + 1) (by omega) (by omega)).trans ?_
  congr 2; push_cast; ring

theorem qCodes_apply (x : FVec Ideal S64x256 .bf16) (ev : IVec S1x1 32) (e : ℕ) (he : e ≤ 247) (h : ev (ix2 0 0) = BitVec.ofNat 32 e) (r : Fin 64) (l : Fin 256) :
    qCodes x ev (ix2 r l) = min (Ideal.ofBits .f32 0x43E00000#32) (max (Ideal.ofBits .f32 0xC3E00000#32)
      (x (ix2 r l) * (((2 : ℝ) ^ (126 - (e : ℤ)) : ℝ) : EReal))) := by
  unfold qCodes
  pointwise []
  rw [h, shl23, show IntOp.subi 253#32 (BitVec.ofNat 32 e) = BitVec.ofNat 32 (253 - e) from by
    show 253#32 - BitVec.ofNat 32 e = _
    apply BitVec.eq_of_toNat_eq; simp only [BitVec.toNat_sub, BitVec.toNat_ofNat]; omega]
  have : Ideal.ofBits .f32 (BitVec.ofNat 32 (253 - e) <<< (23#32).toNat) = (((2 : ℝ) ^ (126 - (e : ℤ)) : ℝ) : EReal) := by
    refine (pow_mid (i := 253 - e) (by omega) (by omega)).trans ?_
    congr 2; rw [Nat.cast_sub (by omega)]; push_cast; ring
  rw [this]

/-- The scale the kernel finds for a chunk of numbers in range is the reference's. -/
theorem kScale (x : FVec Ideal S64x256 .bf16) (hx : InRange fun r l => x (ix2 r l)) :
    qScale (F := Ideal) (qExp (qMul x)) (ix2 0 0) = scale fun r l => x (ix2 r l) := by
  have hm := qMul_apply x
  obtain ⟨e, _, he, hc, h1, h2, hs⟩ := quant_cases (mulOf_nonneg _) (mulOf_lt hx)
  rw [← hm] at hc h1 h2
  rw [qScale_apply _ e he (qExp_apply (qMul x) e he hc h1 h2)]
  exact hs.symm

/-- The codes the kernel finds for a chunk of numbers in range are the reference's. -/
theorem kCodes (x : FVec Ideal S64x256 .bf16) (hx : InRange fun r l => x (ix2 r l)) (r : Fin 64) (l : Fin 256) :
    qCodes (F := Ideal) x (qExp (qMul x)) (ix2 r l) = code (fun r l => x (ix2 r l)) r l := by
  have hm := qMul_apply x
  obtain ⟨e, _, he, hc, h1, h2, hs⟩ := quant_cases (mulOf_nonneg _) (mulOf_lt hx)
  rw [← hm] at hc h1 h2
  rw [qCodes_apply x _ e he (qExp_apply (qMul x) e he hc h1 h2)]
  unfold code scale
  rw [hs, inv_pow]

end Cert.KernelIdeal.Hand

end
-- ==== Proof.KernelIdealQuant.lean ====
module

-- What one point of the grid leaves in the four windows of codes and scales.
public import proofs.«01_k».proof.Proof.KernelIdealBody
public import proofs.«01_k».proof.Proof.QuantStage
public import Idealize.ShloMosaic.Lib.WritesUnit
public import Idealize.ShloMosaic.Lib.Writes
public import Idealize.ShloMosaic.Lib.Pointwise
public import Idealize.ShloMosaic.Lib.Pipeline.ValueKit

@[expose] public noncomputable section

set_option maxRecDepth 100000
set_option synthInstance.maxHeartbeats 0

namespace Cert.KernelIdeal.Hand

open Idealize.ShloMosaic Idealize.ShloMosaic.TcCoe
open Cert.KernelIdeal Cert.KernelIdeal.Gen
open Cert.Quant

variable {F : FTy → Type} [FloatOps F]

/-! ## The chunks of a block and their rows of scales -/

theorem inbChunk (h : Fin 4) (j : Fin 2) (a : Fin 3) : (![h.val, 64 * j.val, 0] : Fin 3 → ℕ) a + S1x64x256.size a ≤ S4x128x256.size a := by
  revert h j a; decide

/-- The rectangle of chunk `j` of head `h` in a block. -/
abbrev chunkR (h : Fin 4) (j : Fin 2) : Rect S4x128x256 := Rect.unit (s := S4x128x256) ![h.val, 64 * j.val, 0] S1x64x256.size (inbChunk h j)

theorem inbRow (h : Fin 4) (a : Fin 3) : (![0, h.val, 0] : Fin 3 → ℕ) a + S1x1x128.size a ≤ S1x4x128.size a := by
  revert h a; decide

/-- The rectangle of head `h`'s row in a group's table of scales. -/
abbrev rowR (h : Fin 4) : Rect S1x4x128 := Rect.unit (s := S1x4x128) ![0, h.val, 0] S1x1x128.size (inbRow h)

/-- Chunk `j` of head `h` of a block. -/
def chunkV (X : Vec F S4x128x256 .bf16) (h : Fin 4) (j : Fin 2) : FVec F S64x256 .bf16 :=
  shapeCast S64x256 (View.ld X (chunkR h j)) shapeCasts_S1x64x256_S64x256

/-- Its scale, as the kernel finds it. -/
def scaleV (X : Vec F S4x128x256 .bf16) (h : Fin 4) (j : Fin 2) : FVec F S1x1 .f32 := qScale (qExp (qMul (chunkV X h j)))

/-- Its codes, as the kernel finds them. -/
def codesV (X : Vec F S4x128x256 .bf16) (h : Fin 4) (j : Fin 2) : (chunkR h j).shape.Idx → Elt F .fp8e4m3 :=
  (shapeCast S1x64x256 (qCodes (chunkV X h j) (qExp (qMul (chunkV X h j)))) shapeCasts_S64x256_S1x64x256 : FVec F S1x64x256 .fp8e4m3)

/-- The stores of a block's codes, last first. -/
def codeStores (X : Vec F S4x128x256 .bf16) : List (View.Piece (Elt F) S4x128x256 .fp8e4m3) :=
  [⟨chunkR 3 1, codesV X 3 1⟩, ⟨chunkR 2 1, codesV X 2 1⟩, ⟨chunkR 1 1, codesV X 1 1⟩, ⟨chunkR 0 1, codesV X 0 1⟩,
   ⟨chunkR 3 0, codesV X 3 0⟩, ⟨chunkR 2 0, codesV X 2 0⟩, ⟨chunkR 1 0, codesV X 1 0⟩, ⟨chunkR 0 0, codesV X 0 0⟩]

/-- One row stored per head, last first. -/
def rows (R : (h : Fin 4) → (rowR h).shape.Idx → Elt F .f32) : List (View.Piece (Elt F) S1x4x128 .f32) :=
  [⟨rowR 3, R 3⟩, ⟨rowR 2, R 2⟩, ⟨rowR 1, R 1⟩, ⟨rowR 0, R 0⟩]

/-- After those, each head's row read back, changed by `P` and stored again, last first. -/
def again {sp : Space} (v : View sig .tc sp S1x4x128 .f32) (R : (h : Fin 4) → (rowR h).shape.Idx → Elt F .f32)
    (P : (h : Fin 4) → ((rowR h).shape.Idx → Elt F .f32) → (rowR h).shape.Idx → Elt F .f32) : List (View.Piece (Elt F) S1x4x128 .f32) :=
  let L0 := rows R
  let L1 := ⟨rowR 0, P 0 (v.readCov L0 (rowR 0).toLoadRect)⟩ :: L0
  let L2 := ⟨rowR 1, P 1 (v.readCov L1 (rowR 1).toLoadRect)⟩ :: L1
  let L3 := ⟨rowR 2, P 2 (v.readCov L2 (rowR 2).toLoadRect)⟩ :: L2
  ⟨rowR 3, P 3 (v.readCov L3 (rowR 3).toLoadRect)⟩ :: L3

theorem row_disjoint {h h' : Fin 4} (hh : h ≠ h') : Disjoint (rowR h).set (rowR h').toLoadRect.set :=
  Rect.unit_disjoint (inb := inbRow h) (inb' := inbRow h') 1 (by
    have : h.val ≠ h'.val := fun e => hh (Fin.ext e)
    show h.val + 1 ≤ h'.val ∨ h'.val + 1 ≤ h.val
    omega)

/-- Each row is read back as the first round stored it. -/
theorem again_eq {sp : Space} (v : View sig .tc sp S1x4x128 .f32) (R : (h : Fin 4) → (rowR h).shape.Idx → Elt F .f32)
    (P : (h : Fin 4) → ((rowR h).shape.Idx → Elt F .f32) → (rowR h).shape.Idx → Elt F .f32) :
    again v R P = rows (fun h => P h (R h)) ++ rows R := by
  have hit : ∀ (h : Fin 4) (w : (rowR h).shape.Idx → Elt F .f32) (L : List (View.Piece (Elt F) S1x4x128 .f32)),
      v.readCov (⟨rowR h, w⟩ :: L) (rowR h).toLoadRect = w := fun h w L => View.readCov_cons_toLoadRect v (rowR h) w L
  have miss : ∀ {h h' : Fin 4} (w : (rowR h).shape.Idx → Elt F .f32) (L : List (View.Piece (Elt F) S1x4x128 .f32)), h ≠ h' →
      v.readCov (⟨rowR h, w⟩ :: L) (rowR h').toLoadRect = v.readCov L (rowR h').toLoadRect := fun w L hh =>
    View.readCov_cons_of_disjoint v ⟨rowR _, w⟩ L _ (row_disjoint hh)
  have e0 : ∀ h, v.readCov (rows R) (rowR h).toLoadRect = R h := by
    intro h
    unfold rows
    fin_cases h
    · exact (miss _ _ (by decide)).trans ((miss _ _ (by decide)).trans ((miss _ _ (by decide)).trans (hit _ _ _)))
    · exact (miss _ _ (by decide)).trans ((miss _ _ (by decide)).trans (hit _ _ _))
    · exact (miss _ _ (by decide)).trans (hit _ _ _)
    · exact hit _ _ _
  unfold again
  dsimp only
  rw [miss (h' := 3) _ _ (by decide), miss (h' := 3) _ _ (by decide), miss (h' := 3) _ _ (by decide), miss (h' := 2) _ _ (by decide),
    miss (h' := 2) _ _ (by decide), miss (h' := 1) _ _ (by decide), e0, e0, e0, e0]
  rfl

/-- A table of which every row was stored last by `R` holds `R`. -/
theorem read_rows {sp : Space} (v : View sig .tc sp S1x4x128 .f32) (f : v.ty.Contents (Elt F))
    (R : (h : Fin 4) → (rowR h).shape.Idx → Elt F .f32) (L : List (View.Piece (Elt F) S1x4x128 .f32)) (h : Fin 4) (n : Fin 128) :
    v.read (Elt F) (v.writes (Elt F) f (rows R ++ L)) (ix3 0 h n) = R h (ix3 0 0 n) := by
  have hit : ∀ (w : (rowR h).shape.Idx → Elt F .f32) (L : List (View.Piece (Elt F) S1x4x128 .f32)),
      v.read (Elt F) (v.writes (Elt F) f (⟨rowR h, w⟩ :: L)) (ix3 0 h n) = w (ix3 0 0 n) := fun w L =>
    View.read_writes_cons_unit_of_mem v f (inbRow h) w L _ (ix3 0 0 n) rfl (by
      intro a; fin_cases a
      · rfl
      · exact (Nat.add_zero _).symm
      · exact (Nat.zero_add _).symm)
  have miss : ∀ {h' : Fin 4} (w : (rowR h').shape.Idx → Elt F .f32) (L : List (View.Piece (Elt F) S1x4x128 .f32)), h' ≠ h →
      v.read (Elt F) (v.writes (Elt F) f (⟨rowR h', w⟩ :: L)) (ix3 0 h n) = v.read (Elt F) (v.writes (Elt F) f L) (ix3 0 h n) := fun {h'} w L hh =>
    View.read_writes_cons_unit_of_not_mem v f (inbRow h') w L _ rfl 1 (by
      have : h'.val ≠ h.val := fun e => hh (Fin.ext e)
      show h.val < h'.val ∨ h'.val + 1 ≤ h.val
      omega)
  unfold rows
  simp only [List.cons_append, List.nil_append]
  fin_cases h
  · exact (miss _ _ (by decide)).trans ((miss _ _ (by decide)).trans ((miss _ _ (by decide)).trans (hit _ _)))
  · exact (miss _ _ (by decide)).trans ((miss _ _ (by decide)).trans (hit _ _))
  · exact (miss _ _ (by decide)).trans (hit _ _)
  · exact hit _ _

/-- A row of scales with lane `w` set to `s`. -/
abbrev setLane (w : BitVec 32) (s : FVec F S1x1 .f32) (row : Vec F S1x1x128 .f32) : FVec F S1x1x128 .f32 := k0_pay802 w s row

/-- The stores into the tables of scales: both chunks' lanes set, each in a round of its own. -/
def scaleStores {sp : Space} (v : View sig .tc sp S1x4x128 .f32) (b : v.ty.Contents (Elt F)) (w0 w1 : BitVec 32) (X : Vec F S4x128x256 .bf16) :
    List (View.Piece (Elt F) S1x4x128 .f32) :=
  again v (fun h => setLane w0 (scaleV X h 0) (v.readAt (Elt F) (rowR h).toLoadRect b)) (fun h row => setLane w1 (scaleV X h 1) row)

/-! ## The run's stores are these -/

section
variable (c : Dev nD) (i : grid0.Coords) (X : Memref sig .tc .vmem S4x128x256 .bf16) (T : Memref sig .tc .vmem S1x4x128 .f32)
  (f : Buf (Elt F) (X.view.loc (c : Thread nD τ))) (g : Buf (Elt F) (T.view.loc (c : Thread nD τ)))

theorem codes_k : body_run.sl.H9_8 c X f = codeStores (X.view.read (Elt F) f) := rfl
theorem scales_k : body_run.sl.H10_8 c i X T f g = scaleStores T.view (if hc : body_run.sl.v28 i = 1#1 then T.view.writes (Elt F) g body_run.sl.H10_1 else g) (body_run.sl.v869 i) (body_run.sl.v6663 i) (X.view.read (Elt F) f) := rfl
theorem codes_q : body_run.sl.H11_8 c X f = codeStores (X.view.read (Elt F) f) := rfl
theorem scales_q : body_run.sl.H12_8 c i X T f g = scaleStores T.view (if hc : body_run.sl.v28 i = 1#1 then T.view.writes (Elt F) g body_run.sl.H12_1 else g) (body_run.sl.v869 i) (body_run.sl.v6663 i) (X.view.read (Elt F) f) := rfl
end

/-! ## Their values over the extended reals -/

/-- The entries of chunk `j` of head `h` of a block. -/
abbrev chunk (X : Vec Ideal S4x128x256 .bf16) (h : Fin 4) (j : Fin 2) : Fin 64 → Fin 256 → EReal :=
  fun r l => X (ix3 h ⟨64 * j.val + r.val, by omega⟩ l)

theorem chunkV_apply (X : Vec Ideal S4x128x256 .bf16) (h : Fin 4) (j : Fin 2) (r : Fin 64) (l : Fin 256) :
    chunkV (F := Ideal) X h j (ix2 r l) = chunk X h j r l := by
  have e : ∀ B : FVec Ideal S1x64x256 .bf16, shapeCast S64x256 B shapeCasts_S1x64x256_S64x256 (ix2 r l) = B (ix3 0 r l) := by
    intro B; pointwise []
  refine (e _).trans ?_
  refine View.ld_unit_apply_of X _ _ _ _ _ ?_
  intro a; fin_cases a
  · rfl
  · rfl
  · exact (Nat.zero_add _).symm

theorem scaleV_apply (X : Vec Ideal S4x128x256 .bf16) (h : Fin 4) (j : Fin 2) (hr : InRange (chunk X h j)) :
    scaleV (F := Ideal) X h j (ix2 0 0) = scale (chunk X h j) := by
  have e : (fun r l => chunkV (F := Ideal) X h j (ix2 r l)) = chunk X h j := funext fun r => funext fun l => chunkV_apply X h j r l
  unfold scaleV
  rw [kScale _ (by rw [e]; exact hr), e]

theorem codesV_apply (X : Vec Ideal S4x128x256 .bf16) (h : Fin 4) (j : Fin 2) (hr : InRange (chunk X h j)) (r : Fin 64) (l : Fin 256) :
    codesV (F := Ideal) X h j (ix3 0 r l) = code (chunk X h j) r l := by
  have e : (fun r l => chunkV (F := Ideal) X h j (ix2 r l)) = chunk X h j := funext fun r => funext fun l => chunkV_apply X h j r l
  unfold codesV
  pointwise []
  rw [kCodes _ (by rw [e]; exact hr), e]

/-- A block's codes, at every place of the block. -/
def codesAt (X : Vec Ideal S4x128x256 .bf16) (y : S4x128x256.Idx) : EReal :=
  code (chunk X (y 0) ⟨(y 1).val / 64, by have : (y 1).val < 128 := (y 1).isLt; omega⟩) ⟨(y 1).val % 64, Nat.mod_lt _ (by decide)⟩ (y 2)

/-- The stores of the codes leave the block's codes. -/
theorem read_codes {sp : Space} (v : View sig .tc sp S4x128x256 .fp8e4m3) (f : v.ty.Contents (Elt Ideal)) (X : Vec Ideal S4x128x256 .bf16)
    (hr : ∀ h j, InRange (chunk X h j)) (y : S4x128x256.Idx) :
    v.read (Elt Ideal) (v.writes (Elt Ideal) f (codeStores X)) y = codesAt X y := by
  have piece : ∀ (h : Fin 4) (j : Fin 2) (x : (chunkR h j).shape.Idx), codesV (F := Ideal) X h j x = codesAt X ((chunkR h j).emb x) := by
    intro h j x
    obtain ⟨r, l, rfl⟩ : ∃ (r : Fin 64) (l : Fin 256), x = ix3 0 r l := by
      refine ⟨x 1, x 2, ?_⟩
      funext a; fin_cases a
      · exact Subsingleton.elim (α := Fin 1) _ _
      · rfl
      · rfl
    rw [codesV_apply X h j (hr h j) r l]
    unfold codesAt
    have h0 : ((chunkR h j).emb (ix3 0 r l) 0) = h := Fin.ext (by show h.val + 1 * 0 = h.val; omega)
    have h1 : ((chunkR h j).emb (ix3 0 r l) 1).val = 64 * j.val + r.val := by show 64 * j.val + 1 * r.val = _; omega
    have h2 : ((chunkR h j).emb (ix3 0 r l) 2) = l := Fin.ext (by show 0 + 1 * l.val = l.val; omega)
    have hj : (⟨((chunkR h j).emb (ix3 0 r l) 1).val / 64, by rw [h1]; omega⟩ : Fin 2) = j := Fin.ext (by show _ / 64 = _; rw [h1]; omega)
    have hr' : (⟨((chunkR h j).emb (ix3 0 r l) 1).val % 64, Nat.mod_lt _ (by decide)⟩ : Fin 64) = r := Fin.ext (by show _ % 64 = _; rw [h1]; omega)
    rw [h0, hj, hr', h2]
  refine View.read_writes_apply_of_pieces v f (codesAt X) (codeStores X) ?_ y ?_
  · unfold codeStores
    simp only [List.forall_mem_cons]
    exact ⟨piece 3 1, piece 2 1, piece 1 1, piece 0 1, piece 3 0, piece 2 0, piece 1 0, piece 0 0, fun p hp => absurd hp List.not_mem_nil⟩
  · have mem : ∀ (h : Fin 4) (j : Fin 2), ⟨chunkR h j, codesV (F := Ideal) X h j⟩ ∈ codeStores X := by
      intro h j; unfold codeStores
      fin_cases h <;> fin_cases j <;> simp
    have hy1 : (y 1).val < 128 := (y 1).isLt
    refine ⟨_, mem (y 0) ⟨(y 1).val / 64, by omega⟩, ?_⟩
    rw [Rect.mem_set_unit]
    intro a; fin_cases a
    · exact ⟨le_rfl, Nat.lt_succ_self _⟩
    · show 64 * ((y 1).val / 64) ≤ (y 1).val ∧ (y 1).val < 64 * ((y 1).val / 64) + 64
      omega
    · exact ⟨Nat.zero_le _, by have : (y 2).val < 256 := (y 2).isLt; show (y 2).val < 0 + 256; omega⟩

theorem setLane_apply (w : BitVec 32) (s : FVec Ideal S1x1 .f32) (row : Vec Ideal S1x1x128 .f32) (n : Fin 128) :
    setLane (F := Ideal) w s row (ix3 0 0 n) = if BitVec.ofNat 32 n.val = w then s (ix2 0 0) else row (ix3 0 0 n) := by
  unfold setLane k0_pay802 k0_pay801
  pointwise []
  show (if BitVec.ofBool (BitVec.ofNat 32 n.val == w) = 1#1 then _ else _) = _
  by_cases h : BitVec.ofNat 32 n.val = w
  · rw [if_pos h, beq_iff_eq.mpr h]; rfl
  · rw [if_neg h, beq_eq_false_iff_ne.mpr h]; rfl

/-- The stores into a table of scales set the two lanes of the block and leave the others. -/
theorem read_scales {sp : Space} (v : View sig .tc sp S1x4x128 .f32) (f b : v.ty.Contents (Elt Ideal)) (w0 w1 : BitVec 32) (X : Vec Ideal S4x128x256 .bf16)
    (hr : ∀ h j, InRange (chunk X h j)) (h : Fin 4) (n : Fin 128) :
    v.read (Elt Ideal) (v.writes (Elt Ideal) f (scaleStores v b w0 w1 X)) (ix3 0 h n)
      = if BitVec.ofNat 32 n.val = w1 then scale (chunk X h 1) else if BitVec.ofNat 32 n.val = w0 then scale (chunk X h 0)
        else v.read (Elt Ideal) b (ix3 0 h n) := by
  unfold scaleStores
  rw [again_eq, read_rows, setLane_apply, setLane_apply, scaleV_apply _ _ _ (hr h 1), scaleV_apply _ _ _ (hr h 0)]
  have e : v.readAt (Elt Ideal) (rowR h).toLoadRect b (ix3 0 0 n) = v.read (Elt Ideal) b (ix3 0 h n) := by
    refine View.ld_unit_apply_of (v.read (Elt Ideal) b) _ _ (inbRow h) _ _ ?_
    intro a; fin_cases a
    · rfl
    · rfl
    · exact (Nat.zero_add _).symm
  rw [e]

end Cert.KernelIdeal.Hand

end
-- ==== Proof.KernelIdealPoints.lean ====
module

-- The grid's points: their blocks and groups, the windows' block indices there, and the words that the body computes from them.
public import proofs.«01_k».proof.Proof.KernelIdealBody
public import Idealize.ShloMosaic.Lib.Pipeline.FrameBody
public import Idealize.ShloMosaic.Lib.Pipeline.ArrRel

@[expose] public noncomputable section

set_option maxRecDepth 100000
set_option synthInstance.maxHeartbeats 0

namespace Cert.KernelIdeal.Hand

open Idealize.SL Idealize.ShloMosaic Idealize.ShloMosaic.TcCoe
open Idealize.ShloMosaic.Pipeline (Dat RDat)
open Cert.KernelIdeal Cert.KernelIdeal.Gen

/-! ## The grid's points -/

/-- The block of point `t` within its group. -/
def blkN (t : Fin cfg0.N) : ℕ := min t.val 383 % 64
/-- The group of point `t`. -/
def grpN (t : Fin cfg0.N) : ℕ := min t.val 383 / 64

theorem blkN_lt (t : Fin cfg0.N) : blkN t < 64 := Nat.mod_lt _ (by decide)
theorem grpN_lt (t : Fin cfg0.N) : grpN t < 6 := by unfold grpN; omega

theorem index0_0 : ∀ t : Fin cfg0.N, win0_0.index t = ![grpN t, blkN t, 0] := by decide +kernel
theorem index0_1 : ∀ t : Fin cfg0.N, win0_1.index t = ![grpN t, blkN t, 0] := by decide +kernel
theorem index0_8 : ∀ t : Fin cfg0.N, win0_8.index t = ![grpN t, blkN t, 0] := by decide +kernel
theorem index0_9 : ∀ t : Fin cfg0.N, win0_9.index t = ![grpN t, 0, 0] := by decide +kernel
theorem index0_10 : ∀ t : Fin cfg0.N, win0_10.index t = ![grpN t, blkN t, 0] := by decide +kernel
theorem index0_11 : ∀ t : Fin cfg0.N, win0_11.index t = ![grpN t, 0, 0] := by decide +kernel

theorem lane0 : ∀ t : Fin cfg0.N, body_run.sl.v869 (grid0.coords t) = BitVec.ofNat 32 (2 * blkN t) := by decide +kernel
theorem lane1 : ∀ t : Fin cfg0.N, body_run.sl.v6663 (grid0.coords t) = BitVec.ofNat 32 (2 * blkN t + 1) := by decide +kernel
theorem first : ∀ t : Fin cfg0.N, (body_run.sl.v28 (grid0.coords t) = 1#1) ↔ blkN t = 0 := by decide +kernel

theorem kept9 : ∀ t : Fin cfg0.N, blkN t ≠ 0 → (cfg0.win 9).fetch t = false ∧ t.val ≠ 0
    ∧ (cfg0.win 9).flush ⟨t.val - 1, Nat.lt_of_le_of_lt (Nat.sub_le _ _) t.isLt⟩ = false := by decide +kernel
theorem kept11 : ∀ t : Fin cfg0.N, blkN t ≠ 0 → (cfg0.win 11).fetch t = false ∧ t.val ≠ 0
    ∧ (cfg0.win 11).flush ⟨t.val - 1, Nat.lt_of_le_of_lt (Nat.sub_le _ _) t.isLt⟩ = false := by decide +kernel

theorem grpN_pred (t : Fin cfg0.N) (h : blkN t ≠ 0) : grpN ⟨t.val - 1, Nat.lt_of_le_of_lt (Nat.sub_le _ _) t.isLt⟩ = grpN t := by
  unfold blkN at h; unfold grpN
  have : t.val < 385 := t.isLt
  dsimp only; omega

theorem blkN_pred (t : Fin cfg0.N) (h : blkN t ≠ 0) :
    let b := blkN ⟨t.val - 1, Nat.lt_of_le_of_lt (Nat.sub_le _ _) t.isLt⟩
    b + 1 = blkN t ∨ (b = 63 ∧ blkN t = 63) := by
  unfold blkN at *
  have : t.val < 385 := t.isLt
  dsimp only; omega

end Cert.KernelIdeal.Hand

end
-- ==== Proof.KernelIdealStep.lean ====
module

-- What the run's staging buffers hold, point by point: the blocks of the inputs, the codes of the point's block, and the scales
-- of the group's chunks up to the point's block.
public import proofs.«01_k».proof.Proof.KernelIdealQuant
public import proofs.«01_k».proof.Proof.KernelIdealPoints

@[expose] public noncomputable section

set_option maxRecDepth 100000
set_option synthInstance.maxHeartbeats 0

namespace Cert.KernelIdeal.Hand

open Idealize.SL Idealize.ShloMosaic Idealize.ShloMosaic.TcCoe
open Idealize.ShloMosaic.Pipeline (Dat RDat)
open Cert.KernelIdeal Cert.KernelIdeal.Gen
open Cert.Quant

variable (m : (ℓ : Loc nD τ sig) → Buf (Elt Ideal) ℓ)

/-- Chunk `n` of head `a` of an array of rows. -/
abbrev chunkA (K : S24x8192x256.Idx → EReal) (a : Fin 24) (n : Fin 128) : Fin 64 → Fin 256 → EReal :=
  fun r l => K (ix3 a ⟨64 * n.val + r.val, by omega⟩ l)

/-- The scales of a group's first `e` chunks, zero after them. -/
def scalesTo (K : S24x8192x256.Idx → EReal) (g : ℕ) (hg : g < 6) (e : ℕ) (h : Fin 4) (n : Fin 128) : EReal :=
  if n.val < e then scale (chunkA K ⟨4 * g + h.val, by omega⟩ n) else 0

/-- The array of `q`s as the region finds it, and that of `k`s. -/
abbrev arrQ (c : Dev nD) : S24x8192x256.Idx → EReal := V m c main_v0
abbrev arrK (c : Dev nD) : S24x8192x256.Idx → EReal := V m c main_v1

abbrev blkQ (c : Dev nD) (t : Fin cfg0.N) : Vec Ideal S4x128x256 .bf16 := iblk m c 0 t
abbrev blkK (c : Dev nD) (t : Fin cfg0.N) : Vec Ideal S4x128x256 .bf16 := iblk m c 1 t

theorem blkQ_apply (c : Dev nD) (t : Fin cfg0.N) (h : Fin 4) (r : Fin 128) (l : Fin 256) :
    blkQ m c t (ix3 h r l) = arrQ m c (ix3 ⟨4 * grpN t + h.val, by have := grpN_lt t; omega⟩ ⟨128 * blkN t + r.val, by have := blkN_lt t; omega⟩ l) := by
  blk_ext [iblk, index0_0 t]

theorem blkK_apply (c : Dev nD) (t : Fin cfg0.N) (h : Fin 4) (r : Fin 128) (l : Fin 256) :
    blkK m c t (ix3 h r l) = arrK m c (ix3 ⟨4 * grpN t + h.val, by have := grpN_lt t; omega⟩ ⟨128 * blkN t + r.val, by have := blkN_lt t; omega⟩ l) := by
  blk_ext [iblk, index0_1 t]

theorem chunkQ (c : Dev nD) (t : Fin cfg0.N) (h : Fin 4) (j : Fin 2) :
    chunk (blkQ m c t) h j = chunkA (arrQ m c) ⟨4 * grpN t + h.val, by have := grpN_lt t; omega⟩ ⟨2 * blkN t + j.val, by have := blkN_lt t; omega⟩ := by
  funext r l
  show blkQ m c t (ix3 _ _ _) = _
  rw [blkQ_apply]
  congr 2
  exact Fin.ext (by simp only []; omega)

theorem chunkK (c : Dev nD) (t : Fin cfg0.N) (h : Fin 4) (j : Fin 2) :
    chunk (blkK m c t) h j = chunkA (arrK m c) ⟨4 * grpN t + h.val, by have := grpN_lt t; omega⟩ ⟨2 * blkN t + j.val, by have := blkN_lt t; omega⟩ := by
  funext r l
  show blkK m c t (ix3 _ _ _) = _
  rw [blkK_apply]
  congr 2
  exact Fin.ext (by simp only []; omega)

/-! ## The relation -/

/-- What the body leaves in each window's buffer: an input's block in place; of the `k`s and the `q`s the codes of the point's block, and the
    scales of the group's chunks so far, zero after them; of the two main results what `R6` and `R7` say. -/
def rel (R6 : (c : Dev nD) → Fin cfg0.N → (S4x128x512.Idx → Elt Ideal .bf16) → Prop) (R7 : (c : Dev nD) → Fin cfg0.N → (S4x256x512.Idx → Elt Ideal .f32) → Prop)
    (c : Dev nD) : Rel Ideal := fun w => match w with
  | 6 => fun t _ X => R6 c t X
  | 7 => fun t _ X => R7 c t X
  | 8 => fun t _ X => ∀ y, X y = codesAt (blkK m c t) y
  | 9 => fun t _ X => ∀ h n, X (ix3 0 h n) = scalesTo (arrK m c) (grpN t) (grpN_lt t) (2 * blkN t + 2) h n
  | 10 => fun t _ X => ∀ y, X y = codesAt (blkQ m c t) y
  | 11 => fun t _ X => ∀ h n, X (ix3 0 h n) = scalesTo (arrQ m c) (grpN t) (grpN_lt t) (2 * blkN t + 2) h n
  | _ => fun _ Y X => X = Y

section
variable {m} {R6 : (c : Dev nD) → Fin cfg0.N → (S4x128x512.Idx → Elt Ideal .bf16) → Prop} {R7 : (c : Dev nD) → Fin cfg0.N → (S4x256x512.Idx → Elt Ideal .f32) → Prop}
  {SC : (c : Dev nD) → Fin (cfg0.N + 1) → Scr Ideal c → Prop} {c : Dev nD} {t : Fin cfg0.N}

theorem finds_0 {Y} (hY : (rdat (V m) (rel m R6 R7) SC c).Finds 0 t Y) : Y = iblk m c 0 t := by
  obtain ⟨d, hd⟩ := (rdat (V m) (rel m R6 R7) SC c).finds_in_eq_fetched 0 rfl (fun _ _ _ => rfl) (fun _ _ _ h => h) t Y hY
  exact hd
theorem finds_1 {Y} (hY : (rdat (V m) (rel m R6 R7) SC c).Finds 1 t Y) : Y = iblk m c 1 t := by
  obtain ⟨d, hd⟩ := (rdat (V m) (rel m R6 R7) SC c).finds_in_eq_fetched 1 rfl (fun _ _ _ => rfl) (fun _ _ _ h => h) t Y hY
  exact hd
theorem finds_2 {Y} (hY : (rdat (V m) (rel m R6 R7) SC c).Finds 2 t Y) : Y = iblk m c 2 t := by
  obtain ⟨d, hd⟩ := (rdat (V m) (rel m R6 R7) SC c).finds_in_eq_fetched 2 rfl (fun _ _ _ => rfl) (fun _ _ _ h => h) t Y hY
  exact hd
theorem finds_3 {Y} (hY : (rdat (V m) (rel m R6 R7) SC c).Finds 3 t Y) : Y = iblk m c 3 t := by
  obtain ⟨d, hd⟩ := (rdat (V m) (rel m R6 R7) SC c).finds_in_eq_fetched 3 rfl (fun _ _ _ => rfl) (fun _ _ _ h => h) t Y hY
  exact hd
theorem finds_4 {Y} (hY : (rdat (V m) (rel m R6 R7) SC c).Finds 4 t Y) : Y = iblk m c 4 t := by
  obtain ⟨d, hd⟩ := (rdat (V m) (rel m R6 R7) SC c).finds_in_eq_fetched 4 rfl (fun _ _ _ => rfl) (fun _ _ _ h => h) t Y hY
  exact hd
theorem finds_5 {Y} (hY : (rdat (V m) (rel m R6 R7) SC c).Finds 5 t Y) : Y = iblk m c 5 t := by
  obtain ⟨d, hd⟩ := (rdat (V m) (rel m R6 R7) SC c).finds_in_eq_fetched 5 rfl (fun _ _ _ => rfl) (fun _ _ _ h => h) t Y hY
  exact hd
end

/-- A table of scales after the body, from what the body may have found there. -/
theorem scales_step {sp : Space} (v : View sig .tc sp S1x4x128 .f32) (f b : v.ty.Contents (Elt Ideal)) (X : Vec Ideal S4x128x256 .bf16)
    (K : S24x8192x256.Idx → EReal) (t : Fin cfg0.N) (hK : ∀ a n, InRange (chunkA K a n))
    (hX : ∀ h j, chunk X h j = chunkA K ⟨4 * grpN t + h.val, by have := grpN_lt t; omega⟩ ⟨2 * blkN t + j.val, by have := blkN_lt t; omega⟩)
    (hb : blkN t = 0 → ∀ h n, v.read (Elt Ideal) b (ix3 0 h n) = 0)
    (hb' : blkN t ≠ 0 → ∃ e, (e = 2 * blkN t ∨ e = 2 * blkN t + 2) ∧ ∀ h n, v.read (Elt Ideal) b (ix3 0 h n) = scalesTo K (grpN t) (grpN_lt t) e h n) (h : Fin 4) (n : Fin 128) :
    v.read (Elt Ideal) (v.writes (Elt Ideal) f (scaleStores v b (body_run.sl.v869 (grid0.coords t)) (body_run.sl.v6663 (grid0.coords t)) X)) (ix3 0 h n)
      = scalesTo K (grpN t) (grpN_lt t) (2 * blkN t + 2) h n := by
  have hr : ∀ h j, InRange (chunk X h j) := fun h j => by rw [hX]; exact hK _ _
  rw [read_scales v f b _ _ X hr, lane0, lane1]
  have hl := blkN_lt t
  have hn := n.isLt
  have key : ∀ k : ℕ, k < 128 → (BitVec.ofNat 32 n.val = BitVec.ofNat 32 k ↔ n.val = k) := fun k hk => by
    constructor
    · intro e; have := congrArg BitVec.toNat e; simp only [BitVec.toNat_ofNat] at this; omega
    · intro e; rw [e]
  simp only [key _ (show 2 * blkN t + 1 < 128 by omega), key _ (show 2 * blkN t < 128 by omega)]
  unfold scalesTo
  by_cases h1 : n.val = 2 * blkN t + 1
  · rw [if_pos h1, if_pos (by omega), hX]
    congr 2; exact Fin.ext h1.symm
  · rw [if_neg h1]
    by_cases h0 : n.val = 2 * blkN t
    · rw [if_pos h0, if_pos (by omega), hX]
      congr 2; exact Fin.ext h0.symm
    · rw [if_neg h0]
      by_cases hz : blkN t = 0
      · rw [hb hz, if_neg (by omega)]
      · obtain ⟨e, he, hh⟩ := hb' hz
        rw [hh]; unfold scalesTo
        rcases he with rfl | rfl
        · by_cases h2 : n.val < 2 * blkN t
          · rw [if_pos h2, if_pos (by omega)]
          · rw [if_neg h2, if_neg (by omega)]
        · rfl

theorem zero_fill {sp : Space} (v : View sig .tc sp S1x4x128 .f32) (f : v.ty.Contents (Elt Ideal)) (h : Fin 4) (n : Fin 128) :
    v.read (Elt Ideal) (v.writes (Elt Ideal) f (body_run.sl.H10_1 (F := Ideal))) (ix3 0 h n) = 0 := by
  unfold body_run.sl.H10_1
  refine (View.read_writes_cons_unit_of_mem v f inb_S1x4x128_S1x4x128_0_0_0 (k0_pay8 (F := Ideal)) [] (ix3 0 h n) (ix3 0 h n) rfl ?_).trans ?_
  · intro a; fin_cases a
    · rfl
    · exact (Nat.zero_add _).symm
    · exact (Nat.zero_add _).symm
  · unfold k0_pay8
    pointwise []

/-! ## The four windows' buffers after the body -/

section
variable (c : Dev nD) (t : Fin cfg0.N) (f0 : Buf (Elt Ideal) ((st0_0 t).view.loc (c : Thread nD τ))) (f1 : Buf (Elt Ideal) ((st0_1 t).view.loc (c : Thread nD τ))) (f2 : Buf (Elt Ideal) ((st0_2 t).view.loc (c : Thread nD τ))) (f3 : Buf (Elt Ideal) ((st0_3 t).view.loc (c : Thread nD τ))) (f4 : Buf (Elt Ideal) ((st0_4 t).view.loc (c : Thread nD τ))) (f5 : Buf (Elt Ideal) ((st0_5 t).view.loc (c : Thread nD τ))) (f6 : Buf (Elt Ideal) ((st0_6 t).view.loc (c : Thread nD τ))) (f7 : Buf (Elt Ideal) ((st0_7 t).view.loc (c : Thread nD τ))) (f8 : Buf (Elt Ideal) ((st0_8 t).view.loc (c : Thread nD τ))) (f9 : Buf (Elt Ideal) ((st0_9 t).view.loc (c : Thread nD τ))) (f10 : Buf (Elt Ideal) ((st0_10 t).view.loc (c : Thread nD τ))) (f11 : Buf (Elt Ideal) ((st0_11 t).view.loc (c : Thread nD τ))) (s : Scr Ideal c)

theorem ran_g9 : (ran c t f0 f1 f2 f3 f4 f5 f6 f7 f8 f9 f10 f11 s).g9 = (st0_8 t).view.writes (Elt Ideal) f8 (body_run.sl.H9_8 c (st0_1 t) f1) := by
  unfold ran body_run; dsimp only
theorem ran_g10 : (ran c t f0 f1 f2 f3 f4 f5 f6 f7 f8 f9 f10 f11 s).g10 = (st0_9 t).view.writes (Elt Ideal) (if hc : body_run.sl.v28 (grid0.coords t) = 1#1 then (st0_9 t).view.writes (Elt Ideal) f9 body_run.sl.H10_1 else f9) (body_run.sl.H10_8 c (grid0.coords t) (st0_1 t) (st0_9 t) f1 f9) := by
  unfold ran body_run; dsimp only
theorem ran_g11 : (ran c t f0 f1 f2 f3 f4 f5 f6 f7 f8 f9 f10 f11 s).g11 = (st0_10 t).view.writes (Elt Ideal) f10 (body_run.sl.H11_8 c (st0_0 t) f0) := by
  unfold ran body_run; dsimp only
theorem ran_g12 : (ran c t f0 f1 f2 f3 f4 f5 f6 f7 f8 f9 f10 f11 s).g12 = (st0_11 t).view.writes (Elt Ideal) (if hc : body_run.sl.v28 (grid0.coords t) = 1#1 then (st0_11 t).view.writes (Elt Ideal) f11 body_run.sl.H12_1 else f11) (body_run.sl.H12_8 c (grid0.coords t) (st0_0 t) (st0_11 t) f0 f11) := by
  unfold ran body_run; dsimp only
end

/-- One point keeps the relation, if its scratch and its main results do what `SC`, `R6` and `R7` say. -/
theorem step_of (R6 : (c : Dev nD) → Fin cfg0.N → (S4x128x512.Idx → Elt Ideal .bf16) → Prop) (R7 : (c : Dev nD) → Fin cfg0.N → (S4x256x512.Idx → Elt Ideal .f32) → Prop)
    (SC : (c : Dev nD) → Fin (cfg0.N + 1) → Scr Ideal c → Prop) (c : Dev nD)
    (hQ : ∀ a n, InRange (chunkA (arrQ m c) a n)) (hK : ∀ a n, InRange (chunkA (arrK m c) a n))
    (rest : ∀ (t : Fin cfg0.N) (Y : (w : Fin cfg0.W) → (cfg0.win w).block.Idx → Elt Ideal (cfg0.win w).elt) (s : Scr Ideal c)
      (f0 : Buf (Elt Ideal) ((st0_0 t).view.loc (c : Thread nD τ))) (f1 : Buf (Elt Ideal) ((st0_1 t).view.loc (c : Thread nD τ))) (f2 : Buf (Elt Ideal) ((st0_2 t).view.loc (c : Thread nD τ))) (f3 : Buf (Elt Ideal) ((st0_3 t).view.loc (c : Thread nD τ))) (f4 : Buf (Elt Ideal) ((st0_4 t).view.loc (c : Thread nD τ))) (f5 : Buf (Elt Ideal) ((st0_5 t).view.loc (c : Thread nD τ))) (f6 : Buf (Elt Ideal) ((st0_6 t).view.loc (c : Thread nD τ))) (f7 : Buf (Elt Ideal) ((st0_7 t).view.loc (c : Thread nD τ))) (f8 : Buf (Elt Ideal) ((st0_8 t).view.loc (c : Thread nD τ))) (f9 : Buf (Elt Ideal) ((st0_9 t).view.loc (c : Thread nD τ))) (f10 : Buf (Elt Ideal) ((st0_10 t).view.loc (c : Thread nD τ))) (f11 : Buf (Elt Ideal) ((st0_11 t).view.loc (c : Thread nD τ))),
      (∀ w, (rdat (V m) (rel m R6 R7) SC c).Finds w t (Y w)) → SC c t.castSucc s →
      (st0_0 t).view.read (Elt Ideal) f0 = Y 0 → (st0_1 t).view.read (Elt Ideal) f1 = Y 1 → (st0_2 t).view.read (Elt Ideal) f2 = Y 2 → (st0_3 t).view.read (Elt Ideal) f3 = Y 3 → (st0_4 t).view.read (Elt Ideal) f4 = Y 4 → (st0_5 t).view.read (Elt Ideal) f5 = Y 5 → (st0_6 t).view.read (Elt Ideal) f6 = Y 6 → (st0_7 t).view.read (Elt Ideal) f7 = Y 7 → (st0_8 t).view.read (Elt Ideal) f8 = Y 8 → (st0_9 t).view.read (Elt Ideal) f9 = Y 9 → (st0_10 t).view.read (Elt Ideal) f10 = Y 10 → (st0_11 t).view.read (Elt Ideal) f11 = Y 11 →
      SC c t.succ (ran c t f0 f1 f2 f3 f4 f5 f6 f7 f8 f9 f10 f11 s).scr
      ∧ R6 c t ((st0_6 t).view.read (Elt Ideal) (ran c t f0 f1 f2 f3 f4 f5 f6 f7 f8 f9 f10 f11 s).g7)
      ∧ R7 c t ((st0_7 t).view.read (Elt Ideal) (ran c t f0 f1 f2 f3 f4 f5 f6 f7 f8 f9 f10 f11 s).g8)) :
    Step (V m) (rel m R6 R7) SC c := by
  intro t Y s f0 f1 f2 f3 f4 f5 f6 f7 f8 f9 f10 f11 hF hs e0 e1 e2 e3 e4 e5 e6 e7 e8 e9 e10 e11
  obtain ⟨hS, h6, h7⟩ := rest t Y s f0 f1 f2 f3 f4 f5 f6 f7 f8 f9 f10 f11 hF hs e0 e1 e2 e3 e4 e5 e6 e7 e8 e9 e10 e11
  have q0 : (st0_0 t).view.read (Elt Ideal) f0 = blkQ m c t := e0.trans (finds_0 (hF 0))
  have q1 : (st0_1 t).view.read (Elt Ideal) f1 = blkK m c t := e1.trans (finds_1 (hF 1))
  refine ⟨hS, rfl, rfl, rfl, rfl, rfl, rfl, h6, h7, ?_, ?_, ?_, ?_⟩
  · intro y
    rw [ran_g9, codes_k, q1]
    exact read_codes _ _ _ (fun h j => by rw [chunkK]; exact hK _ _) y
  · intro h n
    rw [ran_g10, scales_k, q1]
    refine scales_step _ _ _ _ (arrK m c) t hK (chunkK m c t) (fun hz h n => ?_) (fun hz => ?_) h n
    · rw [dif_pos ((first t).mpr hz)]; exact zero_fill _ _ h n
    · rw [dif_neg (fun h => hz ((first t).mp h)), e9]
      obtain ⟨k1, k2, k3⟩ := kept9 t hz
      rcases ((rdat (V m) (rel m R6 R7) SC c).finds_of_pos k1 k2 _).mp (hF 9) with h' | ⟨Y', _, hR⟩
      · rw [k3] at h'; exact absurd h' Bool.false_ne_true
      · refine ⟨2 * blkN ⟨t.val - 1, Nat.lt_of_le_of_lt (Nat.sub_le _ _) t.isLt⟩ + 2, ?_, fun h n => (hR h n).trans ?_⟩
        · have := blkN_pred t hz; dsimp only at this; omega
        · simp only [scalesTo, grpN_pred t hz]
  · intro y
    rw [ran_g11, codes_q, q0]
    exact read_codes _ _ _ (fun h j => by rw [chunkQ]; exact hQ _ _) y
  · intro h n
    rw [ran_g12, scales_q, q0]
    refine scales_step _ _ _ _ (arrQ m c) t hQ (chunkQ m c t) (fun hz h n => ?_) (fun hz => ?_) h n
    · rw [dif_pos ((first t).mpr hz)]; exact zero_fill _ _ h n
    · rw [dif_neg (fun h => hz ((first t).mp h)), e11]
      obtain ⟨k1, k2, k3⟩ := kept11 t hz
      rcases ((rdat (V m) (rel m R6 R7) SC c).finds_of_pos k1 k2 _).mp (hF 11) with h' | ⟨Y', _, hR⟩
      · rw [k3] at h'; exact absurd h' Bool.false_ne_true
      · refine ⟨2 * blkN ⟨t.val - 1, Nat.lt_of_le_of_lt (Nat.sub_le _ _) t.isLt⟩ + 2, ?_, fun h n => (hR h n).trans ?_⟩
        · have := blkN_pred t hz; dsimp only at this; omega
        · simp only [scalesTo, grpN_pred t hz]

end Cert.KernelIdeal.Hand

end
-- ==== Proof.KernelIdealArr.lean ====
module

-- What the four arrays of codes and scales hold when the kernel has run.
public import proofs.«01_k».proof.Proof.KernelIdealStep
public import Idealize.ShloMosaic.Lib.Pipeline.Covers

@[expose] public noncomputable section

set_option maxRecDepth 100000
set_option synthInstance.maxHeartbeats 0

namespace Cert.KernelIdeal.Hand

open Idealize.SL Idealize.ShloMosaic Idealize.ShloMosaic.TcCoe
open Idealize.ShloMosaic.Pipeline (Dat RDat)
open Cert.KernelIdeal Cert.KernelIdeal.Gen
open Cert.Quant

/-- The codes of an array of rows. -/
def codesOf (K : S24x8192x256.Idx → EReal) (i : S24x8192x256.Idx) : EReal :=
  code (chunkA K (i 0) ⟨(i 1).val / 64, by have : (i 1).val < 8192 := (i 1).isLt; omega⟩) ⟨(i 1).val % 64, Nat.mod_lt _ (by decide)⟩ (i 2)

/-- The scales of its chunks, four heads to a group. -/
def scalesOf (K : S24x8192x256.Idx → EReal) (i : S6x4x128.Idx) : EReal :=
  scale (chunkA K ⟨4 * (i 0).val + (i 1).val, by have : (i 0).val < 6 := (i 0).isLt; have : (i 1).val < 4 := (i 1).isLt; omega⟩ (i 2))

theorem point_of (g : ℕ) (b : ℕ) (hg : g < 6) (hb : b < 64) : ∃ t : Fin cfg0.N, grpN t = g ∧ blkN t = b :=
  ⟨⟨64 * g + b, by show _ < 385; omega⟩, by unfold grpN; dsimp only; omega, by unfold blkN; dsimp only; omega⟩

theorem covers8 : (cfg0.win 8).Covers := by
  refine Pipeline.Window.covers_of_index_surj (w := win0_8) rfl (by decide) fun β => ?_
  obtain ⟨t, h0, h1⟩ := point_of (β 0).val (β 1).val (β 0).isLt (β 1).isLt
  refine ⟨t, fun a => ?_⟩
  rw [index0_8, h0, h1]
  fin_cases a
  · rfl
  · rfl
  · have := (β 2).isLt; change (β 2).val < 1 at this; show 0 = (β 2).val; omega

theorem covers10 : (cfg0.win 10).Covers := by
  refine Pipeline.Window.covers_of_index_surj (w := win0_10) rfl (by decide) fun β => ?_
  obtain ⟨t, h0, h1⟩ := point_of (β 0).val (β 1).val (β 0).isLt (β 1).isLt
  refine ⟨t, fun a => ?_⟩
  rw [index0_10, h0, h1]
  fin_cases a
  · rfl
  · rfl
  · have := (β 2).isLt; change (β 2).val < 1 at this; show 0 = (β 2).val; omega

theorem covers9 : (cfg0.win 9).Covers := by
  refine Pipeline.Window.covers_of_index_surj (w := win0_9) rfl (by decide) fun β => ?_
  obtain ⟨t, h0, h1⟩ := point_of (β 0).val 0 (β 0).isLt (by decide)
  refine ⟨t, fun a => ?_⟩
  rw [index0_9, h0]
  fin_cases a
  · rfl
  · have := (β 1).isLt; change (β 1).val < 1 at this; show 0 = (β 1).val; omega
  · have := (β 2).isLt; change (β 2).val < 1 at this; show 0 = (β 2).val; omega

theorem covers11 : (cfg0.win 11).Covers := by
  refine Pipeline.Window.covers_of_index_surj (w := win0_11) rfl (by decide) fun β => ?_
  obtain ⟨t, h0, h1⟩ := point_of (β 0).val 0 (β 0).isLt (by decide)
  refine ⟨t, fun a => ?_⟩
  rw [index0_11, h0]
  fin_cases a
  · rfl
  · have := (β 1).isLt; change (β 1).val < 1 at this; show 0 = (β 1).val; omega
  · have := (β 2).isLt; change (β 2).val < 1 at this; show 0 = (β 2).val; omega

theorem flush9 : ∀ t : Fin cfg0.N, (cfg0.win 9).flush t = true → blkN t = 63 := by decide +kernel
theorem flush11 : ∀ t : Fin cfg0.N, (cfg0.win 11).flush t = true → blkN t = 63 := by decide +kernel

variable (m : (ℓ : Loc nD τ sig) → Buf (Elt Ideal) ℓ)

/-- A block's codes are the array's, at the block's place. -/
theorem codesAt_blk (K : S24x8192x256.Idx → EReal) (X : Vec Ideal S4x128x256 .bf16) (t : Fin cfg0.N)
    (hX : ∀ h j, chunk X h j = chunkA K ⟨4 * grpN t + h.val, by have := grpN_lt t; omega⟩ ⟨2 * blkN t + j.val, by have := blkN_lt t; omega⟩)
    (h : Fin 4) (r : Fin 128) (l : Fin 256) :
    codesAt X (ix3 h r l) = codesOf K (ix3 ⟨4 * grpN t + h.val, by have := grpN_lt t; omega⟩ ⟨128 * blkN t + r.val, by have := blkN_lt t; omega⟩ l) := by
  have hb := blkN_lt t
  have e1 : (⟨2 * blkN t + r.val / 64, by omega⟩ : Fin 128) = ⟨(128 * blkN t + r.val) / 64, by omega⟩ := Fin.ext (by simp only []; omega)
  have e2 : (⟨r.val % 64, Nat.mod_lt _ (by decide)⟩ : Fin 64) = ⟨(128 * blkN t + r.val) % 64, Nat.mod_lt _ (by decide)⟩ := Fin.ext (by simp only []; omega)
  show code (chunk X h ⟨r.val / 64, by omega⟩) ⟨r.val % 64, Nat.mod_lt _ (by decide)⟩ l
    = code (chunkA K ⟨4 * grpN t + h.val, _⟩ ⟨(128 * blkN t + r.val) / 64, by omega⟩) ⟨(128 * blkN t + r.val) % 64, Nat.mod_lt _ (by decide)⟩ l
  rw [← e1, ← e2, hX]

section
variable {m} {R6 : (c : Dev nD) → Fin cfg0.N → (S4x128x512.Idx → Elt Ideal .bf16) → Prop} {R7 : (c : Dev nD) → Fin cfg0.N → (S4x256x512.Idx → Elt Ideal .f32) → Prop}
  {SC : (c : Dev nD) → Fin (cfg0.N + 1) → Scr Ideal c → Prop} (c : Dev nD)
  (after : (w' : Fin cfg0.W) → Fin cfg0.N → (cfg0.win w').block.Idx → Elt Ideal (cfg0.win w').elt)
  (hL : ∀ (w : Fin cfg0.W) (u : Fin cfg0.N), (cfg0.win w).flush u = true → (rdat (V m) (rel m R6 R7) SC c).Leaves w u (after w u))

include hL

theorem arr8 : ((rdat (V m) (rel m R6 R7) SC c).withAfter after).arrAt 8 cfg0.N = codesOf (arrK m c) := by
  refine Dat.arrAt_eq_of_covers _ 8 _ covers8 fun t hf y => ?_
  obtain ⟨Y, _, hR⟩ := hL 8 t hf
  replace hR : ∀ y, after 8 t y = codesAt (blkK m c t) y := hR
  obtain ⟨h, r, l, rfl⟩ : ∃ (h : Fin 4) (r : Fin 128) (l : Fin 256), y = ix3 h r l := ⟨y 0, y 1, y 2, eq_ix3 (n0 := 4) (n1 := 128) (n2 := 256) y⟩
  have e : (win0_8.blk t).view.emb (ix3 h r l)
      = (ix3 ⟨4 * grpN t + h.val, by have := grpN_lt t; omega⟩ ⟨128 * blkN t + r.val, by have := blkN_lt t; omega⟩ l : S24x8192x256.Idx) := by
    blk_ext [index0_8 t]
  refine (hR _).trans ?_
  refine (codesAt_blk (arrK m c) _ t (chunkK m c t) h r l).trans ?_
  exact congrArg (codesOf (arrK m c)) e.symm

theorem arr9 : ((rdat (V m) (rel m R6 R7) SC c).withAfter after).arrAt 9 cfg0.N = scalesOf (arrK m c) := by
  refine Dat.arrAt_eq_of_covers _ 9 _ covers9 fun t hf y => ?_
  obtain ⟨Y, _, hR⟩ := hL 9 t hf
  replace hR : ∀ h n, after 9 t (ix3 0 h n) = scalesTo (arrK m c) (grpN t) (grpN_lt t) (2 * blkN t + 2) h n := hR
  obtain ⟨h, n, rfl⟩ : ∃ (h : Fin 4) (n : Fin 128), y = ix3 0 h n := ⟨y 1, y 2, (eq_ix3 (n0 := 1) (n1 := 4) (n2 := 128) y).trans (by
    rw [show y 0 = (0 : Fin 1) from Subsingleton.elim (α := Fin 1) _ _])⟩
  have e : (win0_9.blk t).view.emb (ix3 0 h n) = (ix3 ⟨grpN t, grpN_lt t⟩ h n : S6x4x128.Idx) := by
    blk_ext [index0_9 t]
  refine (hR _ _).trans ?_
  refine Eq.trans ?_ (congrArg (scalesOf (arrK m c)) e.symm)
  unfold scalesTo
  have hn := n.isLt
  rw [if_pos (by rw [flush9 t hf]; omega)]
  rfl

theorem arr10 : ((rdat (V m) (rel m R6 R7) SC c).withAfter after).arrAt 10 cfg0.N = codesOf (arrQ m c) := by
  refine Dat.arrAt_eq_of_covers _ 10 _ covers10 fun t hf y => ?_
  obtain ⟨Y, _, hR⟩ := hL 10 t hf
  replace hR : ∀ y, after 10 t y = codesAt (blkQ m c t) y := hR
  obtain ⟨h, r, l, rfl⟩ : ∃ (h : Fin 4) (r : Fin 128) (l : Fin 256), y = ix3 h r l := ⟨y 0, y 1, y 2, eq_ix3 (n0 := 4) (n1 := 128) (n2 := 256) y⟩
  have e : (win0_10.blk t).view.emb (ix3 h r l)
      = (ix3 ⟨4 * grpN t + h.val, by have := grpN_lt t; omega⟩ ⟨128 * blkN t + r.val, by have := blkN_lt t; omega⟩ l : S24x8192x256.Idx) := by
    blk_ext [index0_10 t]
  refine (hR _).trans ?_
  refine (codesAt_blk (arrQ m c) _ t (chunkQ m c t) h r l).trans ?_
  exact congrArg (codesOf (arrQ m c)) e.symm

theorem arr11 : ((rdat (V m) (rel m R6 R7) SC c).withAfter after).arrAt 11 cfg0.N = scalesOf (arrQ m c) := by
  refine Dat.arrAt_eq_of_covers _ 11 _ covers11 fun t hf y => ?_
  obtain ⟨Y, _, hR⟩ := hL 11 t hf
  replace hR : ∀ h n, after 11 t (ix3 0 h n) = scalesTo (arrQ m c) (grpN t) (grpN_lt t) (2 * blkN t + 2) h n := hR
  obtain ⟨h, n, rfl⟩ : ∃ (h : Fin 4) (n : Fin 128), y = ix3 0 h n := ⟨y 1, y 2, (eq_ix3 (n0 := 1) (n1 := 4) (n2 := 128) y).trans (by
    rw [show y 0 = (0 : Fin 1) from Subsingleton.elim (α := Fin 1) _ _])⟩
  have e : (win0_11.blk t).view.emb (ix3 0 h n) = (ix3 ⟨grpN t, grpN_lt t⟩ h n : S6x4x128.Idx) := by
    blk_ext [index0_11 t]
  refine (hR _ _).trans ?_
  refine Eq.trans ?_ (congrArg (scalesOf (arrQ m c)) e.symm)
  unfold scalesTo
  have hn := n.isLt
  rw [if_pos (by rw [flush11 t hf]; omega)]
  rfl

end

/-- The kernel's run: the arguments as launched, the four arrays of codes and scales those of the `q`s and the `k`s. -/
theorem run_codes (ρ : Dev nD → PrngReg) (hQ : ∀ c a n, InRange (chunkA (arrQ m c) a n)) (hK : ∀ c a n, InRange (chunkA (arrK m c) a n)) :
    θ_run defs (onTc (τ := τ) (main (F := Ideal))) ⟨m, fun _ => 0, ρ⟩ (fun r => (∀ c : Dev nD,
      r.2.mem ((c.tc : Thread nD τ).loc main_v6_2) = codesOf (arrK m c) ∧ r.2.mem ((c.tc : Thread nD τ).loc main_v6_3) = scalesOf (arrK m c)
      ∧ r.2.mem ((c.tc : Thread nD τ).loc main_v6_4) = codesOf (arrQ m c) ∧ r.2.mem ((c.tc : Thread nD τ).loc main_v6_5) = scalesOf (arrQ m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  refine (θ_run defs _ _).mono (fun r h => ⟨fun c => ?_, h.2⟩)
    (launch m ρ (rel m (fun _ _ _ => True) (fun _ _ _ => True)) (fun _ _ _ => True) (fun _ _ => trivial)
      fun c => step_of m _ _ _ c (hQ c) (hK c) fun _ _ _ _ _ _ _ _ _ _ _ _ _ _ _ _ _ _ _ _ _ _ _ _ _ _ _ _ _ => ⟨trivial, trivial, trivial⟩)
  obtain ⟨after, hL, hA⟩ := Pipeline.RDat.FramePost.exists_exact h.1 c
  exact ⟨(hA 8).trans (arr8 c after hL), (hA 9).trans (arr9 c after hL), (hA 10).trans (arr10 c after hL), (hA 11).trans (arr11 c after hL),
    frame_of_launch m _ _ r h.1 c⟩

end Cert.KernelIdeal.Hand

end
-- ==== Proof.DeltaStage.lean ====
/- The delta rule of the kernel's body, step by step, as functions of what it loads: the products of split operands, the
   inverse of a chunk's triangular matrix, what a chunk leaves in the scratch, and what the recurrence does with it. -/
module

public import proofs.«01_k».proof.Proof.QuantStage

@[expose] public section

set_option maxRecDepth 65536

noncomputable section

namespace Cert.KernelIdeal.Hand

open Idealize.ShloMosaic Idealize.ShloMosaic.TcCoe
open Cert.KernelIdeal Cert.KernelIdeal.Gen

section Steps
variable {F : FTy → Type} [FloatOps F]

/-! ## Splits and products -/

/-- The leading part of each entry. -/
def top {s : Shape} (x : FVec F s .f32) : FVec F s .f32 := extf .f32 (truncf .bf16 x bitsLt_bf16_f32) bitsLt_bf16_f32

/-- The left operand of a product over 64 lanes, cut in parts; of 32 rows. -/
def lhs32 (x : FVec F S32x128 .f32) : FVec F S64x256 .bf16 :=
  let h := top x
  let r := subf x h
  let m := top r
  let hl := select (cmpi .slt (iota .tc S32x128 32 [1] iota_S32x128_d1_w32) (broadcast S32x128 64#32)) h (subf r m)
  concatenate S64x256 0
    [⟨S32x256, concatenate S32x256 1 [⟨S32x128, truncf .bf16 h bitsLt_bf16_f32⟩, ⟨S32x128, truncf .bf16 hl bitsLt_bf16_f32⟩] concatenates_S32x128_S32x128_S32x256_d1⟩,
     ⟨S32x256, concatenate S32x256 1 [⟨S32x128, truncf .bf16 m bitsLt_bf16_f32⟩, ⟨S32x128, broadcast S32x128 (Scalar.ofBits .bf16 0x0000#16)⟩] concatenates_S32x128_S32x128_S32x256_d1⟩]
    concatenates_S32x256_S32x256_S64x256_d0

/-- Of 64 rows. -/
def lhs64 (x : FVec F S64x128 .f32) : FVec F S128x256 .bf16 :=
  let h := top x
  let r := subf x h
  let m := top r
  let hl := select (cmpi .slt (iota .tc S64x128 32 [1] iota_S64x128_d1_w32) (broadcast S64x128 64#32)) h (subf r m)
  concatenate S128x256 0
    [⟨S64x256, concatenate S64x256 1 [⟨S64x128, truncf .bf16 h bitsLt_bf16_f32⟩, ⟨S64x128, truncf .bf16 hl bitsLt_bf16_f32⟩] concatenates_S64x128_S64x128_S64x256_d1⟩,
     ⟨S64x256, concatenate S64x256 1 [⟨S64x128, truncf .bf16 m bitsLt_bf16_f32⟩, ⟨S64x128, broadcast S64x128 (Scalar.ofBits .bf16 0x0000#16)⟩] concatenates_S64x128_S64x128_S64x256_d1⟩]
    concatenates_S64x256_S64x256_S128x256_d0

/-- The right operand, cut in parts; of 128 lanes. -/
def rhs128 (x : FVec F S64x128 .f32) : FVec F S256x128 .bf16 :=
  let h := top x
  let r := subf x h
  let m := top r
  concatenate S256x128 0 [⟨S64x128, truncf .bf16 h bitsLt_bf16_f32⟩, ⟨S64x128, truncf .bf16 m bitsLt_bf16_f32⟩, ⟨S64x128, truncf .bf16 (subf r m) bitsLt_bf16_f32⟩, ⟨S64x128, truncf .bf16 h bitsLt_bf16_f32⟩]
    concatenates_S64x128_S64x128_S64x128_S64x128_S256x128_d0

/-- Of 256 lanes. -/
def rhs256 (x : FVec F S64x256 .f32) : FVec F S256x256 .bf16 :=
  let h := top x
  let r := subf x h
  let m := top r
  concatenate S256x256 0 [⟨S64x256, truncf .bf16 h bitsLt_bf16_f32⟩, ⟨S64x256, truncf .bf16 m bitsLt_bf16_f32⟩, ⟨S64x256, truncf .bf16 (subf r m) bitsLt_bf16_f32⟩, ⟨S64x256, truncf .bf16 h bitsLt_bf16_f32⟩]
    concatenates_S64x256_S64x256_S64x256_S64x256_S256x256_d0

/-- The product of 32 rows. -/
def prod32 (x : FVec F S32x128 .f32) (y : FVec F S64x128 .f32) : FVec F S32x128 .f32 :=
  let p := matmul dot_S64x256_S256x128_S64x128_1_0_0_1_n_n none (lhs32 x) (rhs128 y) (constant S64x128 .f32 0x00000000#32)
  addf (extractStridedSlice S32x128 ![0, 0] p slices_S64x128_o0_0_S32x128) (extractStridedSlice S32x128 ![32, 0] p slices_S64x128_o32_0_S32x128)

/-- The product of 64 rows, its left operand cut before. -/
def prod64 (x : FVec F S128x256 .bf16) (y : FVec F S64x256 .f32) : FVec F S64x256 .f32 :=
  let p := matmul dot_S128x256_S256x256_S128x256_1_0_0_1_n_n none x (rhs256 y) (constant S128x256 .f32 0x00000000#32)
  addf (extractStridedSlice S64x256 ![0, 0] p slices_S128x256_o0_0_S64x256) (extractStridedSlice S64x256 ![64, 0] p slices_S128x256_o64_0_S64x256)

/-! ## Lane numbers -/

/-- The remainder by `n`, with the sign of `n`. -/
def remBy {s : Shape} (n : BitVec 32) (x : IVec s 32) (hb : s.Broadcasts s) : IVec s 32 :=
  let k := Scalar.select (Scalar.cmpi .eq n 0#32) 1#32 n
  let r := remsi x (broadcast s k)
  select (andi (xori (cmpi .slt r (broadcast s 0#32)) (broadcastTo s (broadcast s (Scalar.cmpi .slt k 0#32)) hb)) (cmpi .ne r (broadcast s 0#32)))
    (addi r (broadcast s k)) r

/-- The quotient by 16, rounded down. -/
def quotBy16 {s : Shape} (x : IVec s 32) : IVec s 32 :=
  let q := divsi x (broadcast s 16#32)
  let sx := subi (extui 32 (cmpi .sgt x (broadcast s 0#32)) natLt_1_32) (extui 32 (cmpi .slt x (broadcast s 0#32)) natLt_1_32)
  let sn : BitVec 32 := Scalar.subi (Scalar.extui (Scalar.cmpi .sgt 16#32 0#32)) (Scalar.extui (Scalar.cmpi .slt 16#32 0#32))
  select (andi (cmpi .ne sx (broadcast s sn)) (cmpi .ne (remsi x (broadcast s 16#32)) (broadcast s 0#32))) (subi q (broadcast s 1#32)) q

/-- The lane within its half. -/
def lane64 : IVec S64x128 32 := remBy 64#32 (iota .tc S64x128 32 [1] iota_S64x128_d1_w32) broadcasts_S64x128_S64x128
/-- The row. -/
def row64 : IVec S64x128 32 := iota .tc S64x128 32 [0] iota_S64x128_d0_w32
/-- The block of 16 a lane lies in, within its half. -/
def blk64 : IVec S64x128 32 := quotBy16 lane64
/-- The same for 16 rows. -/
def blk16 : IVec S16x128 32 := extractStridedSlice S16x128 ![0, 0] blk64 slices_S64x128_o0_0_S16x128

/-! ## The inverse -/

/-- The blocks on the diagonal, side by side. -/
def diagBlocks (A : FVec F S64x128 .f32) : FVec F S16x128 .f32 :=
  select (cmpi .eq blk16 (broadcast S16x128 3#32)) (extractStridedSlice S16x128 ![48, 0] A slices_S64x128_o48_0_S16x128)
    (select (cmpi .eq blk16 (broadcast S16x128 2#32)) (extractStridedSlice S16x128 ![32, 0] A slices_S64x128_o32_0_S16x128)
      (select (cmpi .eq blk16 (broadcast S16x128 1#32)) (extractStridedSlice S16x128 ![16, 0] A slices_S64x128_o16_0_S16x128)
        (select (cmpi .eq blk16 (broadcast S16x128 0#32)) (extractStridedSlice S16x128 ![0, 0] A slices_S64x128_o0_0_S16x128)
          (broadcast S16x128 (Scalar.ofBits .f32 0x00000000#32)))))

/-- The identity in every block. -/
def eyeBlocks : FVec F S16x128 .f32 :=
  select (cmpi .eq (iota .tc S16x128 32 [0] iota_S16x128_d0_w32) (remBy 16#32 (iota .tc S16x128 32 [1] iota_S16x128_d1_w32) broadcasts_S16x128_S16x128))
    (broadcast S16x128 (Scalar.ofBits .f32 0x3F800000#32)) (broadcast S16x128 (Scalar.ofBits .f32 0x00000000#32))

/-- The lane of column `j` of a lane's block. -/
def colLane (j : BitVec 32) : IVec S16x128 32 :=
  let i := addi (muli (quotBy16 (iota .tc S16x128 32 [1] iota_S16x128_d1_w32)) (broadcast S16x128 16#32)) (broadcast S16x128 j)
  let i := select (cmpi .slt i (broadcast S16x128 0#32)) (addi i (broadcast S16x128 128#32)) i
  shapeCast S16x128 (shapeCast S16x128x1 i shapeCasts_S16x128_S16x128x1) shapeCasts_S16x128x1_S16x128

/-- One step of the substitution: row `j`, times column `j`, taken from every row. -/
def subst (D X : FVec F S16x128 .f32) (j : ℕ) (hj : Shape.Slices S16x128 ![j, 0] S1x128) : FVec F S16x128 .f32 :=
  subf X (mulf (dynamicGather 1 D (colLane (BitVec.ofNat 32 j))) (broadcastTo S16x128 (extractStridedSlice S1x128 ![j, 0] X hj) broadcasts_S1x128_S16x128))

theorem rowSlice (j : ℕ) (hj : j < 16) : Shape.Slices S16x128 ![j, 0] S1x128 := by
  interval_cases j <;> decide

/-- The first `n` steps. -/
def substs (D : FVec F S16x128 .f32) : (n : ℕ) → n ≤ 16 → FVec F S16x128 .f32
  | 0, _ => eyeBlocks
  | n + 1, h => subst D (substs D n (Nat.le_of_succ_le h)) n (rowSlice n h)

/-- Blocks on the diagonal put back in place. -/
def placeBlocks (X : FVec F S16x128 .f32) : FVec F S64x128 .f32 :=
  let p := fun b : BitVec 32 => select (cmpi .eq blk16 (broadcast S16x128 b)) X (broadcast S16x128 (Scalar.ofBits .f32 0x00000000#32))
  concatenate S64x128 0 [⟨S16x128, p 0#32⟩, ⟨S16x128, p 1#32⟩, ⟨S16x128, p 2#32⟩, ⟨S16x128, p 3#32⟩] concatenates_S16x128_S16x128_S16x128_S16x128_S64x128_d0

/-- The second and the fourth block of rows. -/
def oddRows (x : FVec F S64x128 .f32) : FVec F S32x128 .f32 :=
  concatenate S32x128 0 [⟨S16x128, extractStridedSlice S16x128 ![16, 0] x slices_S64x128_o16_0_S16x128⟩, ⟨S16x128, extractStridedSlice S16x128 ![48, 0] x slices_S64x128_o48_0_S16x128⟩]
    concatenates_S16x128_S16x128_S32x128_d0

/-- The same put back in place, zeros elsewhere. -/
def toOddRows (x : FVec F S32x128 .f32) : FVec F S64x128 .f32 :=
  let z : FVec F S16x128 .f32 := broadcast S16x128 (Scalar.ofBits .f32 0x00000000#32)
  concatenate S64x128 0 [⟨S16x128, z⟩, ⟨S16x128, extractStridedSlice S16x128 ![0, 0] x slices_S32x128_o0_0_S16x128⟩, ⟨S16x128, z⟩, ⟨S16x128, extractStridedSlice S16x128 ![16, 0] x slices_S32x128_o16_0_S16x128⟩]
    concatenates_S16x128_S16x128_S16x128_S16x128_S64x128_d0

/-- The blocks just left of the diagonal within pairs of blocks. -/
def pairBlocks (A : FVec F S64x128 .f32) : FVec F S32x128 .f32 :=
  select (cmpi .eq (extractStridedSlice S32x128 ![0, 0] blk64 slices_S64x128_o0_0_S32x128)
      (muli (broadcast S32x128 2#32) (quotBy16 (iota .tc S32x128 32 [0] iota_S32x128_d0_w32)))) (oddRows A)
    (broadcast S32x128 (Scalar.ofBits .f32 0x00000000#32))

/-- The lower left quarter. -/
def quarter (A : FVec F S64x128 .f32) : FVec F S32x128 .f32 :=
  select (cmpi .slt (extractStridedSlice S32x128 ![0, 0] lane64 slices_S64x128_o0_0_S32x128) (broadcast S32x128 32#32))
    (extractStridedSlice S32x128 ![32, 0] A slices_S64x128_o32_0_S32x128) (broadcast S32x128 (Scalar.ofBits .f32 0x00000000#32))

/-- The lower half of the rows. -/
def lowRows (x : FVec F S64x128 .f32) : FVec F S32x128 .f32 := extractStridedSlice S32x128 ![32, 0] x slices_S64x128_o32_0_S32x128

/-- From the inverse of the blocks to that of the pairs of blocks. -/
def inv32 (A T : FVec F S64x128 .f32) : FVec F S64x128 .f32 :=
  subf T (toOddRows (prod32 (oddRows T) (toOddRows (prod32 (pairBlocks A) T))))

/-- From there to the whole. -/
def inv64 (A T : FVec F S64x128 .f32) : FVec F S64x128 .f32 :=
  concatenate S64x128 0
    [⟨S32x128, extractStridedSlice S32x128 ![0, 0] T slices_S64x128_o0_0_S32x128⟩,
     ⟨S32x128, subf (lowRows T) (prod32 (lowRows T) (concatenate S64x128 0 [⟨S32x128, broadcast S32x128 (Scalar.ofBits .f32 0x00000000#32)⟩, ⟨S32x128, prod32 (quarter A) T⟩] concatenates_S32x128_S32x128_S64x128_d0))⟩]
    concatenates_S32x128_S32x128_S64x128_d0

/-- The inverse of one plus a strictly lower triangular matrix. -/
def inverse (A : FVec F S64x128 .f32) : FVec F S64x128 .f32 :=
  inv64 A (inv32 A (placeBlocks (substs (diagBlocks A) 15 (by decide))))

/-! ## A chunk -/

/-- The reciprocal norms of the rows times a scale, in every lane. -/
def rNorm (x : FVec F S64x256 .bf16) (s : FVec F S1x1 .f32) : FVec F S64x128 .f32 :=
  let xf := extf .f32 x bitsLt_bf16_f32
  let n := rsqrt (addf (shapeCast S64x1 (multiReduction .add [1] S64 (mulf xf xf) 0x00000000#32 reduces_S64x256_S64 (.inl rfl) rfl) shapeCasts_S64_S64x1) (broadcast S64x1 (Scalar.ofBits .f32 0x358637BD#32)))
  broadcastTo S64x128 (shapeCast S64x1 (mulf n (broadcastTo S64x1 s broadcasts_S1x1_S64x1)) shapeCasts_S64x1_S64x1) broadcasts_S64x1_S64x128

/-- The scale of a chunk, and of a chunk of queries. -/
def scl (x : FVec F S64x256 .bf16) : FVec F S1x1 .f32 := qScale (qExp (qMul x))
def sclQ (x : FVec F S64x256 .bf16) : FVec F S1x1 .f32 := mulf (scl x) (broadcast S1x1 (Scalar.ofBits .f32 0x3D800000#32))
/-- The codes of a chunk. -/
def cds (x : FVec F S64x256 .bf16) : FVec F S64x256 .fp8e4m3 := qCodes x (qExp (qMul x))

/-- One lane of a table, in every lane. -/
def pickLane (w : BitVec 32) (x : Vec F S1x64x128 .f32) : FVec F S64x128 .f32 :=
  let i : IVec S64x128 32 := broadcast S64x128 w
  let i := select (cmpi .slt i (broadcast S64x128 0#32)) (addi i (broadcast S64x128 128#32)) i
  dynamicGather 1 (shapeCast S64x128 x shapeCasts_S1x64x128_S64x128) (shapeCast S64x128 (shapeCast S64x128x1 i shapeCasts_S64x128_S64x128x1) shapeCasts_S64x128x1_S64x128)

/-- The decay between two rows, where the first is not before the second. -/
def decay (G : FVec F S64x128 .f32) (gr : Vec F S1x1x128 .f32) : FVec F S64x128 .f32 :=
  exp (select (cmpi .sge row64 lane64) (subf G (broadcastTo S64x128 (shapeCast S1x128 gr shapeCasts_S1x1x128_S1x128) broadcasts_S1x128_S64x128)) (broadcast S64x128 (Scalar.ofBits .f32 0xFF800000#32)))

/-- The decay times the column's reciprocal norm. -/
def decayN (G : FVec F S64x128 .f32) (gr : Vec F S1x1x128 .f32) (rk : FVec F S64x128 .f32) : FVec F S64x128 .f32 :=
  mulf (decay G gr) (broadcastTo S64x128 (shapeCast S1x128 (multiReduction .add [0] S128 (select (cmpi .eq row64 lane64) rk (broadcast S64x128 (Scalar.ofBits .f32 0x00000000#32))) 0x00000000#32 reduces_S64x128_S128 (.inl rfl) rfl) shapeCasts_S128_S1x128) broadcasts_S1x128_S64x128)

/-- The products of the codes. -/
def sims (k8 q8 : FVec F S64x256 .fp8e4m3) : FVec F S128x128 .f32 :=
  matmul dot_S128x256_S128x256_S128x128_1_1_0_0_n_n none (concatenate S128x256 0 [⟨S64x256, k8⟩, ⟨S64x256, q8⟩] concatenates_S64x256_S64x256_S128x256_d0)
    (concatenate S128x256 0 [⟨S64x256, k8⟩, ⟨S64x256, k8⟩] concatenates_S64x256_S64x256_S128x256_d0) (constant S128x128 .f32 0x00000000#32)

/-- The triangular matrix. -/
def triA (sim : FVec F S128x128 .f32) (b rk E : FVec F S64x128 .f32) : FVec F S64x128 .f32 :=
  select (cmpi .sgt row64 lane64) (mulf (mulf (extractStridedSlice S64x128 ![0, 0] sim slices_S128x128_o0_0_S64x128) (mulf b rk)) E) (broadcast S64x128 (Scalar.ofBits .f32 0x00000000#32))

/-- The scores. -/
def scores (sim : FVec F S128x128 .f32) (rq E : FVec F S64x128 .f32) : FVec F S64x128 .f32 :=
  mulf (mulf (extractStridedSlice S64x128 ![64, 0] sim slices_S128x128_o64_0_S64x128) rq) E

/-! ## What a chunk leaves in the scratch -/

/-- The codes, `k`'s over `q`'s. -/
def outKQ (xk xq : FVec F S64x256 .bf16) : FVec F S1x1x128x256 .bf16 :=
  shapeCast S1x1x128x256 (concatenate S128x256 0 [⟨S64x256, extf .bf16 (cds xk) bitsLt_fp8e4m3_bf16⟩, ⟨S64x256, extf .bf16 (cds xq) bitsLt_fp8e4m3_bf16⟩] concatenates_S64x256_S64x256_S128x256_d0) shapeCasts_S128x256_S1x1x128x256

/-- `k`'s codes, transposed, twice. -/
def outKT (xk : FVec F S64x256 .bf16) : FVec F S1x1x256x128 .bf16 :=
  shapeCast S1x1x256x128 (transpose S256x128 [1, 0] (concatenate S128x256 0 [⟨S64x256, extf .bf16 (cds xk) bitsLt_fp8e4m3_bf16⟩, ⟨S64x256, extf .bf16 (cds xk) bitsLt_fp8e4m3_bf16⟩] concatenates_S64x256_S64x256_S128x256_d0) transposes_S128x256_p1_0_S256x128) shapeCasts_S256x128_S1x1x256x128

def outS1 (G rk : FVec F S64x128 .f32) : FVec F S1x1x64x128 .f32 := shapeCast S1x1x64x128 (mulf (exp G) rk) shapeCasts_S64x128_S1x1x64x128

def lastRow (G : FVec F S64x128 .f32) : FVec F S1x128 .f32 := extractStridedSlice S1x128 ![63, 0] G slices_S64x128_o63_0_S1x128

def outSD (G rk : FVec F S64x128 .f32) : FVec F S1x1x64x128 .f32 :=
  shapeCast S1x1x64x128 (mulf (exp (subf (broadcastTo S64x128 (lastRow G) broadcasts_S1x128_S64x128) G)) rk) shapeCasts_S64x128_S1x1x64x128

def outDec (G : FVec F S64x128 .f32) : FVec F S1x1x8x128 .f32 :=
  shapeCast S1x1x8x128 (broadcastTo S8x128 (shapeCast S1x128 (exp (lastRow G)) shapeCasts_S1x128_S1x128) broadcasts_S1x128_S8x128) shapeCasts_S8x128_S1x1x8x128

def outP (sim : FVec F S128x128 .f32) (rq E : FVec F S64x128 .f32) : FVec F S1x1x128x256 .bf16 :=
  shapeCast S1x1x128x256 (lhs64 (scores sim rq E)) shapeCasts_S128x256_S1x1x128x256

def outT (sim : FVec F S128x128 .f32) (b rk E : FVec F S64x128 .f32) (br : Vec F S1x1x128 .f32) : FVec F S1x1x128x256 .bf16 :=
  shapeCast S1x1x128x256 (lhs64 (mulf (inverse (triA sim b rk E)) (broadcastTo S64x128 (shapeCast S1x128 br shapeCasts_S1x1x128_S1x128) broadcasts_S1x128_S64x128))) shapeCasts_S128x256_S1x1x128x256

/-! ## The recurrence -/

/-- A column block twice as wide. -/
def wide (x : Vec F S1x1x64x128 .f32) : FVec F S64x256 .f32 :=
  let y : FVec F S64x128 .f32 := shapeCast S64x128 x shapeCasts_S1x1x64x128_S64x128
  concatenate S64x256 1 [⟨S64x128, y⟩, ⟨S64x128, y⟩] concatenates_S64x128_S64x128_S64x256_d1

/-- The codes times the state. -/
def onState (kq : Vec F S1x1x128x256 .bf16) (s : Vec F S1x256x256 .f32) : FVec F S128x256 .f32 :=
  let a : FVec F S128x256 .bf16 := shapeCast S128x256 kq shapeCasts_S1x1x128x256_S128x256
  let x : FVec F S256x256 .f32 := shapeCast S256x256 s shapeCasts_S1x256x256_S256x256
  let h := top x
  let r := subf x h
  let m := top r
  let d := fun y : FVec F S256x256 .bf16 => matmul dot_S128x256_S256x256_S128x256_1_0_0_1_n_n none a y (constant S128x256 .f32 0x00000000#32)
  addf (addf (d (truncf .bf16 h bitsLt_bf16_f32)) (d (truncf .bf16 m bitsLt_bf16_f32))) (d (truncf .bf16 (subf r m) bitsLt_bf16_f32))

/-- The new values. -/
def newV (t : Vec F S1x1x128x256 .bf16) (s1 : Vec F S1x1x64x128 .f32) (v : Vec F S1x64x256 .bf16) (x : FVec F S128x256 .f32) : FVec F S64x256 .f32 :=
  prod64 (shapeCast S128x256 t shapeCasts_S1x1x128x256_S128x256)
    (subf (extf .f32 (shapeCast S64x256 v shapeCasts_S1x64x256_S64x256 : FVec F S64x256 .bf16) bitsLt_bf16_f32) (mulf (wide s1) (extractStridedSlice S64x256 ![0, 0] x slices_S128x256_o0_0_S64x256)))

/-- The outputs. -/
def outO (p : Vec F S1x1x128x256 .bf16) (sq : Vec F S1x1x64x128 .f32) (x : FVec F S128x256 .f32) (y : FVec F S64x256 .f32) : FVec F S1x64x256 .bf16 :=
  shapeCast S1x64x256 (truncf .bf16 (addf (mulf (wide sq) (extractStridedSlice S64x256 ![64, 0] x slices_S128x256_o64_0_S64x256)) (prod64 (shapeCast S128x256 p shapeCasts_S1x1x128x256_S128x256) y)) bitsLt_bf16_f32) shapeCasts_S64x256_S1x64x256

/-- The state after. -/
def outS (kt : Vec F S1x1x256x128 .bf16) (sd : Vec F S1x1x64x128 .f32) (dec : Vec F S1x1x1x128 .f32) (s : Vec F S1x256x256 .f32) (y : FVec F S64x256 .f32) : FVec F S1x256x256 .f32 :=
  let k : FVec F S256x128 .bf16 := shapeCast S256x128 kt shapeCasts_S1x1x256x128_S256x128
  let d : FVec F S1x128 .f32 := shapeCast S1x128 dec shapeCasts_S1x1x1x128_S1x128
  let w := mulf (wide sd) y
  let h := top w
  let r := subf w h
  let m := top r
  shapeCast S1x256x256 (addf
    (mulf (broadcastTo S256x256 (concatenate S1x256 1 [⟨S1x128, d⟩, ⟨S1x128, d⟩] concatenates_S1x128_S1x128_S1x256_d1) broadcasts_S1x256_S256x256) (shapeCast S256x256 s shapeCasts_S1x256x256_S256x256))
    (matmul dot_S256x256_S256x256_S256x256_1_0_0_1_n_n none (concatenate S256x256 1 [⟨S256x128, k⟩, ⟨S256x128, k⟩] concatenates_S256x128_S256x128_S256x256_d1)
      (concatenate S256x256 0 [⟨S64x256, truncf .bf16 h bitsLt_bf16_f32⟩, ⟨S64x256, truncf .bf16 m bitsLt_bf16_f32⟩, ⟨S64x256, truncf .bf16 (subf r m) bitsLt_bf16_f32⟩, ⟨S64x256, broadcast S64x256 (Scalar.ofBits .bf16 0x0000#16)⟩]
        concatenates_S64x256_S64x256_S64x256_S64x256_S256x256_d0)
      (constant S256x256 .f32 0x00000000#32))) shapeCasts_S256x256_S1x256x256

end Steps

end Cert.KernelIdeal.Hand

end
-- ==== Proof.DeltaRun.lean ====
/- The run of the kernel's body, read as the steps of the delta rule: what each window and each scratch is left with. -/
module

public import proofs.«01_k».proof.Proof.KernelIdealQuant
public import proofs.«01_k».proof.Proof.DeltaStage

@[expose] public noncomputable section

set_option maxRecDepth 100000
set_option synthInstance.maxHeartbeats 0
set_option maxHeartbeats 0

namespace Cert.KernelIdeal.Hand

open Idealize.ShloMosaic Idealize.ShloMosaic.TcCoe
open Cert.KernelIdeal Cert.KernelIdeal.Gen

variable {F : FTy → Type} [FloatOps F]

/-! ## Scratches by head and chunk -/

/-- A scratch of 4 heads and 2 chunks. -/
abbrev Sc (a b : ℕ) : Shape := ⟨4, ![4, 2, a, b]⟩

theorem inbCell (a b : ℕ) (h : Fin 4) (j : Fin 2) (d : Fin 4) : (![h.val, j.val, 0, 0] : Fin 4 → ℕ) d + (![1, 1, a, b] : Fin 4 → ℕ) d ≤ (Sc a b).size d := by
  fin_cases d
  · exact h.isLt
  · exact j.isLt
  · exact (Nat.zero_add a).le
  · exact (Nat.zero_add b).le

/-- The part of head `h` and chunk `j`. -/
abbrev cellR (a b : ℕ) (h : Fin 4) (j : Fin 2) : Rect (Sc a b) := Rect.unit (s := Sc a b) ![h.val, j.val, 0, 0] ![1, 1, a, b] (inbCell a b h j)

/-- One store per head and chunk, last first. -/
def cells {a b : ℕ} {e : EltTy} (R : (h : Fin 4) → (j : Fin 2) → (cellR a b h j).shape.Idx → Elt F e) : List (View.Piece (Elt F) (Sc a b) e) :=
  [⟨cellR a b 3 1, R 3 1⟩, ⟨cellR a b 2 1, R 2 1⟩, ⟨cellR a b 1 1, R 1 1⟩, ⟨cellR a b 0 1, R 0 1⟩,
   ⟨cellR a b 3 0, R 3 0⟩, ⟨cellR a b 2 0, R 2 0⟩, ⟨cellR a b 1 0, R 1 0⟩, ⟨cellR a b 0 0, R 0 0⟩]

theorem inbHead (a b : ℕ) (h : Fin 4) (d : Fin 3) : (![h.val, 0, 0] : Fin 3 → ℕ) d + (![1, a, b] : Fin 3 → ℕ) d ≤ (⟨3, ![4, a, b]⟩ : Shape).size d := by
  fin_cases d
  · exact h.isLt
  · exact (Nat.zero_add a).le
  · exact (Nat.zero_add b).le

/-- The part of head `h` of a table. -/
abbrev headR (a b : ℕ) (h : Fin 4) : Rect ⟨3, ![4, a, b]⟩ := Rect.unit (s := ⟨3, ![4, a, b]⟩) ![h.val, 0, 0] ![1, a, b] (inbHead a b h)

/-- The number of a point's chunk `j`. -/
def chunkNo (i : grid0.Coords) (j : Fin 2) : BitVec 32 := match j with | 0 => body_run.sl.v869 i | 1 => body_run.sl.v6663 i

section
variable (c : Dev nD) (i : grid0.Coords) (A1 A2 : Memref sig .tc .vmem S4x128x256 .bf16) (A4 A5 : Memref sig .tc .vmem S4x128x64 .f32)
  (A13 A14 : Memref sig .tc .vmem S4x64x128 .f32) (A15 A16 : Memref sig .tc .vmem S4x128x128 .f32)
  (f1 : Buf (Elt F) (A1.view.loc (c : Thread nD τ))) (f2 : Buf (Elt F) (A2.view.loc (c : Thread nD τ)))
  (f4 : Buf (Elt F) (A4.view.loc (c : Thread nD τ))) (f5 : Buf (Elt F) (A5.view.loc (c : Thread nD τ)))
  (f13 : Buf (Elt F) (A13.view.loc (c : Thread nD τ))) (f14 : Buf (Elt F) (A14.view.loc (c : Thread nD τ)))
  (f15 : Buf (Elt F) (A15.view.loc (c : Thread nD τ))) (f16 : Buf (Elt F) (A16.view.loc (c : Thread nD τ)))

/-- The running sums of a head's log decays: a row per chunk. -/
def sums (x : Vec F S1x128x64 .f32) : FVec F S128x128 .f32 := k0_pay30 k0_pay10 x
/-- The same turned: a lane per chunk. -/
def sumsT (x : Vec F S1x128x64 .f32) : FVec F S1x64x128 .f32 := k0_pay32 k0_pay10 x

/-- The stores of the turned sums. -/
def sumStoresT (x : Vec F S4x128x64 .f32) : List (View.Piece (Elt F) S4x64x128 .f32) :=
  [⟨headR 64 128 3, sumsT (View.ld x (headR 128 64 3))⟩, ⟨headR 64 128 2, sumsT (View.ld x (headR 128 64 2))⟩,
   ⟨headR 64 128 1, sumsT (View.ld x (headR 128 64 1))⟩, ⟨headR 64 128 0, sumsT (View.ld x (headR 128 64 0))⟩]

theorem sumStoresT_eq : (⟨Rect.unit (s := S4x64x128) ![3, 0, 0] S1x64x128.size inb_S4x64x128_S1x64x128_3_0_0, k0_pay32 k0_pay10
    (View.readAt (Elt F) A4.view (Rect.unit (s := S4x128x64) ![3, 0, 0] S1x128x64.size inb_S4x128x64_S1x128x64_3_0_0).toLoadRect f4)⟩ :: body_run.sl.H13_3 c A4 f4) = sumStoresT (A4.view.read (Elt F) f4) := rfl

theorem codes_scratch : body_run.sl.H17_8 c A1 A2 f1 f2 = cells (a := 128) (b := 256) (e := .bf16) (fun h j => outKQ (chunkV (A2.view.read (Elt F) f2) h j) (chunkV (A1.view.read (Elt F) f1) h j)) := rfl
theorem turned_scratch : body_run.sl.H18_8 c A2 f2 = cells (a := 256) (b := 128) (e := .bf16) (fun h j => outKT (chunkV (A2.view.read (Elt F) f2) h j)) := rfl

/-- The turned sums as a point finds them. -/
abbrev tabT : Buf (Elt F) (A13.view.loc (c : Thread nD τ)) :=
  if hc : body_run.sl.v28 i = 1#1 then A13.view.writes (Elt F) f13 (sumStoresT (A4.view.read (Elt F) f4)) else f13

/-- A chunk's running sums, in every lane. -/
def sumOf (h : Fin 4) (j : Fin 2) : FVec F S64x128 .f32 := pickLane (chunkNo i j) (A13.view.readAt (Elt F) (headR 64 128 h).toLoadRect (tabT c i A4 A13 f4 f13))

theorem dec_scratch : body_run.sl.H24_8 c i A4 A13 f4 f13 = cells (a := 8) (b := 128) (e := .f32) (fun h j => outDec (sumOf c i A4 A13 f4 f13 h j)) := rfl
theorem s1_scratch : body_run.sl.H21_8 c i A2 A4 A13 f2 f4 f13 = cells (a := 64) (b := 128) (e := .f32) (fun h j => outS1 (sumOf c i A4 A13 f4 f13 h j) (rNorm (chunkV (A2.view.read (Elt F) f2) h j) (scl (chunkV (A2.view.read (Elt F) f2) h j)))) := rfl
theorem sq_scratch : body_run.sl.H22_8 c i A1 A4 A13 f1 f4 f13 = cells (a := 64) (b := 128) (e := .f32) (fun h j => outS1 (sumOf c i A4 A13 f4 f13 h j) (rNorm (chunkV (A1.view.read (Elt F) f1) h j) (sclQ (chunkV (A1.view.read (Elt F) f1) h j)))) := rfl
theorem sd_scratch : body_run.sl.H23_8 c i A2 A4 A13 f2 f4 f13 = cells (a := 64) (b := 128) (e := .f32) (fun h j => outSD (sumOf c i A4 A13 f4 f13 h j) (rNorm (chunkV (A2.view.read (Elt F) f2) h j) (scl (chunkV (A2.view.read (Elt F) f2) h j)))) := rfl

/-- Where the row of a head's chunk lies. -/
def rowOff (h : Fin 4) (j : Fin 2) : Fin 3 → ℕ := match h with
  | 0 => k0_off1 i (BitVec.ofNat 32 j.val) | 1 => k0_off2 i (BitVec.ofNat 32 j.val) | 2 => k0_off3 i (BitVec.ofNat 32 j.val) | 3 => k0_off4 i (BitVec.ofNat 32 j.val)

theorem inbRowOff (h : Fin 4) (j : Fin 2) (a : Fin 3) : rowOff i h j a + S1x1x128.size a ≤ S4x128x128.size a :=
  match h with
  | 0 => k0_off1_inb i j a | 1 => k0_off2_inb i j a | 2 => k0_off3_inb i j a | 3 => k0_off4_inb i j a

/-- The row of a head's chunk in a table. -/
abbrev rowOffR (h : Fin 4) (j : Fin 2) : Rect S4x128x128 := Rect.unit (s := S4x128x128) (rowOff i h j) S1x1x128.size (inbRowOff i h j)

/-- The stores of the sums. -/
def sumStores (x : Vec F S4x128x64 .f32) : List (View.Piece (Elt F) S4x128x128 .f32) :=
  let p := fun h => (shapeCast S1x128x128 (sums (View.ld x (headR 128 64 h))) shapeCasts_S128x128_S1x128x128 : FVec F S1x128x128 .f32)
  [⟨headR 128 128 3, p 3⟩, ⟨headR 128 128 2, p 2⟩, ⟨headR 128 128 1, p 1⟩, ⟨headR 128 128 0, p 0⟩]

/-- The rates of a head, each row twice. -/
def twice (x : Vec F S1x128x64 .f32) : FVec F S128x128 .f32 := k0_pay33 x x
/-- The stores of the rates. -/
def rateStores (x : Vec F S4x128x64 .f32) : List (View.Piece (Elt F) S4x128x128 .f32) :=
  let p := fun h => (shapeCast S1x128x128 (twice (View.ld x (headR 128 64 h))) shapeCasts_S128x128_S1x128x128 : FVec F S1x128x128 .f32)
  [⟨headR 128 128 3, p 3⟩, ⟨headR 128 128 2, p 2⟩, ⟨headR 128 128 1, p 1⟩, ⟨headR 128 128 0, p 0⟩]
/-- The stores of the turned rates. -/
def rateStoresT (x : Vec F S4x128x64 .f32) : List (View.Piece (Elt F) S4x64x128 .f32) :=
  let p := fun h => (k0_pay29 (twice (View.ld x (headR 128 64 h))))
  [⟨headR 64 128 3, p 3⟩, ⟨headR 64 128 2, p 2⟩, ⟨headR 64 128 1, p 1⟩, ⟨headR 64 128 0, p 0⟩]

abbrev tab15 : Buf (Elt F) (A15.view.loc (c : Thread nD τ)) :=
  if hc : body_run.sl.v28 i = 1#1 then A15.view.writes (Elt F) f15 (sumStores (A4.view.read (Elt F) f4)) else f15
abbrev tab14 : Buf (Elt F) (A14.view.loc (c : Thread nD τ)) :=
  if hc : body_run.sl.v28 i = 1#1 then A14.view.writes (Elt F) f14 (rateStoresT (A5.view.read (Elt F) f5)) else f14
abbrev tab16 : Buf (Elt F) (A16.view.loc (c : Thread nD τ)) :=
  if hc : body_run.sl.v28 i = 1#1 then A16.view.writes (Elt F) f16 (rateStores (A5.view.read (Elt F) f5)) else f16

/-- A chunk's rates, in every lane. -/
def rateOf (h : Fin 4) (j : Fin 2) : FVec F S64x128 .f32 := pickLane (chunkNo i j) (A14.view.readAt (Elt F) (headR 64 128 h).toLoadRect (tab14 c i A5 A14 f5 f14))
/-- A chunk's decays times the columns' norms. -/
def decOf (h : Fin 4) (j : Fin 2) : FVec F S64x128 .f32 :=
  decayN (sumOf c i A4 A13 f4 f13 h j) (A15.view.readAt (Elt F) (rowOffR i h j).toLoadRect (tab15 c i A4 A15 f4 f15))
    (rNorm (chunkV (A2.view.read (Elt F) f2) h j) (scl (chunkV (A2.view.read (Elt F) f2) h j)))
/-- A chunk's products of codes. -/
def simOf (h : Fin 4) (j : Fin 2) : FVec F S128x128 .f32 := sims (cds (chunkV (A2.view.read (Elt F) f2) h j)) (cds (chunkV (A1.view.read (Elt F) f1) h j))

theorem p_scratch : body_run.sl.H20_8 c i A1 A2 A4 A13 A15 f1 f2 f4 f13 f15 = cells (a := 128) (b := 256) (e := .bf16) (fun h j =>
    outP (simOf c A1 A2 f1 f2 h j) (rNorm (chunkV (A1.view.read (Elt F) f1) h j) (sclQ (chunkV (A1.view.read (Elt F) f1) h j))) (decOf c i A2 A4 A13 A15 f2 f4 f13 f15 h j)) := rfl

/-- A chunk's triangular matrix. -/
def triOf (h : Fin 4) (j : Fin 2) : FVec F S64x128 .f32 :=
  triA (simOf c A1 A2 f1 f2 h j) (rateOf c i A5 A14 f5 f14 h j) (rNorm (chunkV (A2.view.read (Elt F) f2) h j) (scl (chunkV (A2.view.read (Elt F) f2) h j))) (decOf c i A2 A4 A13 A15 f2 f4 f13 f15 h j)

/-- What a chunk leaves of the inverse, from its triangular matrix. -/
def tCell (A : Fin 4 → Fin 2 → FVec F S64x128 .f32) (h : Fin 4) (j : Fin 2) : FVec F S1x1x128x256 .bf16 :=
  shapeCast S1x1x128x256 (lhs64 (mulf (inverse (A h j)) (broadcastTo S64x128 (shapeCast S1x128 (A16.view.readAt (Elt F) (rowOffR i h j).toLoadRect (tab16 c i A5 A16 f5 f16)) shapeCasts_S1x1x128_S1x128) broadcasts_S1x128_S64x128))) shapeCasts_S128x256_S1x1x128x256

/-- The triangular matrices of the run. -/
def triRun (h : Fin 4) (j : Fin 2) : FVec F S64x128 .f32 := match h, j with
  | 0, 0 => body_run.sl.r_153 c i A1 A2 A4 A5 A13 A14 A15 f1 f2 f4 f5 f13 f14 f15
  | 1, 0 => body_run.sl.r_175 c i A1 A2 A4 A5 A13 A14 A15 f1 f2 f4 f5 f13 f14 f15
  | 2, 0 => body_run.sl.r_197 c i A1 A2 A4 A5 A13 A14 A15 f1 f2 f4 f5 f13 f14 f15
  | 3, 0 => body_run.sl.r_223 c i A1 A2 A4 A5 A13 A14 A15 f1 f2 f4 f5 f13 f14 f15
  | 0, 1 => body_run.sl.r_441 c i A1 A2 A4 A5 A13 A14 A15 f1 f2 f4 f5 f13 f14 f15
  | 1, 1 => body_run.sl.r_466 c i A1 A2 A4 A5 A13 A14 A15 f1 f2 f4 f5 f13 f14 f15
  | 2, 1 => body_run.sl.r_488 c i A1 A2 A4 A5 A13 A14 A15 f1 f2 f4 f5 f13 f14 f15
  | 3, 1 => body_run.sl.r_510 c i A1 A2 A4 A5 A13 A14 A15 f1 f2 f4 f5 f13 f14 f15

theorem triRun_eq (h : Fin 4) (j : Fin 2) : triRun c i A1 A2 A4 A5 A13 A14 A15 f1 f2 f4 f5 f13 f14 f15 h j = triOf c i A1 A2 A4 A5 A13 A14 A15 f1 f2 f4 f5 f13 f14 f15 h j :=
  match h, j with
  | 0, 0 => rfl | 1, 0 => rfl | 2, 0 => rfl | 3, 0 => rfl | 0, 1 => rfl | 1, 1 => rfl | 2, 1 => rfl | 3, 1 => rfl

theorem t_scratch : ⟨Rect.unit (s := S4x2x128x256) ![3, 1, 0, 0] S1x1x128x256.size inb_S4x2x128x256_S1x1x128x256_3_1_0_0,
      k0_pay1 (body_run.sl.r_437 c i A5 A16 f5 f16) (body_run.sl.r_564 c i A1 A2 A4 A5 A13 A14 A15 f1 f2 f4 f5 f13 f14 f15) (body_run.sl.r_585 c i A1 A2 A4 A5 A13 A14 A15 f1 f2 f4 f5 f13 f14 f15) (body_run.sl.r_586 c i A1 A2 A4 A5 A13 A14 A15 f1 f2 f4 f5 f13 f14 f15) (body_run.sl.r_587 c i A1 A2 A4 A5 A13 A14 A15 f1 f2 f4 f5 f13 f14 f15) (body_run.sl.r_588 c i A1 A2 A4 A5 A13 A14 A15 f1 f2 f4 f5 f13 f14 f15)⟩ ::
    ⟨Rect.unit (s := S4x2x128x256) ![2, 1, 0, 0] S1x1x128x256.size inb_S4x2x128x256_S1x1x128x256_2_1_0_0,
      k0_pay1125 (body_run.sl.r_583 c i A1 A2 A4 A5 A13 A14 A15 f1 f2 f4 f5 f13 f14 f15) (body_run.sl.r_584 c i A5 A16 f5 f16)⟩ ::
    body_run.sl.H19_6 c i A1 A2 A4 A5 A13 A14 A15 A16 f1 f2 f4 f5 f13 f14 f15 f16 = cells (a := 128) (b := 256) (e := .bf16) (tCell c i A5 A16 f5 f16 (triRun c i A1 A2 A4 A5 A13 A14 A15 f1 f2 f4 f5 f13 f14 f15)) := rfl
end

/-! ## The recurrence -/

theorem inbState (h : Fin 4) (n : Fin 2) (d : Fin 3) : (![h.val, 0, 256 * n.val] : Fin 3 → ℕ) d + S1x256x256.size d ≤ S4x256x512.size d := by
  revert h n d; decide
theorem inbOut (h : Fin 4) (j n : Fin 2) (d : Fin 3) : (![h.val, 64 * j.val, 256 * n.val] : Fin 3 → ℕ) d + S1x64x256.size d ≤ S4x128x512.size d := by
  revert h j n d; decide

/-- One half of a head's state. -/
abbrev stateR (h : Fin 4) (n : Fin 2) : Rect S4x256x512 := Rect.unit (s := S4x256x512) ![h.val, 0, 256 * n.val] S1x256x256.size (inbState h n)
/-- One half of a chunk's values. -/
abbrev outR (h : Fin 4) (j n : Fin 2) : Rect S4x128x512 := Rect.unit (s := S4x128x512) ![h.val, 64 * j.val, 256 * n.val] S1x64x256.size (inbOut h j n)

/-- The halves, in the order they are stored. -/
def halves : List (Fin 4 × Fin 2) := [(0, 0), (0, 1), (1, 0), (1, 1), (2, 0), (2, 1), (3, 0), (3, 1)]

/-- One store per half. -/
def stateStores (R : (h : Fin 4) → (n : Fin 2) → (stateR h n).shape.Idx → Elt F .f32) (L : List (View.Piece (Elt F) S4x256x512 .f32)) : List (View.Piece (Elt F) S4x256x512 .f32) :=
  halves.foldl (fun L k => ⟨stateR k.1 k.2, R k.1 k.2⟩ :: L) L

section
variable (c : Dev nD) (i : grid0.Coords) (A3 A7 : Memref sig .tc .vmem S4x128x512 .bf16) (A6 A8 : Memref sig .tc .vmem S4x256x512 .f32)
  (A17 : Memref sig .tc .vmem S4x2x128x256 .bf16) (A18 : Memref sig .tc .vmem S4x2x256x128 .bf16)
  (A19 A20 : Memref sig .tc .vmem S4x2x128x256 .bf16) (A21 A22 A23 : Memref sig .tc .vmem S4x2x64x128 .f32) (A24 : Memref sig .tc .vmem S4x2x8x128 .f32)
  (f3 : Buf (Elt F) (A3.view.loc (c : Thread nD τ))) (f6 : Buf (Elt F) (A6.view.loc (c : Thread nD τ))) (f8 : Buf (Elt F) (A8.view.loc (c : Thread nD τ)))
  (f17 : Buf (Elt F) (A17.view.loc (c : Thread nD τ))) (f18 : Buf (Elt F) (A18.view.loc (c : Thread nD τ))) (f19 : Buf (Elt F) (A19.view.loc (c : Thread nD τ)))
  (f20 : Buf (Elt F) (A20.view.loc (c : Thread nD τ))) (f21 : Buf (Elt F) (A21.view.loc (c : Thread nD τ))) (f22 : Buf (Elt F) (A22.view.loc (c : Thread nD τ)))
  (f23 : Buf (Elt F) (A23.view.loc (c : Thread nD τ))) (f24 : Buf (Elt F) (A24.view.loc (c : Thread nD τ)))

theorem inbAll (a b : ℕ) (d : Fin 4) : (![0, 0, 0, 0] : Fin 4 → ℕ) d + (Sc a b).size d ≤ (Sc a b).size d := by
  fin_cases d <;> exact (Nat.zero_add _).le

/-- A scratch, cleared at the first point. -/
abbrev cleared {a b : ℕ} {e : EltTy} (A : Memref sig .tc .vmem (Sc a b) e) (f : Buf (Elt F) (A.view.loc (c : Thread nD τ))) (z : Vec F (Sc a b) e) : Buf (Elt F) (A.view.loc (c : Thread nD τ)) :=
  if hc : body_run.sl.v25 i = 1#1 then A.view.writes (Elt F) f [⟨Rect.unit (s := Sc a b) ![0, 0, 0, 0] (Sc a b).size (inbAll a b), z⟩] else f

/-- A head's chunk of a scratch, as the recurrence reads it. -/
abbrev cellOf {a b : ℕ} {e : EltTy} (A : Memref sig .tc .vmem (Sc a b) e) (f : Buf (Elt F) (A.view.loc (c : Thread nD τ))) (z : Vec F (Sc a b) e) (h : Fin 4) (j : Fin 2) :
    (cellR a b h j).toLoadRect.shape.Idx → Elt F e := A.view.readAt (Elt F) (cellR a b h j).toLoadRect (cleared c i A f z)

/-- The state before a block. -/
abbrev stateIn : Buf (Elt F) (A8.view.loc (c : Thread nD τ)) :=
  if hc : body_run.sl.v31 i = 1#1 then A8.view.writes (Elt F) f8 [⟨Rect.unit (s := S4x256x512) ![0, 0, 0] S4x256x512.size inb_S4x256x512_S4x256x512_0_0_0,
    k0_pay39 (View.readAt (Elt F) A6.view (Rect.unit (s := S4x256x512) ![0, 0, 0] S4x256x512.size inb_S4x256x512_S4x256x512_0_0_0).toLoadRect f6)⟩] else f8

/-- A chunk's products of codes and state. -/
def onOf (h : Fin 4) (j : Fin 2) (s : Vec F S1x256x256 .f32) : FVec F S128x256 .f32 := onState (cellOf c i A17 f17 k0_pay2 h j) s
/-- Its new values. -/
def newOf (h : Fin 4) (j n : Fin 2) (s : Vec F S1x256x256 .f32) : FVec F S64x256 .f32 :=
  newV (cellOf c i A19 f19 k0_pay4 h j) (cellOf c i A21 f21 k0_pay6 h j) (View.ld (A3.view.read (Elt F) f3) (outR h j n)) (onOf c i A17 f17 h j s)

theorem inbDec (h : Fin 4) (j : Fin 2) (d : Fin 4) : (![h.val, j.val, 0, 0] : Fin 4 → ℕ) d + S1x1x1x128.size d ≤ S4x2x8x128.size d := by
  revert h j d; decide

/-- A chunk's decay. -/
def decLast (h : Fin 4) (j : Fin 2) : Vec F S1x1x1x128 .f32 :=
  A24.view.readAt (Elt F) (Rect.unit (s := S4x2x8x128) ![h.val, j.val, 0, 0] S1x1x1x128.size (inbDec h j)).toLoadRect (cleared c i A24 f24 k0_pay37)

/-- The state after a chunk; `x` is the state before it, and so is `s`. -/
def stOf (h : Fin 4) (j n : Fin 2) (x s : Vec F S1x256x256 .f32) : FVec F S1x256x256 .f32 :=
  outS (cellOf c i A18 f18 k0_pay3 h j) (cellOf c i A23 f23 k0_pay36 h j) (decLast c i A24 f24 h j) s (newOf c i A3 A17 A19 A21 f3 f17 f19 f21 h j n x)

/-- A chunk's outputs. -/
def oOf (h : Fin 4) (j n : Fin 2) (x : Vec F S1x256x256 .f32) : FVec F S1x64x256 .bf16 :=
  outO (cellOf c i A20 f20 k0_pay5 h j) (cellOf c i A22 f22 k0_pay7 h j) (onOf c i A17 f17 h j x) (newOf c i A3 A17 A19 A21 f3 f17 f19 f21 h j n x)

/-- The stores of the first chunk's states. -/
def stores0 : List (View.Piece (Elt F) S4x256x512 .f32) :=
  stateStores (fun h n => let s := A8.view.readAt (Elt F) (stateR h n).toLoadRect (stateIn c i A6 A8 f6 f8)
    stOf c i A3 A17 A18 A19 A21 A23 A24 f3 f17 f18 f19 f21 f23 f24 h 0 n s s) []

theorem state_first : body_run.sl.H8_8 c i A3 A6 A8 A17 A18 A19 A21 A23 A24 f3 f6 f8 f17 f18 f19 f21 f23 f24 =
    stores0 c i A3 A6 A8 A17 A18 A19 A21 A23 A24 f3 f6 f8 f17 f18 f19 f21 f23 f24 := rfl

/-- The state between a block's chunks. -/
abbrev stateMid (h : Fin 4) (n : Fin 2) : (stateR h n).shape.Idx → Elt F .f32 :=
  A8.view.readCov (stores0 c i A3 A6 A8 A17 A18 A19 A21 A23 A24 f3 f6 f8 f17 f18 f19 f21 f23 f24) (stateR h n).toLoadRect

/-- One more store of the second chunk's states. -/
def pushState (k : Fin 4 × Fin 2) (L : List (View.Piece (Elt F) S4x256x512 .f32)) : List (View.Piece (Elt F) S4x256x512 .f32) :=
  ⟨stateR k.1 k.2, stOf c i A3 A17 A18 A19 A21 A23 A24 f3 f17 f18 f19 f21 f23 f24 k.1 1 k.2 (stateMid c i A3 A6 A8 A17 A18 A19 A21 A23 A24 f3 f6 f8 f17 f18 f19 f21 f23 f24 k.1 k.2) (A8.view.readCov L (stateR k.1 k.2).toLoadRect)⟩ :: L

/-- The stores after the second chunk. -/
def stores1 : List (View.Piece (Elt F) S4x256x512 .f32) := halves.foldl (fun L k => pushState c i A3 A6 A8 A17 A18 A19 A21 A23 A24 f3 f6 f8 f17 f18 f19 f21 f23 f24 k L) (stores0 c i A3 A6 A8 A17 A18 A19 A21 A23 A24 f3 f6 f8 f17 f18 f19 f21 f23 f24)

theorem state_second : body_run.sl.H8_16 c i A3 A6 A8 A17 A18 A19 A21 A23 A24 f3 f6 f8 f17 f18 f19 f21 f23 f24 = stores1 c i A3 A6 A8 A17 A18 A19 A21 A23 A24 f3 f6 f8 f17 f18 f19 f21 f23 f24 :=
  (show body_run.sl.H8_16 c i A3 A6 A8 A17 A18 A19 A21 A23 A24 f3 f6 f8 f17 f18 f19 f21 f23 f24 = pushState c i A3 A6 A8 A17 A18 A19 A21 A23 A24 f3 f6 f8 f17 f18 f19 f21 f23 f24 (3, 1) (body_run.sl.H8_15 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (3, 1)) <|
  (show body_run.sl.H8_15 c i A3 A6 A8 A17 A18 A19 A21 A23 A24 f3 f6 f8 f17 f18 f19 f21 f23 f24 = pushState c i A3 A6 A8 A17 A18 A19 A21 A23 A24 f3 f6 f8 f17 f18 f19 f21 f23 f24 (3, 0) (body_run.sl.H8_14 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (3, 0)) <|
  (show body_run.sl.H8_14 c i A3 A6 A8 A17 A18 A19 A21 A23 A24 f3 f6 f8 f17 f18 f19 f21 f23 f24 = pushState c i A3 A6 A8 A17 A18 A19 A21 A23 A24 f3 f6 f8 f17 f18 f19 f21 f23 f24 (2, 1) (body_run.sl.H8_13 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (2, 1)) <|
  (show body_run.sl.H8_13 c i A3 A6 A8 A17 A18 A19 A21 A23 A24 f3 f6 f8 f17 f18 f19 f21 f23 f24 = pushState c i A3 A6 A8 A17 A18 A19 A21 A23 A24 f3 f6 f8 f17 f18 f19 f21 f23 f24 (2, 0) (body_run.sl.H8_12 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (2, 0)) <|
  (show body_run.sl.H8_12 c i A3 A6 A8 A17 A18 A19 A21 A23 A24 f3 f6 f8 f17 f18 f19 f21 f23 f24 = pushState c i A3 A6 A8 A17 A18 A19 A21 A23 A24 f3 f6 f8 f17 f18 f19 f21 f23 f24 (1, 1) (body_run.sl.H8_11 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (1, 1)) <|
  (show body_run.sl.H8_11 c i A3 A6 A8 A17 A18 A19 A21 A23 A24 f3 f6 f8 f17 f18 f19 f21 f23 f24 = pushState c i A3 A6 A8 A17 A18 A19 A21 A23 A24 f3 f6 f8 f17 f18 f19 f21 f23 f24 (1, 0) (body_run.sl.H8_10 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (1, 0)) <|
  (show body_run.sl.H8_10 c i A3 A6 A8 A17 A18 A19 A21 A23 A24 f3 f6 f8 f17 f18 f19 f21 f23 f24 = pushState c i A3 A6 A8 A17 A18 A19 A21 A23 A24 f3 f6 f8 f17 f18 f19 f21 f23 f24 (0, 1) (body_run.sl.H8_9 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (0, 1)) <|
  (show body_run.sl.H8_9 c i A3 A6 A8 A17 A18 A19 A21 A23 A24 f3 f6 f8 f17 f18 f19 f21 f23 f24 = pushState c i A3 A6 A8 A17 A18 A19 A21 A23 A24 f3 f6 f8 f17 f18 f19 f21 f23 f24 (0, 0) (body_run.sl.H8_8 c i A3 A6 A8 A17 A18 A19 A21 A23 A24 f3 f6 f8 f17 f18 f19 f21 f23 f24) from rfl).trans <| congrArg (pushState c i A3 A6 A8 A17 A18 A19 A21 A23 A24 f3 f6 f8 f17 f18 f19 f21 f23 f24 (0, 0)) <|
  state_first c i A3 A6 A8 A17 A18 A19 A21 A23 A24 f3 f6 f8 f17 f18 f19 f21 f23 f24

/-- The state before a chunk, in halves. -/
def stateAt (h : Fin 4) (j n : Fin 2) : (stateR h n).shape.Idx → Elt F .f32 := match j with
  | 0 => A8.view.readAt (Elt F) (stateR h n).toLoadRect (stateIn c i A6 A8 f6 f8)
  | 1 => stateMid c i A3 A6 A8 A17 A18 A19 A21 A23 A24 f3 f6 f8 f17 f18 f19 f21 f23 f24 h n

/-- One more store of a block's outputs. -/
def pushOut (j : Fin 2) (k : Fin 4 × Fin 2) (L : List (View.Piece (Elt F) S4x128x512 .bf16)) : List (View.Piece (Elt F) S4x128x512 .bf16) :=
  ⟨outR k.1 j k.2, oOf c i A3 A17 A19 A20 A21 A22 f3 f17 f19 f20 f21 f22 k.1 j k.2 (stateAt c i A3 A6 A8 A17 A18 A19 A21 A23 A24 f3 f6 f8 f17 f18 f19 f21 f23 f24 k.1 j k.2)⟩ :: L

theorem outs_run : body_run.sl.H7_16 c i A3 A6 A8 A17 A18 A19 A20 A21 A22 A23 A24 f3 f6 f8 f17 f18 f19 f20 f21 f22 f23 f24 = halves.foldl (fun L k => pushOut c i A3 A6 A8 A17 A18 A19 A20 A21 A22 A23 A24 f3 f6 f8 f17 f18 f19 f20 f21 f22 f23 f24 1 k L) (halves.foldl (fun L k => pushOut c i A3 A6 A8 A17 A18 A19 A20 A21 A22 A23 A24 f3 f6 f8 f17 f18 f19 f20 f21 f22 f23 f24 0 k L) []) :=
  (show body_run.sl.H7_16 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (3, 1) (body_run.sl.H7_15 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (3, 1)) <|
  (show body_run.sl.H7_15 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (3, 0) (body_run.sl.H7_14 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (3, 0)) <|
  (show body_run.sl.H7_14 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (2, 1) (body_run.sl.H7_13 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (2, 1)) <|
  (show body_run.sl.H7_13 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (2, 0) (body_run.sl.H7_12 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (2, 0)) <|
  (show body_run.sl.H7_12 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (1, 1) (body_run.sl.H7_11 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (1, 1)) <|
  (show body_run.sl.H7_11 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (1, 0) (body_run.sl.H7_10 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (1, 0)) <|
  (show body_run.sl.H7_10 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (0, 1) (body_run.sl.H7_9 c i A3 A6 A8 A17 A18 A19 A20 A21 A22 A23 A24 f3 f6 f8 f17 f18 f19 f20 f21 f22 f23 f24) from rfl).trans <| congrArg (pushOut c i A3 A6 A8 A17 A18 A19 A20 A21 A22 A23 A24 f3 f6 f8 f17 f18 f19 f20 f21 f22 f23 f24 1 (0, 1)) <|
  (show body_run.sl.H7_9 c i A3 A6 A8 A17 A18 A19 A20 A21 A22 A23 A24 f3 f6 f8 f17 f18 f19 f20 f21 f22 f23 f24 = pushOut c i A3 A6 A8 A17 A18 A19 A20 A21 A22 A23 A24 f3 f6 f8 f17 f18 f19 f20 f21 f22 f23 f24 1 (0, 0) (body_run.sl.H7_8 c i A3 A6 A8 A17 A19 A20 A21 A22 f3 f6 f8 f17 f19 f20 f21 f22) from rfl).trans <| congrArg (pushOut c i A3 A6 A8 A17 A18 A19 A20 A21 A22 A23 A24 f3 f6 f8 f17 f18 f19 f20 f21 f22 f23 f24 1 (0, 0)) <|
  (show body_run.sl.H7_8 c i A3 A6 A8 A17 A19 A20 A21 A22 f3 f6 f8 f17 f19 f20 f21 f22 = halves.foldl (fun L k => pushOut c i A3 A6 A8 A17 A18 A19 A20 A21 A22 A23 A24 f3 f6 f8 f17 f18 f19 f20 f21 f22 f23 f24 0 k L) [] from rfl)
end

end Cert.KernelIdeal.Hand

end
-- ==== Proof.DeltaReads.lean ====
/- Reading back what a run of stores through disjoint parts left. -/
module

public import proofs.«01_k».proof.Proof.DeltaRun

@[expose] public noncomputable section

set_option maxRecDepth 100000
set_option synthInstance.maxHeartbeats 0

namespace Cert.KernelIdeal.Hand

open Idealize.ShloMosaic Idealize.ShloMosaic.TcCoe
open Cert.KernelIdeal Cert.KernelIdeal.Gen

variable {F : FTy → Type} [FloatOps F]

theorem emb_mem {s : Shape} (r : Rect s) (x : r.shape.Idx) : r.emb x ∈ r.set := r.map_emb_univ ▸ Finset.mem_map_of_mem r.emb (Finset.mem_univ x)

/-! ## Stores that each change their own part -/

section Fold
variable {sg : RefSig} {κ : Kind} {sp : Space} {s : Shape} {e : EltTy} {K : Type} [DecidableEq K]
  (v : View sg κ sp s e) (rect : K → Rect s) (P : (k : K) → ((rect k).shape.Idx → Elt F e) → (rect k).shape.Idx → Elt F e)

/-- One more store, of the part `k` changed by `P`. -/
def change (L : List (View.Piece (Elt F) s e)) (k : K) : List (View.Piece (Elt F) s e) := ⟨rect k, P k (v.readCov L (rect k).toLoadRect)⟩ :: L

theorem readAt_hit (f : v.ty.Contents (Elt F)) (r : Rect s) (w : r.shape.Idx → Elt F e) (L : List (View.Piece (Elt F) s e)) :
    v.readAt (Elt F) r.toLoadRect (v.writes (Elt F) f (⟨r, w⟩ :: L)) = w := funext fun x => View.read_writes_cons_emb v f r w L x

theorem readAt_miss (f : v.ty.Contents (Elt F)) (r r' : Rect s) (w : r'.shape.Idx → Elt F e) (L : List (View.Piece (Elt F) s e)) (h : Disjoint r.set r'.set) :
    v.readAt (Elt F) r.toLoadRect (v.writes (Elt F) f (⟨r', w⟩ :: L)) = v.readAt (Elt F) r.toLoadRect (v.writes (Elt F) f L) :=
  funext fun x => View.read_writes_cons_miss v f ⟨r', w⟩ L _ (fun hy => Finset.disjoint_left.mp h (emb_mem r x) hy)

variable (hd : ∀ k k', k ≠ k' → Disjoint (rect k).set (rect k').set)

include hd in
theorem change_miss (f : v.ty.Contents (Elt F)) (k : K) : ∀ (ks : List K) (L : List (View.Piece (Elt F) s e)), k ∉ ks →
    v.readAt (Elt F) (rect k).toLoadRect (v.writes (Elt F) f (ks.foldl (change v rect P) L)) = v.readAt (Elt F) (rect k).toLoadRect (v.writes (Elt F) f L)
  | [], _, _ => rfl
  | k' :: ks, L, h => (change_miss f k ks _ fun hk => h (List.mem_cons_of_mem _ hk)).trans
      (readAt_miss v f (rect k) (rect k') _ L (hd k k' fun e => h (e ▸ List.mem_cons_self)))

include hd in
theorem change_hit (f : v.ty.Contents (Elt F)) (k : K) : ∀ (ks : List K) (L : List (View.Piece (Elt F) s e)), ks.Nodup → k ∈ ks →
    v.readAt (Elt F) (rect k).toLoadRect (v.writes (Elt F) f (ks.foldl (change v rect P) L)) = P k (v.readCov L (rect k).toLoadRect)
  | [], _, _, h => absurd h List.not_mem_nil
  | k' :: ks, L, hn, h => by
    obtain ⟨hn', hn⟩ := List.nodup_cons.mp hn
    by_cases hk : k = k'
    · subst hk
      exact (change_miss v rect P hd f k ks _ hn').trans (readAt_hit v f (rect k) _ L)
    · refine (change_hit f k ks _ hn ((List.mem_cons.mp h).resolve_left hk)).trans (congrArg (P k) ?_)
      exact readAt_miss v v.junk (rect k) (rect k') _ L (hd k k' hk)
end Fold

theorem state_disjoint (k k' : Fin 4 × Fin 2) (h : k ≠ k') : Disjoint (stateR k.1 k.2).set (stateR k'.1 k'.2).set := by
  by_cases h1 : k.1 = k'.1
  · have h2 : k.2.val ≠ k'.2.val := fun e => h (Prod.ext h1 (Fin.ext e))
    refine Rect.unit_disjoint (inb := inbState k.1 k.2) (inb' := inbState k'.1 k'.2) 2 ?_
    show 256 * k.2.val + 256 ≤ 256 * k'.2.val ∨ 256 * k'.2.val + 256 ≤ 256 * k.2.val
    omega
  · have h2 : k.1.val ≠ k'.1.val := fun e => h1 (Fin.ext e)
    refine Rect.unit_disjoint (inb := inbState k.1 k.2) (inb' := inbState k'.1 k'.2) 0 ?_
    show k.1.val + 1 ≤ k'.1.val ∨ k'.1.val + 1 ≤ k.1.val
    omega

theorem out_disjoint (k k' : Fin 2 × Fin 4 × Fin 2) (h : k ≠ k') : Disjoint (outR k.2.1 k.1 k.2.2).set (outR k'.2.1 k'.1 k'.2.2).set := by
  by_cases h0 : k.1 = k'.1
  · by_cases h1 : k.2.1 = k'.2.1
    · have h2 : k.2.2.val ≠ k'.2.2.val := fun e => h (Prod.ext h0 (Prod.ext h1 (Fin.ext e)))
      refine Rect.unit_disjoint (inb := inbOut k.2.1 k.1 k.2.2) (inb' := inbOut k'.2.1 k'.1 k'.2.2) 2 ?_
      show 256 * k.2.2.val + 256 ≤ 256 * k'.2.2.val ∨ 256 * k'.2.2.val + 256 ≤ 256 * k.2.2.val
      omega
    · have h2 : k.2.1.val ≠ k'.2.1.val := fun e => h1 (Fin.ext e)
      refine Rect.unit_disjoint (inb := inbOut k.2.1 k.1 k.2.2) (inb' := inbOut k'.2.1 k'.1 k'.2.2) 0 ?_
      show k.2.1.val + 1 ≤ k'.2.1.val ∨ k'.2.1.val + 1 ≤ k.2.1.val
      omega
  · have h2 : k.1.val ≠ k'.1.val := fun e => h0 (Fin.ext e)
    refine Rect.unit_disjoint (inb := inbOut k.2.1 k.1 k.2.2) (inb' := inbOut k'.2.1 k'.1 k'.2.2) 1 ?_
    show 64 * k.1.val + 64 ≤ 64 * k'.1.val ∨ 64 * k'.1.val + 64 ≤ 64 * k.1.val
    omega

/-! ## Scratches by head and chunk, tables by head -/

section Cells
variable {κ : Kind} {sp : Space} {a b : ℕ} {e : EltTy}

theorem cells_mem {R : (h : Fin 4) → (j : Fin 2) → (cellR a b h j).shape.Idx → Elt F e} {p : View.Piece (Elt F) (Sc a b) e} (h : p ∈ cells R) :
    ∃ h j, p = ⟨cellR a b h j, R h j⟩ := by
  unfold cells at h
  simp only [List.mem_cons, List.not_mem_nil, or_false] at h
  rcases h with h | h | h | h | h | h | h | h <;> exact ⟨_, _, h⟩

theorem mem_cells (R : (h : Fin 4) → (j : Fin 2) → (cellR a b h j).shape.Idx → Elt F e) (h : Fin 4) (j : Fin 2) : (⟨cellR a b h j, R h j⟩ : View.Piece (Elt F) (Sc a b) e) ∈ cells R := by
  unfold cells
  fin_cases h <;> fin_cases j <;> simp

/-- A scratch stored by head and chunk holds what was stored. -/
theorem read_cells (v : View sig κ sp (Sc a b) e) (f : v.ty.Contents (Elt F)) (R : (h : Fin 4) → (j : Fin 2) → (cellR a b h j).shape.Idx → Elt F e)
    (h : Fin 4) (j : Fin 2) (r : Fin a) (l : Fin b) : v.read (Elt F) (v.writes (Elt F) f (cells R)) (ix4 h j r l) = R h j (ix4 0 0 r l) := by
  have piece : ∀ (h : Fin 4) (j : Fin 2) (x : (cellR a b h j).shape.Idx), R h j x =
      (fun y : (Sc a b).Idx => R (y 0) (y 1) (ix4 0 0 (y 2) (y 3))) ((cellR a b h j).emb x) := by
    intro h j x
    have h0 : (cellR a b h j).emb x 0 = h := Fin.ext (by
      have : (x 0).val < 1 := (x 0).isLt
      show h.val + 1 * (x 0).val = h.val; omega)
    have h1 : (cellR a b h j).emb x 1 = j := Fin.ext (by
      have : (x 1).val < 1 := (x 1).isLt
      show j.val + 1 * (x 1).val = j.val; omega)
    have h2 : (cellR a b h j).emb x 2 = x 2 := Fin.ext (by show 0 + 1 * (x 2).val = (x 2).val; omega)
    have h3 : (cellR a b h j).emb x 3 = x 3 := Fin.ext (by show 0 + 1 * (x 3).val = (x 3).val; omega)
    show R h j x = R _ _ (ix4 0 0 _ _)
    rw [h0, h1, h2, h3]
    refine congrArg (R h j) (funext fun d => ?_)
    fin_cases d
    · exact Subsingleton.elim (α := Fin 1) _ _
    · exact Subsingleton.elim (α := Fin 1) _ _
    · rfl
    · rfl
  refine View.read_writes_apply_of_pieces v f (fun y : (Sc a b).Idx => R (y 0) (y 1) (ix4 0 0 (y 2) (y 3))) (cells R) ?_ _ ⟨_, mem_cells R h j, ?_⟩
  · intro p hp x
    obtain ⟨h, j, rfl⟩ := cells_mem hp
    exact piece h j x
  · have : (cellR a b h j).emb (ix4 0 0 r l) = ix4 h j r l := funext fun d => by
      fin_cases d
      · exact Fin.ext (by show h.val + 1 * 0 = h.val; omega)
      · exact Fin.ext (by show j.val + 1 * 0 = j.val; omega)
      · exact Fin.ext (by show 0 + 1 * r.val = r.val; omega)
      · exact Fin.ext (by show 0 + 1 * l.val = l.val; omega)
    rw [← this]
    exact emb_mem (cellR a b h j) _

theorem readAt_cell (v : View sig κ sp (Sc a b) e) (f : v.ty.Contents (Elt F)) (h : Fin 4) (j : Fin 2) (r : Fin a) (l : Fin b) :
    v.readAt (Elt F) (cellR a b h j).toLoadRect f (ix4 0 0 r l) = v.read (Elt F) f (ix4 h j r l) := by
  show v.read (Elt F) f ((cellR a b h j).emb (ix4 0 0 r l)) = _
  congr 1
  funext d
  fin_cases d
  · exact Fin.ext (by show h.val + 1 * 0 = h.val; omega)
  · exact Fin.ext (by show j.val + 1 * 0 = j.val; omega)
  · exact Fin.ext (by show 0 + 1 * r.val = r.val; omega)
  · exact Fin.ext (by show 0 + 1 * l.val = l.val; omega)

theorem readAt_cells (v : View sig κ sp (Sc a b) e) (f : v.ty.Contents (Elt F)) (R : (h : Fin 4) → (j : Fin 2) → (cellR a b h j).shape.Idx → Elt F e)
    (h : Fin 4) (j : Fin 2) : v.readAt (Elt F) (cellR a b h j).toLoadRect (v.writes (Elt F) f (cells R)) = R h j := by
  funext x
  obtain ⟨r, l, rfl⟩ : ∃ (r : Fin a) (l : Fin b), x = ix4 0 0 r l := ⟨x 2, x 3, by
    funext d; fin_cases d
    · exact Subsingleton.elim (α := Fin 1) _ _
    · exact Subsingleton.elim (α := Fin 1) _ _
    · rfl
    · rfl⟩
  rw [readAt_cell, read_cells]

/-- One store per head of a table. -/
def tableStores (p : (h : Fin 4) → (headR a b h).shape.Idx → Elt F e) : List (View.Piece (Elt F) ⟨3, ![4, a, b]⟩ e) :=
  [⟨headR a b 3, p 3⟩, ⟨headR a b 2, p 2⟩, ⟨headR a b 1, p 1⟩, ⟨headR a b 0, p 0⟩]

theorem head_emb (h : Fin 4) (r : Fin a) (l : Fin b) : (headR a b h).emb (ix3 0 r l) = ix3 h r l := funext fun d => by
  fin_cases d
  · exact Fin.ext (by show h.val + 1 * 0 = h.val; omega)
  · exact Fin.ext (by show 0 + 1 * r.val = r.val; omega)
  · exact Fin.ext (by show 0 + 1 * l.val = l.val; omega)

/-- A table stored by head holds what was stored. -/
theorem read_table (v : View sig κ sp ⟨3, ![4, a, b]⟩ e) (f : v.ty.Contents (Elt F)) (p : (h : Fin 4) → (headR a b h).shape.Idx → Elt F e)
    (h : Fin 4) (r : Fin a) (l : Fin b) : v.read (Elt F) (v.writes (Elt F) f (tableStores p)) (ix3 h r l) = p h (ix3 0 r l) := by
  have piece : ∀ (h : Fin 4) (x : (headR a b h).shape.Idx), p h x =
      (fun y : (⟨3, ![4, a, b]⟩ : Shape).Idx => p (y 0) (ix3 0 (y 1) (y 2))) ((headR a b h).emb x) := by
    intro h x
    have h0 : (headR a b h).emb x 0 = h := Fin.ext (by
      have : (x 0).val < 1 := (x 0).isLt
      show h.val + 1 * (x 0).val = h.val; omega)
    have h1 : (headR a b h).emb x 1 = x 1 := Fin.ext (by show 0 + 1 * (x 1).val = (x 1).val; omega)
    have h2 : (headR a b h).emb x 2 = x 2 := Fin.ext (by show 0 + 1 * (x 2).val = (x 2).val; omega)
    show p h x = p _ (ix3 0 _ _)
    rw [h0, h1, h2]
    refine congrArg (p h) (funext fun d => ?_)
    fin_cases d
    · exact Subsingleton.elim (α := Fin 1) _ _
    · rfl
    · rfl
  refine View.read_writes_apply_of_pieces v f (fun y : (⟨3, ![4, a, b]⟩ : Shape).Idx => p (y 0) (ix3 0 (y 1) (y 2))) (tableStores p) ?_ _ ⟨⟨headR a b h, p h⟩, ?_, ?_⟩
  · unfold tableStores
    simp only [List.forall_mem_cons]
    exact ⟨piece 3, piece 2, piece 1, piece 0, fun p hp => absurd hp List.not_mem_nil⟩
  · unfold tableStores
    fin_cases h <;> simp
  · rw [← head_emb h r l]
    exact emb_mem (headR a b h) _
end Cells

end Cert.KernelIdeal.Hand

end
-- ==== Proof.DeltaMath.lean ====
/- The inverse of one plus a strictly lower triangular matrix, found block by block, and found by doubling. -/
module

public import Mathlib.Data.Matrix.Mul
public import Mathlib.Data.Real.Basic
public import Mathlib.Tactic.Abel
public import Mathlib.Tactic.NoncommRing
public import Mathlib.LinearAlgebra.Matrix.NonsingularInverse

@[expose] public section

noncomputable section

namespace Cert.Delta

open Matrix

abbrev M64 := Matrix (Fin 64) (Fin 64) ℝ

/-- Rows kept where `p` holds. -/
def keep (p : ℕ → Prop) [DecidablePred p] : M64 := Matrix.diagonal fun i => if p i.val then 1 else 0

theorem keep_mul (p : ℕ → Prop) [DecidablePred p] (X : M64) (i j : Fin 64) : (keep p * X) i j = if p i.val then X i j else 0 := by
  unfold keep; rw [Matrix.diagonal_mul]; split <;> simp
theorem mul_keep (p : ℕ → Prop) [DecidablePred p] (X : M64) (i j : Fin 64) : (X * keep p) i j = if p j.val then X i j else 0 := by
  unfold keep; rw [Matrix.mul_diagonal]; split <;> simp

/-- From a part's inverse to that of the part and a block left of it. -/
theorem grow {C T B P : M64} (h : (1 + C) * T = 1) (pc : P * C = C * P) (pb : P * B = B) (bp : B * P = 0) :
    (1 + C + B) * (T - P * T * B * T) = 1 := by
  have e1 : (1 + C) * P = P * (1 + C) := by rw [Matrix.add_mul, Matrix.mul_add, pc, Matrix.one_mul, Matrix.mul_one]
  have e2 : (1 + C) * (P * T * B * T) = B * T := by
    calc (1 + C) * (P * T * B * T) = ((1 + C) * P) * T * B * T := by simp only [Matrix.mul_assoc]
      _ = P * ((1 + C) * T) * B * T := by rw [e1]; simp only [Matrix.mul_assoc]
      _ = B * T := by rw [h, Matrix.mul_one, pb]
  have e3 : B * (P * T * B * T) = 0 := by
    calc B * (P * T * B * T) = (B * P) * T * B * T := by simp only [Matrix.mul_assoc]
      _ = 0 := by rw [bp]; simp only [Matrix.zero_mul]
  rw [Matrix.mul_sub, Matrix.add_mul, Matrix.add_mul (1 + C), h, e2, e3, add_zero, add_sub_cancel_right]

/-- One step of the substitution. -/
theorem substStep {D Q E X : M64} (h : (1 + D * Q) * X = 1) (qde : Q * D * E = 0) (ede : E * D * E = 0) :
    (1 + D * (Q + E)) * (X - D * E * X) = 1 := by
  have e1 : D * Q * (D * E * X) = 0 := by
    calc D * Q * (D * E * X) = D * (Q * D * E) * X := by simp only [Matrix.mul_assoc]
      _ = 0 := by rw [qde]; simp only [Matrix.mul_zero, Matrix.zero_mul]
  have e2 : D * E * (D * E * X) = 0 := by
    calc D * E * (D * E * X) = D * (E * D * E) * X := by simp only [Matrix.mul_assoc]
      _ = 0 := by rw [ede]; simp only [Matrix.mul_zero, Matrix.zero_mul]
  have e3 : X + D * Q * X = 1 := by rw [← h, Matrix.add_mul, Matrix.one_mul]
  rw [Matrix.mul_add, ← add_assoc, Matrix.add_mul (1 + D * Q), Matrix.mul_sub, Matrix.mul_sub (D * E), h, Matrix.add_mul, Matrix.one_mul, e1, e2]
  simp

/-- Zero on and above the diagonal. -/
def Lower (A : M64) : Prop := ∀ i j : Fin 64, i ≤ j → A i j = 0

/-- The blocks of 16 on the diagonal. -/
def diag16 (A : M64) : M64 := fun i j => if i.val / 16 = j.val / 16 then A i j else 0
/-- The blocks left of them within pairs of blocks. -/
def pair16 (A : M64) : M64 := fun i j => if i.val / 16 % 2 = 1 ∧ j.val / 16 + 1 = i.val / 16 then A i j else 0
/-- The lower left quarter. -/
def low32 (A : M64) : M64 := fun i j => if 32 ≤ i.val ∧ j.val < 32 then A i j else 0

theorem split_lower {A : M64} (h : Lower A) : diag16 A + pair16 A + low32 A = A := by
  ext i j
  show diag16 A i j + pair16 A i j + low32 A i j = A i j
  unfold diag16 pair16 low32
  have hi := i.isLt
  have hj := j.isLt
  by_cases hij : i ≤ j
  · rw [h i j hij]; simp
  · have : j.val < i.val := by
      rcases lt_or_ge j.val i.val with h' | h'
      · exact h'
      · exact absurd h' hij
    split_ifs <;> first | simp; done | (exfalso; omega)

/-- The substitution within blocks, after `n` columns. -/
def sub16 (A : M64) : ℕ → M64
  | 0 => 1
  | n + 1 => sub16 A n - diag16 A * keep (fun i => i % 16 = n) * sub16 A n

theorem sub16_inv {A : M64} (h : Lower A) (n : ℕ) : (1 + diag16 A * keep (fun i => i % 16 < n)) * sub16 A n = 1 := by
  induction n with
  | zero =>
    have : diag16 A * keep (fun i => i % 16 < 0) = 0 := by
      ext i j; rw [mul_keep]; simp
    rw [this, add_zero, Matrix.one_mul]; rfl
  | succ n ih =>
    have e : keep (fun i => i % 16 < n + 1) = keep (fun i => i % 16 < n) + keep (fun i => i % 16 = n) := by
      unfold keep
      rw [Matrix.diagonal_add]
      congr 1
      funext i
      split_ifs <;> first | simp; done | (exfalso; omega)
    rw [e]
    refine substStep ih ?_ ?_
    · ext i j
      rw [mul_keep, keep_mul]
      unfold diag16
      split_ifs with h1 h2 h3 <;> first | rfl | exact h i j (by show i.val ≤ j.val; omega)
    · ext i j
      rw [mul_keep, keep_mul]
      unfold diag16
      split_ifs with h1 h2 h3 <;> first | rfl | exact h i j (by show i.val ≤ j.val; omega)

theorem diag_inv {A : M64} (h : Lower A) : (1 + diag16 A) * sub16 A 15 = 1 := by
  have e : diag16 A * keep (fun i => i % 16 < 15) = diag16 A := by
    ext i j
    rw [mul_keep]
    unfold diag16
    split_ifs with h1 h2 <;> first | rfl | exact (h i j (by show i.val ≤ j.val; omega)).symm
  have := sub16_inv h 15
  rwa [e] at this

/-- The inverse of the pairs of blocks. -/
def two16 (A : M64) : M64 := sub16 A 15 - keep (fun i => i / 16 % 2 = 1) * sub16 A 15 * pair16 A * sub16 A 15
/-- The inverse of the whole. -/
def blockInv (A : M64) : M64 := two16 A - keep (fun i => 32 ≤ i) * two16 A * low32 A * two16 A

theorem two16_inv {A : M64} (h : Lower A) : (1 + diag16 A + pair16 A) * two16 A = 1 := by
  refine grow (diag_inv h) ?_ ?_ ?_
  · ext i j; rw [mul_keep, keep_mul]; unfold diag16; split_ifs <;> first | rfl | (exfalso; omega)
  · ext i j; rw [keep_mul]; unfold pair16; split_ifs <;> first | rfl | (exfalso; omega)
  · ext i j; rw [mul_keep]; unfold pair16; split_ifs <;> first | rfl | (exfalso; omega)

theorem blockInv_inv {A : M64} (h : Lower A) : (1 + A) * blockInv A = 1 := by
  have e : (1 : M64) + A = 1 + (diag16 A + pair16 A) + low32 A := by rw [add_assoc, split_lower h]
  rw [e]
  have h2 := two16_inv h
  rw [add_assoc] at h2
  refine grow h2 ?_ ?_ ?_
  · ext i j; rw [mul_keep, keep_mul]; show (if 32 ≤ i.val then diag16 A i j + pair16 A i j else 0) = if 32 ≤ j.val then diag16 A i j + pair16 A i j else 0
    unfold diag16 pair16; have := i.isLt; have := j.isLt; split_ifs <;> first | rfl | (exfalso; omega) | simp
  · ext i j; rw [keep_mul]; unfold low32; split_ifs <;> first | rfl | (exfalso; omega)
  · ext i j; rw [mul_keep]; unfold low32; split_ifs <;> first | rfl | (exfalso; omega)

/-- `n` doublings: the power reached, and the sum of the powers before it. -/
def doubled (A : M64) : ℕ → M64 × M64
  | 0 => (A, 1 - A)
  | n + 1 => let B := (doubled A n).1 * (doubled A n).1; (B, (doubled A n).2 + (doubled A n).2 * B)

theorem doubled_pow (A : M64) (n : ℕ) : (doubled A n).1 = A ^ (2 ^ n) := by
  induction n with
  | zero => simp [doubled]
  | succ n ih => show (doubled A n).1 * (doubled A n).1 = _; rw [ih, ← pow_add, pow_succ 2 n, Nat.mul_two]

theorem doubled_inv (A : M64) (n : ℕ) : (1 + A) * (doubled A n).2 = 1 - (doubled A n).1 * (doubled A n).1 := by
  induction n with
  | zero => show (1 + A) * (1 - A) = 1 - A * A; noncomm_ring
  | succ n ih =>
    show (1 + A) * ((doubled A n).2 + (doubled A n).2 * ((doubled A n).1 * (doubled A n).1)) = 1 - ((doubled A n).1 * (doubled A n).1) * ((doubled A n).1 * (doubled A n).1)
    rw [Matrix.mul_add, ← Matrix.mul_assoc (1 + A), ih]
    noncomm_ring

theorem lower_pow {A : M64} (h : Lower A) (n : ℕ) : ∀ i j : Fin 64, i.val < j.val + n → (A ^ n) i j = 0 := by
  induction n with
  | zero => intro i j hij; rw [pow_zero]; exact Matrix.one_apply_ne (fun e => by subst e; omega)
  | succ n ih =>
    intro i j hij
    rw [pow_succ, Matrix.mul_apply]
    refine Finset.sum_eq_zero fun k _ => ?_
    by_cases hk : i.val < k.val + n
    · rw [ih i k hk, zero_mul]
    · rw [h k j (by show k.val ≤ j.val; omega), mul_zero]

/-- Five doublings invert. -/
theorem doubled_five {A : M64} (h : Lower A) : (1 + A) * (doubled A 5).2 = 1 := by
  rw [doubled_inv, doubled_pow, ← pow_add]
  have : A ^ (2 ^ 5 + 2 ^ 5) = 0 := by
    ext i j
    exact lower_pow h _ i j (by have := i.isLt; omega)
  rw [this, sub_zero]

/-- Both ways give the same. -/
theorem blockInv_eq {A : M64} (h : Lower A) : blockInv A = (doubled A 5).2 := by
  have h1 := blockInv_inv h
  have h2 := doubled_five h
  have h3 : blockInv A * (1 + A) = 1 := mul_eq_one_comm.mp h1
  calc blockInv A = blockInv A * ((1 + A) * (doubled A 5).2) := by rw [h2, Matrix.mul_one]
    _ = (doubled A 5).2 := by rw [← Matrix.mul_assoc, h3, Matrix.one_mul]

end Cert.Delta

end
-- ==== Proof.DeltaIdeal.lean ====
/- What the body's steps compute over the extended reals, on finite entries: products, and the inverse of a chunk's matrix. -/
module

public import proofs.«01_k».proof.Proof.DeltaStage
public import proofs.«01_k».proof.Proof.DeltaMath
public import Idealize.ShloMosaic.Lib.Pointwise
public import Idealize.ShloMosaic.Lib.IdealHost

@[expose] public section

set_option maxRecDepth 100000

noncomputable section

namespace Cert.KernelIdeal.Hand

open Idealize.ShloMosaic Idealize.ShloMosaic.TcCoe
open Cert.KernelIdeal Cert.KernelIdeal.Gen
open Cert.Delta

/-! ## Sums of finite numbers -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type} (s : Finset ι) (f g : ι → ℝ) : ∑ i ∈ s, (((f i : ℝ) : EReal) * ((g i : ℝ) : EReal)) = ((∑ i ∈ s, f i * g i : ℝ) : EReal) := by
  rw [← coe_sum]; exact Finset.sum_congr rfl fun i _ => (EReal.coe_mul _ _).symm

theorem self_sub (x : ℝ) : (x : EReal) - (x : EReal) = 0 := by rw [← EReal.coe_sub, sub_self]; rfl

/-- A sum over 256 in four parts. -/
theorem sum256 (f : Fin 256 → EReal) : ∑ k, f k = (∑ j : Fin 64, f ⟨j.val, by omega⟩) + ((∑ j : Fin 64, f ⟨64 + j.val, by omega⟩) + ((∑ j : Fin 64, f ⟨128 + j.val, by omega⟩) + ∑ j : Fin 64, f ⟨192 + j.val, by omega⟩)) := by
  have e1 := Fin.sum_univ_add (a := 64) (b := 192) f
  have e2 := Fin.sum_univ_add (a := 64) (b := 128) (fun i => f (Fin.natAdd 64 i))
  have e3 := Fin.sum_univ_add (a := 64) (b := 64) (fun i => f (Fin.natAdd 64 (Fin.natAdd 64 i)))
  refine e1.trans ?_
  refine congrArg₂ (· + ·) rfl ?_
  refine e2.trans ?_
  refine congrArg₂ (· + ·) rfl ?_
  refine e3.trans ?_
  refine congrArg₂ (· + ·) ?_ ?_
  · exact Finset.sum_congr rfl fun j _ => congrArg f (Fin.ext (by show 64 + (64 + j.val) = 128 + j.val; omega))
  · exact Finset.sum_congr rfl fun j _ => congrArg f (Fin.ext (by show 64 + (64 + (64 + j.val)) = 192 + j.val; omega))

theorem sel_one {α : Type} (a b : α) : Scalar.select 1#1 a b = a := rfl
theorem sel_zero {α : Type} (a b : α) : Scalar.select 0#1 a b = b := rfl

theorem slt64 (k : Fin 128) : IntOp.cmpi CmpIPredicate.slt (BitVec.ofNat 32 k.val) 64#32 = if k.val < 64 then 1#1 else 0#1 := by
  revert k; decide +kernel

/-! ## Products -/

theorem lhs32_top (x : FVec Ideal S32x128 .f32) (X : Fin 32 → Fin 128 → ℝ) (hx : ∀ r l, x (ix2 r l) = ((X r l : ℝ) : EReal)) (r : Fin 32) (k : Fin 256) (r' : Fin 64) (hr : r'.val = r.val) :
    lhs32 x (ix2 r' k) = if h : k.val < 128 then ((X r ⟨k.val, h⟩ : ℝ) : EReal) else if h : k.val < 192 then ((X r ⟨k.val - 128, by omega⟩ : ℝ) : EReal) else 0 := by
  unfold lhs32 top
  pointwise []
  rw [dif_pos (by omega)]
  have er : ∀ h, (⟨r'.val, h⟩ : Fin 32) = r := fun h => Fin.ext hr
  simp only [er]
  by_cases h1 : k.val < 128
  · rw [dif_pos h1, dif_pos h1]; exact hx _ _
  rw [dif_neg h1, dif_neg h1]
  by_cases h2 : k.val < 192
  · rw [dif_pos h2, slt64 ⟨k.val - 128, by omega⟩, if_pos (by show k.val - 128 < 64; omega), sel_one]; exact hx _ _
  · rw [dif_neg h2, slt64 ⟨k.val - 128, by omega⟩, if_neg (by show ¬ k.val - 128 < 64; omega), sel_zero, hx, self_sub, sub_zero]

theorem lhs32_low (x : FVec Ideal S32x128 .f32) (X : Fin 32 → Fin 128 → ℝ) (hx : ∀ r l, x (ix2 r l) = ((X r l : ℝ) : EReal)) (k : Fin 256) (r' : Fin 64) (hr : 32 ≤ r'.val) :
    lhs32 x (ix2 r' k) = 0 := by
  unfold lhs32 top
  pointwise []
  rw [dif_neg (by omega)]
  by_cases h1 : k.val < 128
  · rw [dif_pos h1, hx, self_sub]
  · rw [dif_neg h1]

theorem lhs64_top (x : FVec Ideal S64x128 .f32) (X : Fin 64 → Fin 128 → ℝ) (hx : ∀ r l, x (ix2 r l) = ((X r l : ℝ) : EReal)) (r : Fin 64) (k : Fin 256) (r' : Fin 128) (hr : r'.val = r.val) :
    lhs64 x (ix2 r' k) = if h : k.val < 128 then ((X r ⟨k.val, h⟩ : ℝ) : EReal) else if h : k.val < 192 then ((X r ⟨k.val - 128, by omega⟩ : ℝ) : EReal) else 0 := by
  unfold lhs64 top
  pointwise []
  rw [dif_pos (by omega)]
  have er : ∀ h, (⟨r'.val, h⟩ : Fin 64) = r := fun h => Fin.ext hr
  simp only [er]
  by_cases h1 : k.val < 128
  · rw [dif_pos h1, dif_pos h1]; exact hx _ _
  rw [dif_neg h1, dif_neg h1]
  by_cases h2 : k.val < 192
  · rw [dif_pos h2, slt64 ⟨k.val - 128, by omega⟩, if_pos (by show k.val - 128 < 64; omega), sel_one]; exact hx _ _
  · rw [dif_neg h2, slt64 ⟨k.val - 128, by omega⟩, if_neg (by show ¬ k.val - 128 < 64; omega), sel_zero, hx, self_sub, sub_zero]

theorem lhs64_low (x : FVec Ideal S64x128 .f32) (X : Fin 64 → Fin 128 → ℝ) (hx : ∀ r l, x (ix2 r l) = ((X r l : ℝ) : EReal)) (k : Fin 256) (r' : Fin 128) (hr : 64 ≤ r'.val) :
    lhs64 x (ix2 r' k) = 0 := by
  unfold lhs64 top
  pointwise []
  rw [dif_neg (by omega)]
  by_cases h1 : k.val < 128
  · rw [dif_pos h1, hx, self_sub]
  · rw [dif_neg h1]

theorem rhs128_at (y : FVec Ideal S64x128 .f32) (Y : Fin 64 → Fin 128 → ℝ) (hy : ∀ r l, y (ix2 r l) = ((Y r l : ℝ) : EReal)) (k : Fin 256) (c : Fin 128) :
    rhs128 y (ix2 k c) = if h : k.val < 64 then ((Y ⟨k.val, h⟩ c : ℝ) : EReal) else if h : k.val < 192 then 0 else ((Y ⟨k.val - 192, by omega⟩ c : ℝ) : EReal) := by
  unfold rhs128 top
  pointwise []
  by_cases h1 : k.val < 64
  · rw [dif_pos h1, dif_pos h1, hy]
  rw [dif_neg h1, dif_neg h1]
  by_cases h2 : k.val < 192
  · rw [dif_pos h2]
    by_cases h3 : k.val - 64 < 64
    · rw [dif_pos h3, hy, self_sub]
    · rw [dif_neg h3, dif_pos (by omega), hy, self_sub, sub_zero]
  · rw [dif_neg h2, dif_neg (by omega), dif_neg (by omega), hy]
    have e : (⟨k.val - 64 - 64 - 64, by omega⟩ : Fin 64) = ⟨k.val - 192, by omega⟩ := Fin.ext (by show k.val - 64 - 64 - 64 = k.val - 192; omega)
    rw [e]

theorem rhs256_at (y : FVec Ideal S64x256 .f32) (Y : Fin 64 → Fin 256 → ℝ) (hy : ∀ r l, y (ix2 r l) = ((Y r l : ℝ) : EReal)) (k : Fin 256) (c : Fin 256) :
    rhs256 y (ix2 k c) = if h : k.val < 64 then ((Y ⟨k.val, h⟩ c : ℝ) : EReal) else if h : k.val < 192 then 0 else ((Y ⟨k.val - 192, by omega⟩ c : ℝ) : EReal) := by
  unfold rhs256 top
  pointwise []
  by_cases h1 : k.val < 64
  · rw [dif_pos h1, dif_pos h1, hy]
  rw [dif_neg h1, dif_neg h1]
  by_cases h2 : k.val < 192
  · rw [dif_pos h2]
    by_cases h3 : k.val - 64 < 64
    · rw [dif_pos h3, hy, self_sub]
    · rw [dif_neg h3, dif_pos (by omega), hy, self_sub, sub_zero]
  · rw [dif_neg h2, dif_neg (by omega), dif_neg (by omega), hy]
    have e : (⟨k.val - 64 - 64 - 64, by omega⟩ : Fin 64) = ⟨k.val - 192, by omega⟩ := Fin.ext (by show k.val - 64 - 64 - 64 = k.val - 192; omega)
    rw [e]

/-- A product of cut operands is the product. -/
theorem cut_sum (a b : Fin 256 → EReal) (X Y : Fin 64 → ℝ) (ha : ∀ j : Fin 64, a ⟨j.val, by omega⟩ = ((X j : ℝ) : EReal)) (ha' : ∀ j : Fin 64, a ⟨192 + j.val, by omega⟩ = 0)
    (hb : ∀ j : Fin 64, b ⟨j.val, by omega⟩ = ((Y j : ℝ) : EReal)) (hb1 : ∀ j : Fin 64, b ⟨64 + j.val, by omega⟩ = 0) (hb2 : ∀ j : Fin 64, b ⟨128 + j.val, by omega⟩ = 0) :
    ∑ k, a k * b k = ((∑ j, X j * Y j : ℝ) : EReal) := by
  rw [sum256]
  simp only [ha, ha', hb, hb1, hb2, mul_zero, zero_mul, Finset.sum_const_zero, add_zero]
  exact coe_sum_mul _ _ _

theorem prod32_at (x : FVec Ideal S32x128 .f32) (y : FVec Ideal S64x128 .f32) (X : Fin 32 → Fin 128 → ℝ) (Y : Fin 64 → Fin 128 → ℝ)
    (hx : ∀ r l, x (ix2 r l) = ((X r l : ℝ) : EReal)) (hy : ∀ r l, y (ix2 r l) = ((Y r l : ℝ) : EReal)) (r : Fin 32) (c : Fin 128) :
    prod32 x y (ix2 r c) = ((∑ j : Fin 64, X r ⟨j.val, by omega⟩ * Y j c : ℝ) : EReal) := by
  have e : prod32 x y (ix2 r c) = (∑ k, lhs32 x (ix2 ⟨r.val, by omega⟩ k) * rhs128 y (ix2 k c)) + ∑ k, lhs32 x (ix2 ⟨32 + r.val, by omega⟩ k) * rhs128 y (ix2 k c) := by
    unfold prod32
    generalize lhs32 x = a
    generalize rhs128 y = b
    pointwise []
  rw [e, Finset.sum_eq_zero (s := Finset.univ) (f := fun k => lhs32 x (ix2 ⟨32 + r.val, by omega⟩ k) * rhs128 y (ix2 k c))
    (fun k _ => by rw [lhs32_low x X hx k _ (Nat.le_add_right _ _), zero_mul]), add_zero]
  refine cut_sum _ _ (fun j => X r ⟨j.val, by omega⟩) (fun j => Y j c) (fun j => ?_) (fun j => ?_) (fun j => ?_) (fun j => ?_) (fun j => ?_)
  · rw [lhs32_top x X hx r _ _ rfl, dif_pos (show j.val < 128 by omega)]
  · rw [lhs32_top x X hx r _ _ rfl, dif_neg (show ¬ 192 + j.val < 128 by omega), dif_neg (show ¬ 192 + j.val < 192 by omega)]
  · rw [rhs128_at y Y hy, dif_pos j.isLt]
  · rw [rhs128_at y Y hy, dif_neg (show ¬ 64 + j.val < 64 by omega), dif_pos (show 64 + j.val < 192 by omega)]
  · rw [rhs128_at y Y hy, dif_neg (show ¬ 128 + j.val < 64 by omega), dif_pos (show 128 + j.val < 192 by omega)]

theorem prod64_at (x : FVec Ideal S64x128 .f32) (y : FVec Ideal S64x256 .f32) (X : Fin 64 → Fin 128 → ℝ) (Y : Fin 64 → Fin 256 → ℝ)
    (hx : ∀ r l, x (ix2 r l) = ((X r l : ℝ) : EReal)) (hy : ∀ r l, y (ix2 r l) = ((Y r l : ℝ) : EReal)) (r : Fin 64) (c : Fin 256) :
    prod64 (lhs64 x) y (ix2 r c) = ((∑ j : Fin 64, X r ⟨j.val, by omega⟩ * Y j c : ℝ) : EReal) := by
  have e : prod64 (lhs64 x) y (ix2 r c) = (∑ k, lhs64 x (ix2 ⟨r.val, by omega⟩ k) * rhs256 y (ix2 k c)) + ∑ k, lhs64 x (ix2 ⟨64 + r.val, by omega⟩ k) * rhs256 y (ix2 k c) := by
    unfold prod64
    generalize lhs64 x = a
    generalize rhs256 y = b
    pointwise []
  rw [e, Finset.sum_eq_zero (s := Finset.univ) (f := fun k => lhs64 x (ix2 ⟨64 + r.val, by omega⟩ k) * rhs256 y (ix2 k c))
    (fun k _ => by rw [lhs64_low x X hx k _ (Nat.le_add_right _ _), zero_mul]), add_zero]
  refine cut_sum _ _ (fun j => X r ⟨j.val, by omega⟩) (fun j => Y j c) (fun j => ?_) (fun j => ?_) (fun j => ?_) (fun j => ?_) (fun j => ?_)
  · rw [lhs64_top x X hx r _ _ rfl, dif_pos (show j.val < 128 by omega)]
  · rw [lhs64_top x X hx r _ _ rfl, dif_neg (show ¬ 192 + j.val < 128 by omega), dif_neg (show ¬ 192 + j.val < 192 by omega)]
  · rw [rhs256_at y Y hy, dif_pos j.isLt]
  · rw [rhs256_at y Y hy, dif_neg (show ¬ 64 + j.val < 64 by omega), dif_pos (show 64 + j.val < 192 by omega)]
  · rw [rhs256_at y Y hy, dif_neg (show ¬ 128 + j.val < 64 by omega), dif_pos (show 128 + j.val < 192 by omega)]

end Cert.KernelIdeal.Hand

end
-- ==== Proof.DeltaInverse.lean ====
/- The inverse of a chunk's matrix, as the body finds it, is the inverse found block by block. -/
module

public import proofs.«01_k».proof.Proof.DeltaIdeal

@[expose] public section

set_option maxRecDepth 100000

noncomputable section

namespace Cert.KernelIdeal.Hand

open Idealize.ShloMosaic Idealize.ShloMosaic.TcCoe
open Cert.KernelIdeal Cert.KernelIdeal.Gen
open Cert.Delta

/-! ## Lane numbers -/

theorem lane64_at (r : Fin 64) (l : Fin 128) : lane64 (ix2 r l) = BitVec.ofNat 32 (l.val % 64) := by
  unfold lane64 remBy
  pointwise []
  clear r
  revert l; decide +kernel
theorem row64_at (r : Fin 64) (l : Fin 128) : row64 (ix2 r l) = BitVec.ofNat 32 r.val := by
  unfold row64
  pointwise []
theorem blk64_at (r : Fin 64) (l : Fin 128) : blk64 (ix2 r l) = BitVec.ofNat 32 (l.val % 64 / 16) := by
  unfold blk64 quotBy16
  generalize hx : lane64 = x
  pointwise []
  subst hx
  rw [lane64_at]
  clear r
  revert l; decide +kernel
theorem blk16_at (r : Fin 16) (l : Fin 128) : blk16 (ix2 r l) = BitVec.ofNat 32 (l.val % 64 / 16) := by
  unfold blk16
  generalize hx : blk64 = x
  pointwise []
  subst hx
  rw [blk64_at]
theorem colLane_at (n : Fin 16) (r : Fin 16) (l : Fin 128) : (colLane (BitVec.ofNat 32 n.val) (ix2 r l)).toNat % 128 = 16 * (l.val / 16) + n.val := by
  unfold colLane quotBy16
  dsimp only
  pointwise []
  clear r
  revert l; revert n; decide +kernel

theorem rem16 (l : Fin 128) : (Scalar.select
          (IntOp.andi
            (IntOp.xori
              (IntOp.cmpi CmpIPredicate.slt
                (IntOp.remsi ArithUnit.vector (BitVec.ofNat 32 l.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 l.val)
                (Scalar.select (Scalar.cmpi CmpIPredicate.eq 16#32 0#32) 1#32 16#32))
              0#32))
          (IntOp.addi
            (IntOp.remsi ArithUnit.vector (BitVec.ofNat 32 l.val)
              (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 l.val)
            (Scalar.select (Scalar.cmpi CmpIPredicate.eq 16#32 0#32) 1#32 16#32))) = BitVec.ofNat 32 (l.val % 16) := by
  revert l; decide +kernel

theorem eq16 (a b : Fin 16) : IntOp.cmpi CmpIPredicate.eq (BitVec.ofNat 32 a.val) (BitVec.ofNat 32 b.val) = if a.val = b.val then 1#1 else 0#1 := by
  revert a b; decide +kernel

theorem eyeBlocks_at (r : Fin 16) (l : Fin 128) : eyeBlocks (F := Ideal) (ix2 r l) = if r.val = l.val % 16 then 1 else 0 := by
  unfold eyeBlocks remBy
  pointwise []
  rw [rem16, eq16 r ⟨l.val % 16, Nat.mod_lt _ (by norm_num)⟩]
  dsimp only
  split_ifs <;> rfl

/-! ## Matrices in lanes -/

/-- A lane's column. -/
def lm (l : Fin 128) : Fin 64 := ⟨l.val % 64, Nat.mod_lt _ (by norm_num)⟩

/-- A vector holds a matrix, twice side by side. -/
def Rep (x : FVec Ideal S64x128 .f32) (X : M64) : Prop := ∀ r l, x (ix2 r l) = ((X r (lm l) : ℝ) : EReal)

/-- Row `r` of the block that lane `l` lies in. -/
def inBlk (r : Fin 16) (l : Fin 128) : Fin 64 := ⟨16 * (l.val % 64 / 16) + r.val, by omega⟩

theorem quart0 (q : Fin 4) : IntOp.cmpi CmpIPredicate.eq (BitVec.ofNat 32 q.val) 0#32 = if q.val = 0 then 1#1 else 0#1 := by revert q; decide +kernel
theorem quart1 (q : Fin 4) : IntOp.cmpi CmpIPredicate.eq (BitVec.ofNat 32 q.val) 1#32 = if q.val = 1 then 1#1 else 0#1 := by revert q; decide +kernel
theorem quart2 (q : Fin 4) : IntOp.cmpi CmpIPredicate.eq (BitVec.ofNat 32 q.val) 2#32 = if q.val = 2 then 1#1 else 0#1 := by revert q; decide +kernel
theorem quart3 (q : Fin 4) : IntOp.cmpi CmpIPredicate.eq (BitVec.ofNat 32 q.val) 3#32 = if q.val = 3 then 1#1 else 0#1 := by revert q; decide +kernel

theorem sel_if {α : Type} (p : Prop) [Decidable p] (a b : α) : Scalar.select (if p then 1#1 else 0#1) a b = if p then a else b := by
  split <;> rfl

theorem diagBlocks_at {a : FVec Ideal S64x128 .f32} {A : M64} (h : Rep a A) (r : Fin 16) (l : Fin 128) : diagBlocks a (ix2 r l) = ((A (inBlk r l) (lm l) : ℝ) : EReal) := by
  unfold diagBlocks
  generalize hx : blk16 = x
  pointwise []
  subst hx
  have hq : l.val % 64 / 16 < 4 := by omega
  rw [blk16_at]
  rw [quart0 ⟨_, hq⟩, quart1 ⟨_, hq⟩, quart2 ⟨_, hq⟩, quart3 ⟨_, hq⟩]
  simp only [sel_if, h _ _]
  have pick : ∀ (k : ℕ) (hk : k < 64), k = 16 * (l.val % 64 / 16) + r.val → ((A ⟨k, hk⟩ (lm l) : ℝ) : EReal) = ((A (inBlk r l) (lm l) : ℝ) : EReal) := by
    intro k hk e; subst e; rfl
  by_cases h3 : l.val % 64 / 16 = 3
  · rw [if_pos h3]; exact pick _ _ (by omega)
  rw [if_neg h3]
  by_cases h2 : l.val % 64 / 16 = 2
  · rw [if_pos h2]; exact pick _ _ (by omega)
  rw [if_neg h2]
  by_cases h1 : l.val % 64 / 16 = 1
  · rw [if_pos h1]; exact pick _ _ (by omega)
  rw [if_neg h1, if_pos (show l.val % 64 / 16 = 0 by omega)]
  exact pick _ _ (by omega)

/-- One step of the substitution, by entries. -/
theorem sub16_succ (A : M64) (n : ℕ) (hn : n < 16) (i j : Fin 64) (hij : i.val / 16 = j.val / 16) :
    sub16 A (n + 1) i j = sub16 A n i j - A i ⟨16 * (j.val / 16) + n, by omega⟩ * sub16 A n ⟨16 * (j.val / 16) + n, by omega⟩ j := by
  show sub16 A n i j - (diag16 A * keep (fun i => i % 16 = n) * sub16 A n) i j = _
  congr 1
  rw [Matrix.mul_apply, Finset.sum_eq_single (⟨16 * (j.val / 16) + n, by omega⟩ : Fin 64)]
  · rw [mul_keep, if_pos (by show (16 * (j.val / 16) + n) % 16 = n; omega)]
    unfold diag16
    rw [if_pos (by show i.val / 16 = (16 * (j.val / 16) + n) / 16; omega)]
  · intro k _ hk
    rw [mul_keep]
    unfold diag16
    by_cases h1 : k.val % 16 = n
    · rw [if_pos h1, if_neg (fun h2 => hk (Fin.ext (by show k.val = 16 * (j.val / 16) + n; omega))), zero_mul]
    · rw [if_neg h1, zero_mul]
  · intro h; exact absurd (Finset.mem_univ _) h

/-- Outside the blocks there is nothing. -/
theorem sub16_off (A : M64) (n : ℕ) : ∀ i j : Fin 64, i.val / 16 ≠ j.val / 16 → sub16 A n i j = 0 := by
  induction n with
  | zero => intro i j hij; exact Matrix.one_apply_ne (fun e => hij (by rw [e]))
  | succ n ih =>
    intro i j hij
    show sub16 A n i j - (diag16 A * keep (fun i => i % 16 = n) * sub16 A n) i j = 0
    rw [ih i j hij, Matrix.mul_apply, Finset.sum_eq_zero, sub_zero]
    intro k _
    rw [mul_keep]
    by_cases hk : i.val / 16 = k.val / 16
    · rw [ih k j (by omega), mul_zero]
    · unfold diag16; rw [if_neg hk, ite_self, zero_mul]

theorem substs_at {a : FVec Ideal S64x128 .f32} {A : M64} (h : Rep a A) : ∀ (n : ℕ) (hn : n ≤ 16) (r : Fin 16) (l : Fin 128),
    substs (diagBlocks a) n hn (ix2 r l) = ((sub16 A n (inBlk r l) (lm l) : ℝ) : EReal)
  | 0, _, r, l => by
    show eyeBlocks (F := Ideal) (ix2 r l) = (((1 : M64) (inBlk r l) (lm l) : ℝ) : EReal)
    rw [eyeBlocks_at, Matrix.one_apply]
    by_cases e : r.val = l.val % 16
    · rw [if_pos e, if_pos (Fin.ext (by show 16 * (l.val % 64 / 16) + r.val = l.val % 64; omega))]; rfl
    · rw [if_neg e, if_neg (fun e' => e (by have := congrArg Fin.val e'; change 16 * (l.val % 64 / 16) + r.val = l.val % 64 at this; omega))]; rfl
  | n + 1, hn, r, l => by
    show subst (diagBlocks a) (substs (diagBlocks a) n (Nat.le_of_succ_le hn)) n (rowSlice n hn) (ix2 r l) = _
    have ih := substs_at h n (Nat.le_of_succ_le hn)
    generalize substs (diagBlocks a) n (Nat.le_of_succ_le hn) = X at ih ⊢
    have hd := diagBlocks_at h
    generalize diagBlocks a = D at hd ⊢
    have hc := colLane_at ⟨n, hn⟩ r l
    unfold subst
    generalize colLane (BitVec.ofNat 32 n) = w at hc ⊢
    pointwise []
    dsimp only at hc
    have e1 : (⟨(w (ix2 r l)).toNat % 128, Nat.mod_lt _ (by norm_num)⟩ : Fin 128) = ⟨16 * (l.val / 16) + n, by omega⟩ := Fin.ext hc
    rw [e1, ih, hd, ih, sub16_succ A n hn _ _ (by show (16 * (l.val % 64 / 16) + r.val) / 16 = l.val % 64 / 16; omega), EReal.coe_sub, EReal.coe_mul]
    have e2 : inBlk r ⟨16 * (l.val / 16) + n, by omega⟩ = inBlk r l := Fin.ext (by show 16 * ((16 * (l.val / 16) + n) % 64 / 16) + r.val = 16 * (l.val % 64 / 16) + r.val; omega)
    have e3 : lm ⟨16 * (l.val / 16) + n, by omega⟩ = ⟨16 * ((lm l).val / 16) + n, by omega⟩ := Fin.ext (by show (16 * (l.val / 16) + n) % 64 = 16 * (l.val % 64 / 16) + n; omega)
    have e4 : inBlk ⟨n, by omega⟩ l = ⟨16 * ((lm l).val / 16) + n, by omega⟩ := Fin.ext (by show 16 * (l.val % 64 / 16) + n = 16 * (l.val % 64 / 16) + n; rfl)
    rw [e2, e3, e4]

theorem placeBlocks_at {x : FVec Ideal S16x128 .f32} {X : M64} (hx : ∀ r l, x (ix2 r l) = ((X (inBlk r l) (lm l) : ℝ) : EReal))
    (off : ∀ i j : Fin 64, i.val / 16 ≠ j.val / 16 → X i j = 0) : Rep (placeBlocks x) X := by
  intro r l
  unfold placeBlocks
  generalize hw : blk16 = w
  dsimp only
  pointwise []
  subst hw
  have hq : l.val % 64 / 16 < 4 := by omega
  simp only [blk16_at]
  rw [quart0 ⟨_, hq⟩, quart1 ⟨_, hq⟩, quart2 ⟨_, hq⟩, quart3 ⟨_, hq⟩]
  simp only [sel_if, hx]
  have key : ∀ (b k : ℕ) (hk : k < 16), r.val = 16 * b + k → (if l.val % 64 / 16 = b then ((X (inBlk ⟨k, hk⟩ l) (lm l) : ℝ) : EReal) else 0) = ((X r (lm l) : ℝ) : EReal) := by
    intro b k hk e
    by_cases hb : l.val % 64 / 16 = b
    · rw [if_pos hb, show inBlk ⟨k, hk⟩ l = r from Fin.ext (by show 16 * (l.val % 64 / 16) + k = r.val; omega)]
    · rw [if_neg hb, off r (lm l) (by show r.val / 16 ≠ l.val % 64 / 16; omega)]; rfl
  by_cases h1 : r.val < 16
  · rw [dif_pos h1]; exact key 0 r.val h1 (by omega)
  rw [dif_neg h1]
  by_cases h2 : r.val - 16 < 16
  · rw [dif_pos h2]; exact key 1 (r.val - 16) h2 (by omega)
  rw [dif_neg h2]
  by_cases h3 : r.val - 16 - 16 < 16
  · rw [dif_pos h3]; exact key 2 (r.val - 16 - 16) h3 (by omega)
  rw [dif_neg h3]
  exact key 3 (r.val - 16 - 16 - 16) (by omega) (by omega)

/-! ## Pairs of blocks -/

/-- Row `r` of the second and the fourth block. -/
def oddRow (r : Fin 32) : Fin 64 := ⟨if r.val < 16 then 16 + r.val else 32 + r.val, by split <;> omega⟩

theorem oddRows_at (x : FVec Ideal S64x128 .f32) (r : Fin 32) (l : Fin 128) : oddRows x (ix2 r l) = x (ix2 (oddRow r) l) := by
  unfold oddRows
  pointwise []
  by_cases h : r.val < 16
  · rw [dif_pos h, show oddRow r = ⟨16 + r.val, by omega⟩ from Fin.ext (if_pos h)]
  · rw [dif_neg h, show oddRow r = ⟨48 + (r.val - 16), by omega⟩ from Fin.ext ((if_neg h).trans (by show 32 + r.val = 48 + (r.val - 16); omega))]

/-- Which row of the two blocks a row is. -/
def evenRow (k : Fin 64) : Fin 32 := ⟨if k.val < 32 then k.val % 16 else 16 + k.val % 16, by split <;> omega⟩

theorem toOddRows_at (x : FVec Ideal S32x128 .f32) (k : Fin 64) (l : Fin 128) : toOddRows x (ix2 k l) = if k.val / 16 % 2 = 1 then x (ix2 (evenRow k) l) else 0 := by
  unfold toOddRows
  pointwise []
  by_cases h1 : k.val < 16
  · rw [dif_pos h1, if_neg (by omega)]
  rw [dif_neg h1]
  by_cases h2 : k.val - 16 < 16
  · rw [dif_pos h2, if_pos (show k.val / 16 % 2 = 1 by omega)]; exact congrArg (fun q : Fin 32 => x (ix2 q l)) (Fin.ext (by show k.val - 16 = if k.val < 32 then k.val % 16 else 16 + k.val % 16; rw [if_pos (by omega)]; omega))
  rw [dif_neg h2]
  by_cases h3 : k.val - 16 - 16 < 16
  · rw [dif_pos h3, if_neg (by omega)]
  rw [dif_neg h3, if_pos (show k.val / 16 % 2 = 1 by omega)]; exact congrArg (fun q : Fin 32 => x (ix2 q l)) (Fin.ext (by show 16 + (k.val - 16 - 16 - 16) = if k.val < 32 then k.val % 16 else 16 + k.val % 16; rw [if_neg (by omega)]; omega))

theorem odd_even (k : Fin 64) (h : k.val / 16 % 2 = 1) : oddRow (evenRow k) = k := by
  revert k; decide +kernel

theorem pairCol (r : Fin 32) (q : Fin 4) : IntOp.cmpi CmpIPredicate.eq (BitVec.ofNat 32 q.val) (IntOp.muli (2#32)
          (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 r.val) 16#32) 0#32))
            (IntOp.subi (IntOp.divsi ArithUnit.vector (BitVec.ofNat 32 r.val) 16#32) 1#32)
            (IntOp.divsi ArithUnit.vector (BitVec.ofNat 32 r.val) 16#32))) = if q.val = 2 * (r.val / 16) then 1#1 else 0#1 := by
  revert r q; decide +kernel

theorem pairBlocks_at {a : FVec Ideal S64x128 .f32} {A : M64} (h : Rep a A) (r : Fin 32) (l : Fin 128) : pairBlocks a (ix2 r l) = ((pair16 A (oddRow r) (lm l) : ℝ) : EReal) := by
  unfold pairBlocks quotBy16
  generalize hx : blk64 = x
  have hy := oddRows_at a r l
  generalize oddRows a = y at hy ⊢
  pointwise []
  subst hx
  have hq : l.val % 64 / 16 < 4 := by omega
  rw [blk64_at, pairCol r ⟨_, hq⟩, sel_if, hy, h]
  unfold pair16
  have ho : (oddRow r).val = if r.val < 16 then 16 + r.val else 32 + r.val := rfl
  have hl : (lm l).val = l.val % 64 := rfl
  by_cases e : l.val % 64 / 16 = 2 * (r.val / 16)
  · rw [if_pos e, if_pos]
    rw [ho, hl]; split <;> omega
  · rw [if_neg e, if_neg]
    · rfl
    · rw [ho, hl]; split <;> omega

/-- A row of a product. -/
theorem mul_row (X Y : M64) (i j : Fin 64) : (X * Y) i j = ∑ k : Fin 64, X i k * Y k j := Matrix.mul_apply

theorem lm_low (j : Fin 64) : lm ⟨j.val, by omega⟩ = j := Fin.ext (by show j.val % 64 = j.val; omega)

theorem inv32_at {a t : FVec Ideal S64x128 .f32} {A T : M64} (ha : Rep a A) (ht : Rep t T) :
    Rep (inv32 a t) (T - keep (fun i => i / 16 % 2 = 1) * T * pair16 A * T) := by
  have h1 : ∀ r l, prod32 (pairBlocks a) t (ix2 r l) = (((pair16 A * T) (oddRow r) (lm l) : ℝ) : EReal) := fun r l => by
    rw [prod32_at _ _ (fun r l => pair16 A (oddRow r) (lm l)) (fun r l => T r (lm l)) (pairBlocks_at ha) ht, mul_row]
    simp only [lm_low]
  have h2 : ∀ r l, toOddRows (prod32 (pairBlocks a) t) (ix2 r l) = (((pair16 A * T) r (lm l) : ℝ) : EReal) := fun r l => by
    rw [toOddRows_at]
    by_cases h : r.val / 16 % 2 = 1
    · rw [if_pos h, h1, odd_even r h]
    · rw [if_neg h, mul_row, Finset.sum_eq_zero]
      · rfl
      · intro k _; unfold pair16; rw [if_neg (fun h' => h h'.1), zero_mul]
  have h3 : ∀ r l, prod32 (oddRows t) (toOddRows (prod32 (pairBlocks a) t)) (ix2 r l) = (((T * (pair16 A * T)) (oddRow r) (lm l) : ℝ) : EReal) := fun r l => by
    rw [prod32_at _ _ (fun r l => T (oddRow r) (lm l)) (fun r l => (pair16 A * T) r (lm l)) (fun r l => by rw [oddRows_at, ht]) h2, mul_row]
    simp only [lm_low]
  intro r l
  have e : inv32 a t (ix2 r l) = t (ix2 r l) - toOddRows (prod32 (oddRows t) (toOddRows (prod32 (pairBlocks a) t))) (ix2 r l) := by
    unfold inv32
    generalize toOddRows (prod32 (oddRows t) (toOddRows (prod32 (pairBlocks a) t))) = z
    pointwise []
  rw [e, toOddRows_at, ht]
  rw [Matrix.sub_apply, Matrix.mul_assoc, Matrix.mul_assoc, keep_mul]
  by_cases h : r.val / 16 % 2 = 1
  · rw [if_pos h, if_pos h, h3, odd_even r h, EReal.coe_sub]
  · rw [if_neg h, if_neg h, sub_zero, sub_zero]

/-! ## Halves -/

/-- Row `r` of the lower half. -/
def lowRow (r : Fin 32) : Fin 64 := ⟨32 + r.val, by omega⟩

theorem slt32 (q : Fin 64) : IntOp.cmpi CmpIPredicate.slt (BitVec.ofNat 32 q.val) 32#32 = if q.val < 32 then 1#1 else 0#1 := by
  revert q; decide +kernel

theorem quarter_at {a : FVec Ideal S64x128 .f32} {A : M64} (h : Rep a A) (r : Fin 32) (l : Fin 128) : quarter a (ix2 r l) = ((low32 A (lowRow r) (lm l) : ℝ) : EReal) := by
  unfold quarter
  generalize hx : lane64 = x
  pointwise []
  subst hx
  rw [lane64_at, slt32 ⟨l.val % 64, Nat.mod_lt _ (by norm_num)⟩, sel_if, h]
  unfold low32
  by_cases e : l.val % 64 < 32
  · rw [if_pos e, if_pos ⟨Nat.le_add_right _ _, e⟩]; rfl
  · rw [if_neg e, if_neg (fun h' => e h'.2)]; rfl

/-- Rows put below zeros. -/
def under (x : FVec Ideal S32x128 .f32) : FVec Ideal S64x128 .f32 :=
  concatenate S64x128 0 [⟨S32x128, broadcast S32x128 (Scalar.ofBits .f32 0x00000000#32)⟩, ⟨S32x128, x⟩] concatenates_S32x128_S32x128_S64x128_d0

theorem under_at (x : FVec Ideal S32x128 .f32) (k : Fin 64) (l : Fin 128) : under x (ix2 k l) = if h : k.val < 32 then 0 else x (ix2 ⟨k.val - 32, by omega⟩ l) := by
  unfold under
  pointwise []

theorem lowRows_at (x : FVec Ideal S64x128 .f32) (r : Fin 32) (l : Fin 128) : lowRows x (ix2 r l) = x (ix2 (lowRow r) l) := by
  unfold lowRows
  pointwise []
  rfl

theorem inv64_at {a t : FVec Ideal S64x128 .f32} {A T : M64} (ha : Rep a A) (ht : Rep t T) :
    Rep (inv64 a t) (T - keep (fun i => 32 ≤ i) * T * low32 A * T) := by
  have h1 : ∀ r l, prod32 (quarter a) t (ix2 r l) = (((low32 A * T) (lowRow r) (lm l) : ℝ) : EReal) := fun r l => by
    rw [prod32_at _ _ (fun r l => low32 A (lowRow r) (lm l)) (fun r l => T r (lm l)) (quarter_at ha) ht, mul_row]
    simp only [lm_low]
  have h2 : ∀ r l, under (prod32 (quarter a) t) (ix2 r l) = (((low32 A * T) r (lm l) : ℝ) : EReal) := fun r l => by
    rw [under_at]
    by_cases h : r.val < 32
    · rw [dif_pos h, mul_row, Finset.sum_eq_zero]
      · rfl
      · intro k _; unfold low32; rw [if_neg (fun h' => by omega), zero_mul]
    · rw [dif_neg h, h1, show lowRow ⟨r.val - 32, by omega⟩ = r from Fin.ext (by show 32 + (r.val - 32) = r.val; omega)]
  have h3 : ∀ r l, prod32 (lowRows t) (under (prod32 (quarter a) t)) (ix2 r l) = (((T * (low32 A * T)) (lowRow r) (lm l) : ℝ) : EReal) := fun r l => by
    rw [prod32_at _ _ (fun r l => T (lowRow r) (lm l)) (fun r l => (low32 A * T) r (lm l)) (fun r l => by rw [lowRows_at, ht]) h2, mul_row]
    simp only [lm_low]
  intro r l
  have e : inv64 a t (ix2 r l) = if h : r.val < 32 then t (ix2 r l) else lowRows t (ix2 ⟨r.val - 32, by omega⟩ l) - prod32 (lowRows t) (under (prod32 (quarter a) t)) (ix2 ⟨r.val - 32, by omega⟩ l) := by
    change (concatenate S64x128 0
      [⟨S32x128, extractStridedSlice S32x128 ![0, 0] t slices_S64x128_o0_0_S32x128⟩,
       ⟨S32x128, subf (lowRows t) (prod32 (lowRows t) (under (prod32 (quarter a) t)))⟩] concatenates_S32x128_S32x128_S64x128_d0 : FVec Ideal S64x128 .f32) (ix2 r l) = _
    generalize prod32 (lowRows t) (under (prod32 (quarter a) t)) = z
    generalize lowRows t = y
    pointwise []
  rw [e, Matrix.sub_apply, Matrix.mul_assoc, Matrix.mul_assoc, keep_mul]
  by_cases h : r.val < 32
  · rw [dif_pos h, if_neg (by omega), sub_zero, ht]
  · rw [dif_neg h, if_pos (by omega), lowRows_at, h3, ht, show lowRow ⟨r.val - 32, by omega⟩ = r from Fin.ext (by show 32 + (r.val - 32) = r.val; omega), EReal.coe_sub]

/-- The body's inverse. -/
theorem inverse_at {a : FVec Ideal S64x128 .f32} {A : M64} (h : Rep a A) : Rep (inverse a) (blockInv A) := by
  have h1 : Rep (placeBlocks (substs (diagBlocks a) 15 (by decide))) (sub16 A 15) := placeBlocks_at (substs_at h 15 (by decide)) (sub16_off A 15)
  exact inv64_at h (inv32_at h h1)

end Cert.KernelIdeal.Hand

end
-- ==== Proof.DeltaChunk.lean ====
/- One chunk of the delta rule over the reals, and the body's steps on it. -/
module

public import proofs.«01_k».proof.Proof.DeltaInverse

@[expose] public section

set_option maxRecDepth 100000

noncomputable section

namespace Cert.Delta

/-- A chunk: codes, the rows' factors, log decays and rates. -/
structure Chunk where
  kc : Fin 64 → Fin 256 → ℝ
  qc : Fin 64 → Fin 256 → ℝ
  sk : Fin 64 → ℝ
  sq : Fin 64 → ℝ
  g : Fin 64 → ℝ
  b : Fin 64 → ℝ

namespace Chunk
variable (c : Chunk)

/-- The running sums of the log decays. -/
def cum (i : Fin 64) : ℝ := ∑ j, c.g j * (if j ≤ i then 1 else 0)

/-- The triangular matrix. -/
def tri : M64 := fun i j => if j < i then (∑ k, c.kc i k * c.kc j k) * (c.b i * c.sk i) * (Real.exp (c.cum i - c.cum j) * c.sk j) else 0

/-- The scores. -/
def att : M64 := fun i j => if j ≤ i then (∑ k, c.qc i k * c.kc j k) * c.sq i * (Real.exp (c.cum i - c.cum j) * c.sk j) else 0

/-- A column of new values, from the column of values and that of the state. -/
def new (v : Fin 64 → ℝ) (s : Fin 256 → ℝ) (i : Fin 64) : ℝ :=
  ∑ j, blockInv c.tri i j * c.b j * (v j - Real.exp (c.cum j) * c.sk j * ∑ k, c.kc j k * s k)

/-- A column of outputs. -/
def out (v : Fin 64 → ℝ) (s : Fin 256 → ℝ) (i : Fin 64) : ℝ :=
  Real.exp (c.cum i) * c.sq i * (∑ k, c.qc i k * s k) + ∑ j, c.att i j * c.new v s j

/-- A column of the state after. -/
def next (v : Fin 64 → ℝ) (s : Fin 256 → ℝ) (k : Fin 256) : ℝ :=
  Real.exp (c.cum 63) * s k + ∑ j, c.kc j k * (Real.exp (c.cum 63 - c.cum j) * c.sk j * c.new v s j)

theorem tri_lower : Lower c.tri := fun _ _ h => if_neg (not_lt.mpr h)

end Chunk

end Cert.Delta

namespace Cert.KernelIdeal.Hand

open Idealize.ShloMosaic Idealize.ShloMosaic.TcCoe
open Cert.KernelIdeal Cert.KernelIdeal.Gen
open Cert.Delta

/-- A vector holds a column, in every lane. -/
def Rows (x : FVec Ideal S64x128 .f32) (X : Fin 64 → ℝ) : Prop := ∀ r l, x (ix2 r l) = ((X r : ℝ) : EReal)
/-- A row holds a column's entries, twice. -/
def Lanes (x : Vec Ideal S1x1x128 .f32) (X : Fin 64 → ℝ) : Prop := ∀ l, x (ix3 0 0 l) = ((X (lm l) : ℝ) : EReal)

theorem exp_at (x : ℝ) : Ideal.exp (x : EReal) = ((Real.exp x : ℝ) : EReal) := rfl
theorem exp_bot : Ideal.exp ⊥ = 0 := rfl

theorem ninf : Ideal.ofBits .f32 4286578688#32 = ⊥ := by simp [Ideal.ofBits, Ideal.ieee]

theorem outS1_at {G rk : FVec Ideal S64x128 .f32} {g k : Fin 64 → ℝ} (hG : Rows G g) (hk : Rows rk k) (r : Fin 64) (l : Fin 128) :
    outS1 G rk (ix4 0 0 r l) = ((Real.exp (g r) * k r : ℝ) : EReal) := by
  unfold outS1
  pointwise []
  rw [hG, hk, exp_at, ← EReal.coe_mul]

theorem outSD_at {G rk : FVec Ideal S64x128 .f32} {g k : Fin 64 → ℝ} (hG : Rows G g) (hk : Rows rk k) (r : Fin 64) (l : Fin 128) :
    outSD G rk (ix4 0 0 r l) = ((Real.exp (g 63 - g r) * k r : ℝ) : EReal) := by
  unfold outSD lastRow
  pointwise []
  rw [hG, hG, hk, ← EReal.coe_sub, exp_at, ← EReal.coe_mul]

theorem outDec_at {G : FVec Ideal S64x128 .f32} {g : Fin 64 → ℝ} (hG : Rows G g) (r : Fin 8) (l : Fin 128) :
    outDec G (ix4 0 0 r l) = ((Real.exp (g 63) : ℝ) : EReal) := by
  unfold outDec lastRow
  pointwise []
  rw [hG, exp_at]

theorem sge64 (r m : Fin 64) : IntOp.cmpi CmpIPredicate.sge (BitVec.ofNat 32 r.val) (BitVec.ofNat 32 m.val) = if m ≤ r then 1#1 else 0#1 := by
  revert r m; decide +kernel
theorem sgt64 (r m : Fin 64) : IntOp.cmpi CmpIPredicate.sgt (BitVec.ofNat 32 r.val) (BitVec.ofNat 32 m.val) = if m < r then 1#1 else 0#1 := by
  revert r m; decide +kernel
theorem eq64 (r m : Fin 64) : IntOp.cmpi CmpIPredicate.eq (BitVec.ofNat 32 r.val) (BitVec.ofNat 32 m.val) = if r = m then 1#1 else 0#1 := by
  revert r m; decide +kernel

theorem lane_at (r : Fin 64) (l : Fin 128) : lane64 (ix2 r l) = BitVec.ofNat 32 (lm l).val := lane64_at r l

theorem decayN_at {G rk : FVec Ideal S64x128 .f32} {gr : Vec Ideal S1x1x128 .f32} {g k : Fin 64 → ℝ} (hG : Rows G g) (hgr : Lanes gr g) (hk : Rows rk k) (r : Fin 64) (l : Fin 128) :
    decayN G gr rk (ix2 r l) = ((if lm l ≤ r then Real.exp (g r - g (lm l)) * k (lm l) else 0 : ℝ) : EReal) := by
  unfold decayN decay
  generalize ha : row64 = a
  generalize hb : lane64 = b
  pointwise []
  subst ha hb
  have e : ∀ x : Fin 64, Scalar.select (IntOp.cmpi CmpIPredicate.eq (row64 (ix2 x l)) (lane64 (ix2 x l))) (rk (ix2 x l)) 0 = if x = lm l then ((k (lm l) : ℝ) : EReal) else 0 := fun x => by
    rw [row64_at, lane_at, eq64, sel_if, hk]
    split
    · next h => rw [h]
    · rfl
  rw [Finset.sum_congr rfl fun x _ => e x, Finset.sum_ite_eq' Finset.univ (lm l), if_pos (Finset.mem_univ _), row64_at, lane_at, sge64, sel_if, hG, hgr, ninf]
  by_cases h : lm l ≤ r
  · rw [if_pos h, if_pos h, ← EReal.coe_sub, exp_at, ← EReal.coe_mul]
  · rw [if_neg h, if_neg h, exp_bot, zero_mul]; rfl

section Sims
variable {k8 q8 : FVec Ideal S64x256 .fp8e4m3} {kc qc : Fin 64 → Fin 256 → ℝ}
  (hk : ∀ r l, k8 (ix2 r l) = ((kc r l : ℝ) : EReal)) (hq : ∀ r l, q8 (ix2 r l) = ((qc r l : ℝ) : EReal))

theorem twiceRow (f : Fin 64 → EReal) (l : Fin 128) : (if h : l.val < 64 then f ⟨l.val, h⟩ else f ⟨l.val - 64, by omega⟩) = f (lm l) := by
  by_cases h : l.val < 64
  · rw [dif_pos h]; exact congrArg f (Fin.ext (by show l.val = l.val % 64; omega))
  · rw [dif_neg h]; exact congrArg f (Fin.ext (by show l.val - 64 = l.val % 64; omega))

include hk in
theorem sims_top (r : Fin 64) (r' : Fin 128) (hr : r'.val = r.val) (l : Fin 128) : sims k8 q8 (ix2 r' l) = ((∑ k, kc r k * kc (lm l) k : ℝ) : EReal) := by
  unfold sims
  pointwise []
  rw [← coe_sum_mul]
  refine Finset.sum_congr rfl fun x _ => ?_
  rw [dif_pos (show r'.val < 64 by omega), ← hk r x, ← hk (lm l) x]
  exact congrArg₂ (· * ·) (congrArg (fun q : Fin 64 => k8 (ix2 q x)) (Fin.ext hr)) (twiceRow (fun q => k8 (ix2 q x)) l)

include hk hq in
theorem sims_low (r : Fin 64) (r' : Fin 128) (hr : r'.val = 64 + r.val) (l : Fin 128) : sims k8 q8 (ix2 r' l) = ((∑ k, qc r k * kc (lm l) k : ℝ) : EReal) := by
  unfold sims
  pointwise []
  rw [← coe_sum_mul]
  refine Finset.sum_congr rfl fun x _ => ?_
  rw [dif_neg (show ¬ r'.val < 64 by omega), ← hq r x, ← hk (lm l) x]
  exact congrArg₂ (· * ·) (congrArg (fun q : Fin 64 => q8 (ix2 q x)) (Fin.ext (by show r'.val - 64 = r.val; omega))) (twiceRow (fun q => k8 (ix2 q x)) l)
end Sims

section Stages
variable {c : Chunk} {k8 q8 : FVec Ideal S64x256 .fp8e4m3} {G b rk rq : FVec Ideal S64x128 .f32} {gr : Vec Ideal S1x1x128 .f32}
  (hk : ∀ r l, k8 (ix2 r l) = ((c.kc r l : ℝ) : EReal)) (hq : ∀ r l, q8 (ix2 r l) = ((c.qc r l : ℝ) : EReal))
  (hG : Rows G c.cum) (hb : Rows b c.b) (hrk : Rows rk c.sk) (hrq : Rows rq c.sq) (hgr : Lanes gr c.cum)

include hk hG hb hrk hgr in
theorem triA_at : Rep (triA (sims k8 q8) b rk (decayN G gr rk)) c.tri := fun r l => by
  unfold triA
  generalize hs : sims k8 q8 = s
  generalize hd : decayN G gr rk = d
  generalize hr : row64 = x
  generalize hl : lane64 = y
  pointwise []
  subst hr hl
  rw [row64_at, lane_at, sgt64, sel_if, ← hs, sims_top hk r _ rfl, ← hd, decayN_at hG hgr hrk, hb, hrk]
  unfold Chunk.tri
  by_cases h : lm l < r
  · rw [if_pos h, if_pos h, if_pos h.le, ← EReal.coe_mul, ← EReal.coe_mul, ← EReal.coe_mul]
  · rw [if_neg h, if_neg h]; rfl

include hk hq hG hrk hrq hgr in
theorem scores_at : Rep (scores (sims k8 q8) rq (decayN G gr rk)) c.att := fun r l => by
  unfold scores
  generalize hs : sims k8 q8 = s
  generalize hd : decayN G gr rk = d
  pointwise []
  rw [← hs, sims_low hk hq r _ rfl, ← hd, decayN_at hG hgr hrk, hrq]
  unfold Chunk.att
  by_cases h : lm l ≤ r
  · rw [if_pos h, if_pos h, ← EReal.coe_mul, ← EReal.coe_mul]
  · rw [if_neg h, if_neg h, ← EReal.coe_mul, ← EReal.coe_mul, mul_zero]
end Stages

/-! ## What the scratches hold -/

/-- The scratches of one head hold a chunk. -/
structure Held (c : Chunk) (kq : Vec Ideal S1x1x128x256 .bf16) (kt : Vec Ideal S1x1x256x128 .bf16) (t p : Vec Ideal S1x1x128x256 .bf16) (s1 sq sd : Vec Ideal S1x1x64x128 .f32)
    (dec : Vec Ideal S1x1x1x128 .f32) : Prop where
  kqTop : ∀ (r : Fin 64) (r' : Fin 128) (l : Fin 256), r'.val = r.val → kq (ix4 0 0 r' l) = ((c.kc r l : ℝ) : EReal)
  kqLow : ∀ (r : Fin 64) (r' : Fin 128) (l : Fin 256), r'.val = 64 + r.val → kq (ix4 0 0 r' l) = ((c.qc r l : ℝ) : EReal)
  kt : ∀ (r : Fin 256) (l : Fin 128), kt (ix4 0 0 r l) = ((c.kc (lm l) r : ℝ) : EReal)
  t : ∃ x, Rep x (fun i j => blockInv c.tri i j * c.b j) ∧ t = shapeCast S1x1x128x256 (lhs64 x) shapeCasts_S128x256_S1x1x128x256
  p : ∃ x, Rep x c.att ∧ p = shapeCast S1x1x128x256 (lhs64 x) shapeCasts_S128x256_S1x1x128x256
  s1 : ∀ (r : Fin 64) (l : Fin 128), s1 (ix4 0 0 r l) = ((Real.exp (c.cum r) * c.sk r : ℝ) : EReal)
  sq : ∀ (r : Fin 64) (l : Fin 128), sq (ix4 0 0 r l) = ((Real.exp (c.cum r) * c.sq r : ℝ) : EReal)
  sd : ∀ (r : Fin 64) (l : Fin 128), sd (ix4 0 0 r l) = ((Real.exp (c.cum 63 - c.cum r) * c.sk r : ℝ) : EReal)
  dec : ∀ l : Fin 128, dec (ix4 0 0 0 l) = ((Real.exp (c.cum 63) : ℝ) : EReal)

theorem outKQ_top {xk xq : FVec Ideal S64x256 .bf16} {kc : Fin 64 → Fin 256 → ℝ} (hk : ∀ r l, cds xk (ix2 r l) = ((kc r l : ℝ) : EReal)) (r : Fin 64) (r' : Fin 128) (l : Fin 256) (h : r'.val = r.val) :
    outKQ xk xq (ix4 0 0 r' l) = ((kc r l : ℝ) : EReal) := by
  unfold outKQ
  generalize hx : cds xk = a
  generalize cds xq = b
  pointwise []
  rw [dif_pos (show r'.val < 64 by omega), ← hk, hx]
  exact congrArg (fun q : Fin 64 => a (ix2 q l)) (Fin.ext h)

theorem outKQ_low {xk xq : FVec Ideal S64x256 .bf16} {qc : Fin 64 → Fin 256 → ℝ} (hq : ∀ r l, cds xq (ix2 r l) = ((qc r l : ℝ) : EReal)) (r : Fin 64) (r' : Fin 128) (l : Fin 256) (h : r'.val = 64 + r.val) :
    outKQ xk xq (ix4 0 0 r' l) = ((qc r l : ℝ) : EReal) := by
  unfold outKQ
  generalize cds xk = a
  generalize hx : cds xq = b
  pointwise []
  rw [dif_neg (show ¬ r'.val < 64 by omega), ← hq, hx]
  exact congrArg (fun q : Fin 64 => b (ix2 q l)) (Fin.ext (by show r'.val - 64 = r.val; omega))

theorem outKT_at {xk : FVec Ideal S64x256 .bf16} {kc : Fin 64 → Fin 256 → ℝ} (hk : ∀ r l, cds xk (ix2 r l) = ((kc r l : ℝ) : EReal)) (r : Fin 256) (l : Fin 128) :
    outKT xk (ix4 0 0 r l) = ((kc (lm l) r : ℝ) : EReal) := by
  unfold outKT
  generalize hx : cds xk = a
  pointwise []
  rw [← hk, hx]
  exact twiceRow (fun q => a (ix2 q r)) l

theorem times_at {x : FVec Ideal S64x128 .f32} {br : Vec Ideal S1x1x128 .f32} {X : M64} {b : Fin 64 → ℝ} (hx : Rep x X) (hb : Lanes br b) :
    Rep (mulf x (broadcastTo S64x128 (shapeCast S1x128 br shapeCasts_S1x1x128_S1x128) broadcasts_S1x128_S64x128)) (fun i j => X i j * b j) := fun r l => by
  pointwise []
  rw [hx, hb, ← EReal.coe_mul]

/-! ## The recurrence -/

section Recur
variable {c : Chunk} {kq : Vec Ideal S1x1x128x256 .bf16} {kt : Vec Ideal S1x1x256x128 .bf16} {t p : Vec Ideal S1x1x128x256 .bf16} {s1 sq sd : Vec Ideal S1x1x64x128 .f32}
    {dec : Vec Ideal S1x1x1x128 .f32} (h : Held c kq kt t p s1 sq sd dec) {v : Vec Ideal S1x64x256 .bf16} {s : Vec Ideal S1x256x256 .f32} {V : Fin 64 → Fin 256 → ℝ} {S : Fin 256 → Fin 256 → ℝ}
    (hv : ∀ r l, v (ix3 0 r l) = ((V r l : ℝ) : EReal)) (hs : ∀ r l, s (ix3 0 r l) = ((S r l : ℝ) : EReal))

theorem sum_zero {ι : Type} (u : Finset ι) (f g : ι → EReal) (h : ∀ i, g i = 0) : ∑ i ∈ u, f i * g i = 0 :=
  Finset.sum_eq_zero fun i _ => by rw [h, mul_zero]

include hs in
theorem onState_row (K : Fin 256 → ℝ) (r : Fin 128) (hK : ∀ x, kq (ix4 0 0 r x) = ((K x : ℝ) : EReal)) (l : Fin 256) : onState kq s (ix2 r l) = ((∑ k, K k * S k l : ℝ) : EReal) := by
  unfold onState top
  dsimp only
  pointwise []
  have e : ∀ x, s (ix3 0 x l) - s (ix3 0 x l) = 0 := fun x => by rw [hs, self_sub]
  rw [sum_zero _ _ (fun x => s (ix3 0 x l) - s (ix3 0 x l)) e, sum_zero _ _ (fun x => s (ix3 0 x l) - s (ix3 0 x l) - (s (ix3 0 x l) - s (ix3 0 x l))) (fun x => by rw [e, sub_zero]), add_zero, add_zero, ← coe_sum_mul]
  exact Finset.sum_congr rfl fun x _ => by rw [hK, hs]

theorem wide_at {x : Vec Ideal S1x1x64x128 .f32} {X : Fin 64 → ℝ} (hx : ∀ r l, x (ix4 0 0 r l) = ((X r : ℝ) : EReal)) (r : Fin 64) (l : Fin 256) : wide x (ix2 r l) = ((X r : ℝ) : EReal) := by
  unfold wide
  pointwise []
  split <;> exact hx _ _

theorem cast_back (x : FVec Ideal S64x128 .f32) : shapeCast S128x256 (shapeCast S1x1x128x256 (lhs64 x) shapeCasts_S128x256_S1x1x128x256) shapeCasts_S1x1x128x256_S128x256 = lhs64 x := by
  generalize lhs64 x = y
  have e : ∀ r l, shapeCast S128x256 (shapeCast S1x1x128x256 y shapeCasts_S128x256_S1x1x128x256) shapeCasts_S1x1x128x256_S128x256 (ix2 r l) = y (ix2 r l) := fun r l => by pointwise []
  funext i
  have := e (i 0) (i 1)
  rwa [ix2_eta i] at this

include h hv hs in
theorem newV_at (r : Fin 64) (l : Fin 256) : newV t s1 v (onState kq s) (ix2 r l) = ((c.new (fun i => V i l) (fun k => S k l) r : ℝ) : EReal) := by
  obtain ⟨x, hx, rfl⟩ := h.t
  unfold newV
  rw [cast_back, prod64_at x _ (fun r l => blockInv c.tri r (lm l) * c.b (lm l)) (fun r l => V r l - Real.exp (c.cum r) * c.sk r * ∑ k, c.kc r k * S k l) hx]
  · simp only [lm_low]; rfl
  · intro r l
    generalize ho : onState kq s = o
    generalize hw : wide s1 = w
    pointwise []
    rw [hv, ← hw, wide_at h.s1, ← ho, onState_row hs (c.kc r) _ (fun x => h.kqTop r _ x rfl), ← EReal.coe_mul, ← EReal.coe_sub]

include h hv hs in
theorem outO_at (r : Fin 64) (l : Fin 256) : outO p sq (onState kq s) (newV t s1 v (onState kq s)) (ix3 0 r l) = ((c.out (fun i => V i l) (fun k => S k l) r : ℝ) : EReal) := by
  obtain ⟨x, hx, hp⟩ := h.p
  have hy := newV_at h hv hs
  generalize newV t s1 v (onState kq s) = y at hy
  have hz := prod64_at x y (fun r l => c.att r (lm l)) (fun r l => c.new (fun i => V i l) (fun k => S k l) r) hx hy r l
  unfold outO
  rw [hp, cast_back]
  generalize prod64 (lhs64 x) y = z at hz
  generalize ho : onState kq s = o
  generalize hw : wide sq = w
  pointwise []
  rw [hz, ← hw, wide_at h.sq, ← ho, onState_row hs (c.qc r) _ (fun x => h.kqLow r _ x rfl), ← EReal.coe_mul, ← EReal.coe_add]
  simp only [lm_low]; rfl

include h hv hs in
theorem outS_at (k : Fin 256) (l : Fin 256) : outS kt sd dec s (newV t s1 v (onState kq s)) (ix3 0 k l) = ((c.next (fun i => V i l) (fun k => S k l) k : ℝ) : EReal) := by
  have hy := newV_at h hv hs
  generalize newV t s1 v (onState kq s) = y at hy
  have hw := wide_at h.sd
  unfold outS top
  generalize wide sd = w at hw
  pointwise []
  have hwy : ∀ r : Fin 64, w (ix2 r l) * y (ix2 r l) = ((Real.exp (c.cum 63 - c.cum r) * c.sk r * c.new (fun i => V i l) (fun k => S k l) r : ℝ) : EReal) := fun r => by rw [hw, hy, ← EReal.coe_mul]
  have hd : (if h : l.val < 128 then dec (ix4 0 0 0 ⟨l.val, h⟩) else dec (ix4 0 0 0 ⟨l.val - 128, by omega⟩)) = ((Real.exp (c.cum 63) : ℝ) : EReal) := by
    split <;> exact h.dec _
  refine (congrArg₂ (· + ·) (congrArg₂ (· * ·) hd (hs k l)) (sum256 _)).trans ?_
  have z0 : ∀ r : Fin 64, w (ix2 r l) * y (ix2 r l) - w (ix2 r l) * y (ix2 r l) = 0 := fun r => by rw [hwy, self_sub]
  have e1 : ∀ j : Fin 64, (if h : j.val < 128 then kt (ix4 0 0 k ⟨j.val, h⟩) else kt (ix4 0 0 k ⟨j.val - 128, by omega⟩)) = ((c.kc j k : ℝ) : EReal) := fun j => by
    rw [dif_pos (show j.val < 128 by omega), h.kt, lm_low]
  unfold Chunk.next
  rw [EReal.coe_add, EReal.coe_mul, ← coe_sum_mul]
  refine congrArg₂ (· + ·) rfl ?_
  refine (congrArg₂ (· + ·) (Finset.sum_congr rfl fun j _ => ?_) (congrArg₂ (· + ·) (Finset.sum_eq_zero fun j _ => ?_) (congrArg₂ (· + ·) (Finset.sum_eq_zero fun j _ => ?_) (Finset.sum_eq_zero fun j _ => ?_)))).trans (by rw [add_zero, add_zero, add_zero])
  · refine congrArg₂ (· * ·) (e1 j) ?_
    rw [dif_pos (show j.val < 64 from j.isLt)]
    exact hwy j
  · rw [dif_neg (show ¬ 64 + j.val < 64 by omega), dif_pos (show 64 + j.val - 64 < 64 by omega), z0, mul_zero]
  · rw [dif_neg (show ¬ 128 + j.val < 64 by omega), dif_neg (show ¬ 128 + j.val - 64 < 64 by omega), dif_pos (show 128 + j.val - 64 - 64 < 64 by omega), z0, sub_zero, mul_zero]
  · rw [dif_neg (show ¬ 192 + j.val < 64 by omega), dif_neg (show ¬ 192 + j.val - 64 < 64 by omega), dif_neg (show ¬ 192 + j.val - 64 - 64 < 64 by omega), mul_zero]
end Recur

end Cert.KernelIdeal.Hand

end
-- ==== Proof.DeltaTables.lean ====
/- The tables of running sums and rates, the norms, and a chunk's numbers, which are finite. -/
module

public import proofs.«01_k».proof.Proof.DeltaRun
public import proofs.«01_k».proof.Proof.DeltaChunk

@[expose] public noncomputable section

set_option maxRecDepth 100000
set_option synthInstance.maxHeartbeats 0

namespace Cert.KernelIdeal.Hand

open Idealize.ShloMosaic Idealize.ShloMosaic.TcCoe
open Cert.KernelIdeal Cert.KernelIdeal.Gen
open Cert.Delta Cert.Quant

theorem sle64 (r m : Fin 64) : IntOp.cmpi CmpIPredicate.sle (BitVec.ofNat 32 r.val) (BitVec.ofNat 32 m.val) = if r ≤ m then 1#1 else 0#1 := by
  revert r m; decide +kernel

theorem lane_word (l : Fin 128) : (Scalar.select
          (IntOp.andi
            (IntOp.xori
              (IntOp.cmpi CmpIPredicate.slt
                (IntOp.remsi ArithUnit.vector (BitVec.ofNat 32 l.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 l.val)
                (Scalar.select (Scalar.cmpi CmpIPredicate.eq 64#32 0#32) 1#32 64#32))
              0#32))
          (IntOp.addi
            (IntOp.remsi ArithUnit.vector (BitVec.ofNat 32 l.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 l.val)
            (Scalar.select (Scalar.cmpi CmpIPredicate.eq 64#32 0#32) 1#32 64#32)) : BitVec 32) = BitVec.ofNat 32 (lm l).val := by
  revert l; decide +kernel

theorem mask_at (r : Fin 64) (l : Fin 128) : k0_pay10 (F := Ideal) (ix2 r l) = ((if r ≤ lm l then 1 else 0 : ℝ) : EReal) := by
  unfold k0_pay10
  pointwise []
  rw [lane_word, sle64, sel_if]
  split <;> rfl

theorem sums_at (x : Vec Ideal S1x128x64 .f32) (G : Fin 128 → Fin 64 → ℝ) (hx : ∀ n j, x (ix3 0 n j) = ((G n j : ℝ) : EReal)) (n l : Fin 128) :
    sums x (ix2 n l) = ((∑ j, G n j * (if j ≤ lm l then 1 else 0) : ℝ) : EReal) := by
  unfold sums
  have hm := mask_at
  generalize k0_pay10 (F := Ideal) = w at hm
  unfold k0_pay30
  pointwise []
  rw [← coe_sum_mul]
  exact Finset.sum_congr rfl fun j _ => by rw [hx, hm]

theorem sumsT_at (x : Vec Ideal S1x128x64 .f32) (G : Fin 128 → Fin 64 → ℝ) (hx : ∀ n j, x (ix3 0 n j) = ((G n j : ℝ) : EReal)) (r : Fin 64) (l : Fin 128) :
    sumsT x (ix3 0 r l) = ((∑ j, G l j * (if j ≤ r then 1 else 0) : ℝ) : EReal) := by
  have h := sums_at x G hx
  unfold sums at h
  unfold sumsT k0_pay32
  generalize k0_pay30 (F := Ideal) k0_pay10 x = w at h ⊢
  pointwise []
  rw [h]
  exact congrArg _ (Finset.sum_congr rfl fun j _ => by rw [show lm (⟨r.val, by omega⟩ : Fin 128) = r from lm_low r])

theorem twice_at (x : Vec Ideal S1x128x64 .f32) (n l : Fin 128) : twice x (ix2 n l) = x (ix3 0 n (lm l)) := by
  unfold twice k0_pay33
  pointwise []
  exact twiceRow (fun q => x (ix3 0 n q)) l

theorem pay29_at (x : FVec Ideal S128x128 .f32) (r : Fin 64) (l : Fin 128) : k0_pay29 x (ix3 0 r l) = x (ix2 l ⟨r.val, by omega⟩) := by
  unfold k0_pay29
  pointwise []

theorem pickLane_at (n : Fin 128) (x : Vec Ideal S1x64x128 .f32) (r : Fin 64) (l : Fin 128) : pickLane (BitVec.ofNat 32 n.val) x (ix2 r l) = x (ix3 0 r n) := by
  have e : ∀ n : Fin 128, (Scalar.select (IntOp.cmpi CmpIPredicate.slt (BitVec.ofNat 32 n.val) 0#32) (IntOp.addi (BitVec.ofNat 32 n.val) 128#32) (BitVec.ofNat 32 n.val)).toNat % 128 = n.val := by decide +kernel
  unfold pickLane
  pointwise []
  exact congrArg (fun q : Fin 128 => x (ix3 0 r q)) (Fin.ext (e n))

theorem rNorm_at (x : FVec Ideal S64x256 .bf16) (s : FVec Ideal S1x1 .f32) (r : Fin 64) (l : Fin 128) :
    rNorm x s (ix2 r l) = Ideal.rsqrt (∑ c, x (ix2 r c) * x (ix2 r c) + Ideal.ofBits .f32 0x358637BD#32) * s (ix2 0 0) := by
  unfold rNorm
  pointwise []

theorem sclQ_at (x : FVec Ideal S64x256 .bf16) : sclQ x (ix2 0 0) = scl x (ix2 0 0) * Ideal.ofBits .f32 0x3D800000#32 := by
  unfold sclQ
  generalize scl x = s
  pointwise []

/-! ## Finite numbers -/

theorem code_real (X : Fin 64 → Fin 256 → EReal) (r : Fin 64) (l : Fin 256) : ((code X r l).toReal : EReal) = code X r l := by
  have h1 : Ideal.ofBits .f32 0x43E00000#32 = _ := ieee_pos (b := 0x43E00000#32) (i := 135) (m := 6291456) (by decide) (by decide) (by decide) (by decide) (by decide)
  have h2 : ∃ c : ℝ, Ideal.ofBits .f32 0xC3E00000#32 = (c : EReal) := ⟨_, by simp [Ideal.ofBits, Ideal.ieee]; rfl⟩
  obtain ⟨c, h2⟩ := h2
  unfold code
  rw [h1, h2]
  refine EReal.coe_toReal (ne_of_lt (lt_of_le_of_lt (min_le_left _ _) (EReal.coe_lt_top _))) (ne_of_gt (lt_min (EReal.bot_lt_coe _) (lt_max_of_lt_left (EReal.bot_lt_coe _))))

theorem scale_real {X : Fin 64 → Fin 256 → EReal} (hx : InRange X) : ((scale X).toReal : EReal) = scale X := by
  obtain ⟨e, _, _, _, _, _, h⟩ := quant_cases (mulOf_nonneg X) (mulOf_lt hx)
  show ((scaleOf (mulOf X)).toReal : EReal) = scaleOf (mulOf X)
  rw [h]; rfl

theorem entry_real {X : Fin 64 → Fin 256 → EReal} (hx : InRange X) (r : Fin 64) (l : Fin 256) : ((X r l).toReal : EReal) = X r l := by
  obtain ⟨d, _, _, hd⟩ := large
  have h := hx r l
  rw [hd, max_le_iff] at h
  refine EReal.coe_toReal (ne_of_lt (lt_of_le_of_lt h.1 (EReal.coe_lt_top _))) (fun e => ?_)
  rw [e] at h
  exact absurd (lt_of_le_of_lt h.2 (EReal.coe_lt_top _)) (by simp)

/-- The reciprocal norm of a row. -/
def norm (X : Fin 64 → Fin 256 → EReal) (r : Fin 64) : EReal := Ideal.rsqrt (∑ c, X r c * X r c + Ideal.ofBits .f32 0x358637BD#32)

theorem eps : ∃ c : ℝ, 0 < c ∧ Ideal.ofBits .f32 0x358637BD#32 = (c : EReal) := by
  have h : Ideal.ofBits .f32 0x358637BD#32 = _ := ieee_pos (b := 0x358637BD#32) (i := 107) (m := 407485) (by decide) (by decide) (by decide) (by decide) (by decide)
  exact ⟨_, by positivity, h⟩

theorem sixteenth : ∃ c : ℝ, Ideal.ofBits .f32 0x3D800000#32 = (c : EReal) :=
  ⟨_, ieee_pos (b := 0x3D800000#32) (i := 123) (m := 0) (by decide) (by decide) (by decide) (by decide) (by decide)⟩

theorem norm_real {X : Fin 64 → Fin 256 → EReal} (hx : InRange X) (r : Fin 64) : ((norm X r).toReal : EReal) = norm X r := by
  obtain ⟨c, hc, he⟩ := eps
  have e : ∑ c, X r c * X r c + (c : EReal) = ((∑ l, (X r l).toReal * (X r l).toReal + c : ℝ) : EReal) := by
    rw [EReal.coe_add, ← coe_sum_mul]
    exact congrArg (· + _) (Finset.sum_congr rfl fun l _ => by rw [entry_real hx])
  have hp : 0 < ∑ l, (X r l).toReal * (X r l).toReal + c := add_pos_of_nonneg_of_pos (Finset.sum_nonneg fun l _ => mul_self_nonneg _) hc
  unfold norm
  rw [he, e]
  generalize ∑ l, (X r l).toReal * (X r l).toReal + c = y at hp
  show ((if y < 0 then (⊥ : EReal) else if y = 0 then ⊤ else (((√y)⁻¹ : ℝ) : EReal)).toReal : EReal) = if y < 0 then (⊥ : EReal) else if y = 0 then ⊤ else (((√y)⁻¹ : ℝ) : EReal)
  rw [if_neg (not_lt.mpr hp.le), if_neg hp.ne']; rfl

/-- A chunk of the delta rule, from its entries: codes, scales and norms of its keys and queries. -/
def chunkOf (K Q : Fin 64 → Fin 256 → EReal) (g b : Fin 64 → ℝ) : Chunk where
  kc r l := (code K r l).toReal
  qc r l := (code Q r l).toReal
  sk r := (norm K r).toReal * (scale K).toReal
  sq r := (norm Q r).toReal * ((scale Q).toReal * (Ideal.ofBits .f32 0x3D800000#32).toReal)
  g := g
  b := b

section Entries
variable {x : FVec Ideal S64x256 .bf16} {X : Fin 64 → Fin 256 → EReal} (e : ∀ r l, x (ix2 r l) = X r l) (hx : InRange X)
include e hx

theorem cds_at (r : Fin 64) (l : Fin 256) : cds x (ix2 r l) = (((code X r l).toReal : ℝ) : EReal) := by
  obtain rfl : (fun r l => x (ix2 r l)) = X := funext fun r => funext fun l => e r l
  rw [code_real]
  exact kCodes x hx r l

theorem scl_at : scl x (ix2 0 0) = (((scale X).toReal : ℝ) : EReal) := by
  obtain rfl : (fun r l => x (ix2 r l)) = X := funext fun r => funext fun l => e r l
  rw [scale_real hx]
  exact kScale x hx

theorem rk_at : Rows (rNorm x (scl x)) (fun r => (norm X r).toReal * (scale X).toReal) := fun r l => by
  rw [rNorm_at, scl_at e hx, EReal.coe_mul, norm_real hx]
  unfold norm
  simp only [e]

theorem rq_at : Rows (rNorm x (sclQ x)) (fun r => (norm X r).toReal * ((scale X).toReal * (Ideal.ofBits .f32 0x3D800000#32).toReal)) := fun r l => by
  obtain ⟨d, hd⟩ := sixteenth
  rw [rNorm_at, sclQ_at, scl_at e hx, EReal.coe_mul, norm_real hx, EReal.coe_mul, hd]
  unfold norm
  simp only [e]; rfl
end Entries

end Cert.KernelIdeal.Hand

end
-- ==== Proof.DeltaPoint.lean ====
/- One point of the grid over finite numbers: the scratches that it fills hold its block's chunks, and the outputs and the state are those of
   the chunks that the scratches held. -/
module

public import proofs.«01_k».proof.Proof.DeltaReads
public import proofs.«01_k».proof.Proof.DeltaTables

@[expose] public noncomputable section

set_option maxRecDepth 100000
set_option synthInstance.maxHeartbeats 0
set_option maxHeartbeats 0

namespace Cert.KernelIdeal.Hand

open Idealize.ShloMosaic Idealize.ShloMosaic.TcCoe
open Cert.KernelIdeal Cert.KernelIdeal.Gen
open Cert.Delta Cert.Quant

/-- The running sums of log decays. -/
def cumOf (g : Fin 64 → ℝ) (i : Fin 64) : ℝ := ∑ j, g j * (if j ≤ i then 1 else 0)

/-- A table holds the numbers `X`. -/
def Table {κ : Kind} {sp : Space} {a b : ℕ} (v : View sig κ sp ⟨3, ![4, a, b]⟩ .f32) (f : v.ty.Contents (Elt Ideal)) (X : Fin 4 → Fin a → Fin b → ℝ) : Prop :=
  ∀ h r l, v.read (Elt Ideal) f (ix3 h r l) = ((X h r l : ℝ) : EReal)

theorem ld_head {a b : ℕ} (x : Vec Ideal ⟨3, ![4, a, b]⟩ .f32) (h : Fin 4) (r : Fin a) (l : Fin b) : View.ld x (headR a b h) (ix3 0 r l) = x (ix3 h r l) :=
  congrArg x (head_emb h r l)

section Fill
variable (c : Dev nD) (i : grid0.Coords) (A1 A2 : Memref sig .tc .vmem S4x128x256 .bf16) (A4 A5 : Memref sig .tc .vmem S4x128x64 .f32)
  (A13 A14 : Memref sig .tc .vmem S4x64x128 .f32) (A15 A16 : Memref sig .tc .vmem S4x128x128 .f32)
  (f1 : Buf (Elt Ideal) (A1.view.loc (c : Thread nD τ))) (f2 : Buf (Elt Ideal) (A2.view.loc (c : Thread nD τ)))
  (f4 : Buf (Elt Ideal) (A4.view.loc (c : Thread nD τ))) (f5 : Buf (Elt Ideal) (A5.view.loc (c : Thread nD τ)))
  (f13 : Buf (Elt Ideal) (A13.view.loc (c : Thread nD τ))) (f14 : Buf (Elt Ideal) (A14.view.loc (c : Thread nD τ)))
  (f15 : Buf (Elt Ideal) (A15.view.loc (c : Thread nD τ))) (f16 : Buf (Elt Ideal) (A16.view.loc (c : Thread nD τ)))
  {G B : Fin 4 → Fin 128 → Fin 64 → ℝ}

/-! ## The tables -/

theorem tabT_holds (hG : Table A4.view f4 G) (hold : body_run.sl.v28 i ≠ 1#1 → Table A13.view f13 (fun h r n => cumOf (G h n) r)) :
    Table A13.view (tabT c i A4 A13 f4 f13) (fun h r n => cumOf (G h n) r) := by
  unfold tabT
  split
  · intro h r n
    refine (read_table A13.view f13 (fun h => sumsT (View.ld (A4.view.read (Elt Ideal) f4) (headR 128 64 h))) h r n).trans ?_
    exact sumsT_at _ (G h) (fun n j => (ld_head _ h n j).trans (hG h n j)) r n
  · next hc => exact hold hc

theorem tab15_holds (hG : Table A4.view f4 G) (hold : body_run.sl.v28 i ≠ 1#1 → Table A15.view f15 (fun h n l => cumOf (G h n) (lm l))) :
    Table A15.view (tab15 c i A4 A15 f4 f15) (fun h n l => cumOf (G h n) (lm l)) := by
  unfold tab15
  split
  · intro h n l
    refine (read_table A15.view f15 (fun h => (shapeCast S1x128x128 (sums (View.ld (A4.view.read (Elt Ideal) f4) (headR 128 64 h))) shapeCasts_S128x128_S1x128x128 : FVec Ideal S1x128x128 .f32)) h n l).trans ?_
    have hs := sums_at _ (G h) (fun n j => (ld_head _ h n j).trans (hG h n j)) n l
    generalize sums (View.ld (A4.view.read (Elt Ideal) f4) (headR 128 64 h)) = w at hs ⊢
    pointwise []
    exact hs
  · next hc => exact hold hc

theorem tab14_holds (hB : Table A5.view f5 B) (hold : body_run.sl.v28 i ≠ 1#1 → Table A14.view f14 (fun h r n => B h n r)) :
    Table A14.view (tab14 c i A5 A14 f5 f14) (fun h r n => B h n r) := by
  unfold tab14
  split
  · intro h r n
    refine (read_table A14.view f14 (fun h => k0_pay29 (twice (View.ld (A5.view.read (Elt Ideal) f5) (headR 128 64 h)))) h r n).trans ?_
    refine (pay29_at _ r n).trans ((twice_at _ _ _).trans ((ld_head _ h n _).trans ?_))
    rw [show lm (⟨r.val, by omega⟩ : Fin 128) = r from lm_low r]
    exact hB h n r
  · next hc => exact hold hc

theorem tab16_holds (hB : Table A5.view f5 B) (hold : body_run.sl.v28 i ≠ 1#1 → Table A16.view f16 (fun h n l => B h n (lm l))) :
    Table A16.view (tab16 c i A5 A16 f5 f16) (fun h n l => B h n (lm l)) := by
  unfold tab16
  split
  · intro h n l
    refine (read_table A16.view f16 (fun h => (shapeCast S1x128x128 (twice (View.ld (A5.view.read (Elt Ideal) f5) (headR 128 64 h))) shapeCasts_S128x128_S1x128x128 : FVec Ideal S1x128x128 .f32)) h n l).trans ?_
    have hs := (twice_at (View.ld (A5.view.read (Elt Ideal) f5) (headR 128 64 h)) n l).trans ((ld_head _ h n _).trans (hB h n (lm l)))
    generalize twice (View.ld (A5.view.read (Elt Ideal) f5) (headR 128 64 h)) = w at hs ⊢
    pointwise []
    exact hs
  · next hc => exact hold hc

/-! ## The scratches -/

variable (num : Fin 2 → Fin 128)

/-- The chunk of head `h` that a point fills the scratches with. -/
def chAt (G B : Fin 4 → Fin 128 → Fin 64 → ℝ) (h : Fin 4) (j : Fin 2) : Chunk :=
  chunkOf (chunk (A2.view.read (Elt Ideal) f2) h j) (chunk (A1.view.read (Elt Ideal) f1) h j) (G h (num j)) (B h (num j))

variable (hn : ∀ j, chunkNo i j = BitVec.ofNat 32 (num j).val) (hoff : ∀ h j, rowOff i h j = ![h.val, (num j).val, 0])
  (hK : ∀ h j, InRange (chunk (A2.view.read (Elt Ideal) f2) h j)) (hQ : ∀ h j, InRange (chunk (A1.view.read (Elt Ideal) f1) h j))
  (h13 : Table A13.view (tabT c i A4 A13 f4 f13) (fun h r n => cumOf (G h n) r)) (h14 : Table A14.view (tab14 c i A5 A14 f5 f14) (fun h r n => B h n r))
  (h15 : Table A15.view (tab15 c i A4 A15 f4 f15) (fun h n l => cumOf (G h n) (lm l))) (h16 : Table A16.view (tab16 c i A5 A16 f5 f16) (fun h n l => B h n (lm l)))

theorem readAt_head {κ : Kind} {sp : Space} {a b : ℕ} (v : View sig κ sp ⟨3, ![4, a, b]⟩ .f32) (f : v.ty.Contents (Elt Ideal)) (h : Fin 4) (r : Fin a) (l : Fin b) :
    v.readAt (Elt Ideal) (headR a b h).toLoadRect f (ix3 0 r l) = v.read (Elt Ideal) f (ix3 h r l) := congrArg (v.read (Elt Ideal) f) (head_emb h r l)

include hn h13 in
theorem sumOf_rows (h : Fin 4) (j : Fin 2) : Rows (sumOf c i A4 A13 f4 f13 h j) (cumOf (G h (num j))) := fun r l => by
  unfold sumOf
  rw [hn, pickLane_at, readAt_head]
  exact h13 h r (num j)

include hn h14 in
theorem rateOf_rows (h : Fin 4) (j : Fin 2) : Rows (rateOf c i A5 A14 f5 f14 h j) (B h (num j)) := fun r l => by
  unfold rateOf
  rw [hn, pickLane_at, readAt_head]
  exact h14 h r (num j)

include hoff in
theorem row_lanes {X : Fin 4 → Fin 128 → Fin 128 → ℝ} (v : View sig .tc .vmem S4x128x128 .f32) (f : v.ty.Contents (Elt Ideal)) (hf : Table v f X) (h : Fin 4) (j : Fin 2) (l : Fin 128) :
    v.readAt (Elt Ideal) (rowOffR i h j).toLoadRect f (ix3 0 0 l) = ((X h (num j) l : ℝ) : EReal) := by
  refine (congrArg (v.read (Elt Ideal) f) ?_).trans (hf h (num j) l)
  show (rowOffR i h j).emb (ix3 0 0 l) = _
  funext d
  have e := congrFun (hoff h j) d
  refine Fin.ext (show rowOff i h j d + 1 * ((ix3 0 0 l : S1x1x128.Idx) d).val = _ from ?_)
  rw [e]
  fin_cases d
  · show h.val + 1 * 0 = h.val; omega
  · show (num j).val + 1 * 0 = (num j).val; omega
  · show 0 + 1 * l.val = l.val; omega

/-- The scratches hold the chunks `ch`. -/
def HeldAt (A17 : Memref sig .tc .vmem S4x2x128x256 .bf16) (A18 : Memref sig .tc .vmem S4x2x256x128 .bf16)
    (A19 A20 : Memref sig .tc .vmem S4x2x128x256 .bf16) (A21 A22 A23 : Memref sig .tc .vmem S4x2x64x128 .f32) (A24 : Memref sig .tc .vmem S4x2x8x128 .f32)
    (f17 : Buf (Elt Ideal) (A17.view.loc (c : Thread nD τ))) (f18 : Buf (Elt Ideal) (A18.view.loc (c : Thread nD τ))) (f19 : Buf (Elt Ideal) (A19.view.loc (c : Thread nD τ)))
    (f20 : Buf (Elt Ideal) (A20.view.loc (c : Thread nD τ))) (f21 : Buf (Elt Ideal) (A21.view.loc (c : Thread nD τ))) (f22 : Buf (Elt Ideal) (A22.view.loc (c : Thread nD τ)))
    (f23 : Buf (Elt Ideal) (A23.view.loc (c : Thread nD τ))) (f24 : Buf (Elt Ideal) (A24.view.loc (c : Thread nD τ))) (ch : Fin 4 → Fin 2 → Chunk) : Prop :=
  ∀ h j, Held (ch h j) (A17.view.readAt (Elt Ideal) (cellR 128 256 h j).toLoadRect f17) (A18.view.readAt (Elt Ideal) (cellR 256 128 h j).toLoadRect f18)
    (A19.view.readAt (Elt Ideal) (cellR 128 256 h j).toLoadRect f19) (A20.view.readAt (Elt Ideal) (cellR 128 256 h j).toLoadRect f20)
    (A21.view.readAt (Elt Ideal) (cellR 64 128 h j).toLoadRect f21) (A22.view.readAt (Elt Ideal) (cellR 64 128 h j).toLoadRect f22)
    (A23.view.readAt (Elt Ideal) (cellR 64 128 h j).toLoadRect f23)
    (A24.view.readAt (Elt Ideal) (Rect.unit (s := S4x2x8x128) ![h.val, j.val, 0, 0] S1x1x1x128.size (inbDec h j)).toLoadRect f24)

include hn hoff hK hQ h13 h14 h15 h16 in
theorem held_after (A17 : Memref sig .tc .vmem S4x2x128x256 .bf16) (A18 : Memref sig .tc .vmem S4x2x256x128 .bf16)
    (A19 A20 : Memref sig .tc .vmem S4x2x128x256 .bf16) (A21 A22 A23 : Memref sig .tc .vmem S4x2x64x128 .f32) (A24 : Memref sig .tc .vmem S4x2x8x128 .f32)
    (f17 : Buf (Elt Ideal) (A17.view.loc (c : Thread nD τ))) (f18 : Buf (Elt Ideal) (A18.view.loc (c : Thread nD τ))) (f19 : Buf (Elt Ideal) (A19.view.loc (c : Thread nD τ)))
    (f20 : Buf (Elt Ideal) (A20.view.loc (c : Thread nD τ))) (f21 : Buf (Elt Ideal) (A21.view.loc (c : Thread nD τ))) (f22 : Buf (Elt Ideal) (A22.view.loc (c : Thread nD τ)))
    (f23 : Buf (Elt Ideal) (A23.view.loc (c : Thread nD τ))) (f24 : Buf (Elt Ideal) (A24.view.loc (c : Thread nD τ))) :
    HeldAt c A17 A18 A19 A20 A21 A22 A23 A24
      (A17.view.writes (Elt Ideal) f17 (body_run.sl.H17_8 c A1 A2 f1 f2)) (A18.view.writes (Elt Ideal) f18 (body_run.sl.H18_8 c A2 f2))
      (A19.view.writes (Elt Ideal) f19 (cells (a := 128) (b := 256) (e := .bf16) (tCell c i A5 A16 f5 f16 (triRun c i A1 A2 A4 A5 A13 A14 A15 f1 f2 f4 f5 f13 f14 f15))))
      (A20.view.writes (Elt Ideal) f20 (body_run.sl.H20_8 c i A1 A2 A4 A13 A15 f1 f2 f4 f13 f15)) (A21.view.writes (Elt Ideal) f21 (body_run.sl.H21_8 c i A2 A4 A13 f2 f4 f13))
      (A22.view.writes (Elt Ideal) f22 (body_run.sl.H22_8 c i A1 A4 A13 f1 f4 f13)) (A23.view.writes (Elt Ideal) f23 (body_run.sl.H23_8 c i A2 A4 A13 f2 f4 f13))
      (A24.view.writes (Elt Ideal) f24 (body_run.sl.H24_8 c i A4 A13 f4 f13)) (chAt c A1 A2 f1 f2 num G B) := by
  intro h j
  have eK := chunkV_apply (A2.view.read (Elt Ideal) f2) h j
  have eQ := chunkV_apply (A1.view.read (Elt Ideal) f1) h j
  have kC := cds_at eK (hK h j)
  have qC := cds_at eQ (hQ h j)
  have kR := rk_at eK (hK h j)
  have qR := rq_at eQ (hQ h j)
  have hG := sumOf_rows c i A4 A13 f4 f13 num hn h13 h j
  have hB := rateOf_rows c i A5 A14 f5 f14 num hn h14 h j
  have hg : Lanes (A15.view.readAt (Elt Ideal) (rowOffR i h j).toLoadRect (tab15 c i A4 A15 f4 f15)) (cumOf (G h (num j))) := fun l => row_lanes i num hoff A15.view _ h15 h j l
  have hb : Lanes (A16.view.readAt (Elt Ideal) (rowOffR i h j).toLoadRect (tab16 c i A5 A16 f5 f16)) (B h (num j)) := fun l => row_lanes i num hoff A16.view _ h16 h j l
  have hT : Rep (triRun c i A1 A2 A4 A5 A13 A14 A15 f1 f2 f4 f5 f13 f14 f15 h j) (chAt c A1 A2 f1 f2 num G B h j).tri := by
    rw [triRun_eq]
    exact triA_at (c := chAt c A1 A2 f1 f2 num G B h j) kC hG hB kR hg
  have hP := scores_at (c := chAt c A1 A2 f1 f2 num G B h j) kC qC hG kR qR hg
  rw [codes_scratch, turned_scratch, p_scratch, s1_scratch, sq_scratch, sd_scratch, dec_scratch]
  refine ⟨?_, ?_, ?_, ?_, ?_, ?_, ?_, ?_, ?_⟩
  · intro r r' l hr; rw [readAt_cells]; exact outKQ_top kC r r' l hr
  · intro r r' l hr; rw [readAt_cells]; exact outKQ_low qC r r' l hr
  · intro r l; rw [readAt_cells]; exact outKT_at kC r l
  · rw [readAt_cells]; exact ⟨_, times_at (inverse_at hT) hb, rfl⟩
  · rw [readAt_cells]; exact ⟨_, hP, rfl⟩
  · intro r l; rw [readAt_cells]; exact outS1_at hG kR r l
  · intro r l; rw [readAt_cells]; exact outS1_at hG qR r l
  · intro r l; rw [readAt_cells]; exact outSD_at hG kR r l
  · intro l
    refine (congrArg (A24.view.read (Elt Ideal) _) (?_ : _ = (ix4 h j 0 l : S4x2x8x128.Idx))).trans ((read_cells A24.view f24 _ h j 0 l).trans (outDec_at hG 0 l))
    show (Rect.unit (s := S4x2x8x128) ![h.val, j.val, 0, 0] S1x1x1x128.size (inbDec h j)).emb (ix4 0 0 0 l) = _
    funext d
    fin_cases d
    · exact Fin.ext (by show h.val + 1 * 0 = h.val; omega)
    · exact Fin.ext (by show j.val + 1 * 0 = j.val; omega)
    · rfl
    · exact Fin.ext (by show 0 + 1 * l.val = l.val; omega)
end Fill

/-! ## The recurrence -/

section Recurrence
variable (c : Dev nD) (i : grid0.Coords) (A3 A7 : Memref sig .tc .vmem S4x128x512 .bf16) (A6 A8 : Memref sig .tc .vmem S4x256x512 .f32)
  (A17 : Memref sig .tc .vmem S4x2x128x256 .bf16) (A18 : Memref sig .tc .vmem S4x2x256x128 .bf16)
  (A19 A20 : Memref sig .tc .vmem S4x2x128x256 .bf16) (A21 A22 A23 : Memref sig .tc .vmem S4x2x64x128 .f32) (A24 : Memref sig .tc .vmem S4x2x8x128 .f32)
  (f3 : Buf (Elt Ideal) (A3.view.loc (c : Thread nD τ))) (f6 : Buf (Elt Ideal) (A6.view.loc (c : Thread nD τ))) (f8 : Buf (Elt Ideal) (A8.view.loc (c : Thread nD τ)))
  (f17 : Buf (Elt Ideal) (A17.view.loc (c : Thread nD τ))) (f18 : Buf (Elt Ideal) (A18.view.loc (c : Thread nD τ))) (f19 : Buf (Elt Ideal) (A19.view.loc (c : Thread nD τ)))
  (f20 : Buf (Elt Ideal) (A20.view.loc (c : Thread nD τ))) (f21 : Buf (Elt Ideal) (A21.view.loc (c : Thread nD τ))) (f22 : Buf (Elt Ideal) (A22.view.loc (c : Thread nD τ)))
  (f23 : Buf (Elt Ideal) (A23.view.loc (c : Thread nD τ))) (f24 : Buf (Elt Ideal) (A24.view.loc (c : Thread nD τ)))

theorem readAt_state {κ : Kind} {sp : Space} (v : View sig κ sp S4x256x512 .f32) (f : v.ty.Contents (Elt Ideal)) (h : Fin 4) (n : Fin 2) (k l : Fin 256) :
    v.readAt (Elt Ideal) (stateR h n).toLoadRect f (ix3 0 k l) = v.read (Elt Ideal) f (ix3 h k ⟨256 * n.val + l.val, by omega⟩) := by
  refine congrArg (v.read (Elt Ideal) f) (?_ : (stateR h n).emb (ix3 0 k l) = _)
  funext d
  fin_cases d
  · exact Fin.ext (by show h.val + 1 * 0 = h.val; omega)
  · exact Fin.ext (by show 0 + 1 * k.val = k.val; omega)
  · exact Fin.ext (by show 256 * n.val + 1 * l.val = 256 * n.val + l.val; omega)

theorem out_emb (h : Fin 4) (j n : Fin 2) (r : Fin 64) (l : Fin 256) : (outR h j n).emb (ix3 0 r l) = ix3 h ⟨64 * j.val + r.val, by omega⟩ ⟨256 * n.val + l.val, by omega⟩ := by
  funext d
  fin_cases d
  · exact Fin.ext (by show h.val + 1 * 0 = h.val; omega)
  · exact Fin.ext (by show 64 * j.val + 1 * r.val = 64 * j.val + r.val; omega)
  · exact Fin.ext (by show 256 * n.val + 1 * l.val = 256 * n.val + l.val; omega)

theorem halves_nodup : halves.Nodup := by decide
theorem mem_halves (k : Fin 4 × Fin 2) : k ∈ halves := by revert k; decide

/-- The state before a block's chunk `j`, from that before the block. -/
def stN (ch : Fin 4 → Fin 2 → Chunk) (V : Fin 4 → Fin 2 → Fin 64 → Fin 512 → ℝ) (S : Fin 4 → Fin 256 → Fin 512 → ℝ) (h : Fin 4) : Fin 2 → Fin 256 → Fin 512 → ℝ
  | 0 => S h
  | 1 => fun k e => (ch h 0).next (fun r => V h 0 r e) (fun k => S h k e) k

variable {ch : Fin 4 → Fin 2 → Chunk} {V : Fin 4 → Fin 2 → Fin 64 → Fin 512 → ℝ} {S : Fin 4 → Fin 256 → Fin 512 → ℝ}
  (h25 : body_run.sl.v25 i ≠ 1#1) (hH : HeldAt c A17 A18 A19 A20 A21 A22 A23 A24 f17 f18 f19 f20 f21 f22 f23 f24 ch)
  (hv : ∀ h (j : Fin 2) (r : Fin 64) e, A3.view.read (Elt Ideal) f3 (ix3 h ⟨64 * j.val + r.val, by omega⟩ e) = ((V h j r e : ℝ) : EReal))
  (hs : ∀ h k e, A8.view.read (Elt Ideal) (stateIn c i A6 A8 f6 f8) (ix3 h k e) = ((S h k e : ℝ) : EReal))

include h25 hH in
theorem held_cells (h : Fin 4) (j : Fin 2) : Held (ch h j) (cellOf c i A17 f17 (k0_pay2 (F := Ideal)) h j) (cellOf c i A18 f18 (k0_pay3 (F := Ideal)) h j) (cellOf c i A19 f19 (k0_pay4 (F := Ideal)) h j) (cellOf c i A20 f20 (k0_pay5 (F := Ideal)) h j)
    (cellOf c i A21 f21 (k0_pay6 (F := Ideal)) h j) (cellOf c i A22 f22 (k0_pay7 (F := Ideal)) h j) (cellOf c i A23 f23 (k0_pay36 (F := Ideal)) h j) (decLast c i A24 f24 h j) := by
  have h := hH h j
  unfold decLast
  simp only [cellOf, cleared, dif_neg h25]
  exact h

include hv in
theorem values_at (h : Fin 4) (j n : Fin 2) (r : Fin 64) (l : Fin 256) : View.ld (A3.view.read (Elt Ideal) f3) (outR h j n) (ix3 0 r l) = ((V h j r ⟨256 * n.val + l.val, by omega⟩ : ℝ) : EReal) :=
  (congrArg (A3.view.read (Elt Ideal) f3) (out_emb h j n r l)).trans (hv h j r _)

include h25 hH hv in
theorem stOf_at (h : Fin 4) (j n : Fin 2) {x : Vec Ideal S1x256x256 .f32} {X : Fin 256 → Fin 512 → ℝ} (hx : ∀ k l, x (ix3 0 k l) = ((X k ⟨256 * n.val + l.val, by omega⟩ : ℝ) : EReal)) (k l : Fin 256) :
    stOf c i A3 A17 A18 A19 A21 A23 A24 f3 f17 f18 f19 f21 f23 f24 h j n x x (ix3 0 k l) = (((ch h j).next (fun r => V h j r ⟨256 * n.val + l.val, by omega⟩) (fun k => X k ⟨256 * n.val + l.val, by omega⟩) k : ℝ) : EReal) :=
  outS_at (held_cells c i A17 A18 A19 A20 A21 A22 A23 A24 f17 f18 f19 f20 f21 f22 f23 f24 h25 hH h j) (V := fun r l => V h j r ⟨256 * n.val + l.val, by omega⟩) (S := fun k l => X k ⟨256 * n.val + l.val, by omega⟩)
    (values_at c A3 f3 hv h j n) hx k l

include h25 hH hv in
theorem oOf_at (h : Fin 4) (j n : Fin 2) {x : Vec Ideal S1x256x256 .f32} {X : Fin 256 → Fin 512 → ℝ} (hx : ∀ k l, x (ix3 0 k l) = ((X k ⟨256 * n.val + l.val, by omega⟩ : ℝ) : EReal)) (r : Fin 64) (l : Fin 256) :
    oOf c i A3 A17 A19 A20 A21 A22 f3 f17 f19 f20 f21 f22 h j n x (ix3 0 r l) = (((ch h j).out (fun r => V h j r ⟨256 * n.val + l.val, by omega⟩) (fun k => X k ⟨256 * n.val + l.val, by omega⟩) r : ℝ) : EReal) :=
  outO_at (held_cells c i A17 A18 A19 A20 A21 A22 A23 A24 f17 f18 f19 f20 f21 f22 f23 f24 h25 hH h j) (V := fun r l => V h j r ⟨256 * n.val + l.val, by omega⟩) (S := fun k l => X k ⟨256 * n.val + l.val, by omega⟩)
    (values_at c A3 f3 hv h j n) hx r l

theorem stores0_fold : stores0 c i A3 A6 A8 A17 A18 A19 A21 A23 A24 f3 f6 f8 f17 f18 f19 f21 f23 f24 = halves.foldl (change A8.view (fun k => stateR k.1 k.2) (fun k _ =>
    stOf c i A3 A17 A18 A19 A21 A23 A24 f3 f17 f18 f19 f21 f23 f24 k.1 0 k.2 (A8.view.readAt (Elt Ideal) (stateR k.1 k.2).toLoadRect (stateIn c i A6 A8 f6 f8)) (A8.view.readAt (Elt Ideal) (stateR k.1 k.2).toLoadRect (stateIn c i A6 A8 f6 f8)))) [] := rfl

theorem stores1_fold : stores1 c i A3 A6 A8 A17 A18 A19 A21 A23 A24 f3 f6 f8 f17 f18 f19 f21 f23 f24 = halves.foldl (change A8.view (fun k => stateR k.1 k.2) (fun k s =>
    stOf c i A3 A17 A18 A19 A21 A23 A24 f3 f17 f18 f19 f21 f23 f24 k.1 1 k.2 (stateMid c i A3 A6 A8 A17 A18 A19 A21 A23 A24 f3 f6 f8 f17 f18 f19 f21 f23 f24 k.1 k.2) s)) (stores0 c i A3 A6 A8 A17 A18 A19 A21 A23 A24 f3 f6 f8 f17 f18 f19 f21 f23 f24) := rfl

theorem mid_eq (h : Fin 4) (n : Fin 2) : stateMid c i A3 A6 A8 A17 A18 A19 A21 A23 A24 f3 f6 f8 f17 f18 f19 f21 f23 f24 h n = stOf c i A3 A17 A18 A19 A21 A23 A24 f3 f17 f18 f19 f21 f23 f24 h 0 n (A8.view.readAt (Elt Ideal) (stateR h n).toLoadRect (stateIn c i A6 A8 f6 f8)) (A8.view.readAt (Elt Ideal) (stateR h n).toLoadRect (stateIn c i A6 A8 f6 f8)) := by
  unfold stateMid
  rw [stores0_fold]
  exact change_hit A8.view (fun k : Fin 4 × Fin 2 => stateR k.1 k.2) _ state_disjoint A8.view.junk (h, n) halves [] halves_nodup (mem_halves _)

include h25 hH hv hs in
theorem stateAt_at (h : Fin 4) (j n : Fin 2) (k l : Fin 256) : stateAt c i A3 A6 A8 A17 A18 A19 A21 A23 A24 f3 f6 f8 f17 f18 f19 f21 f23 f24 h j n (ix3 0 k l) = ((stN ch V S h j k ⟨256 * n.val + l.val, by omega⟩ : ℝ) : EReal) := by
  have e0 : ∀ k l, A8.view.readAt (Elt Ideal) (stateR h n).toLoadRect (stateIn c i A6 A8 f6 f8) (ix3 0 k l) = ((S h k ⟨256 * n.val + l.val, by omega⟩ : ℝ) : EReal) := fun k l => (readAt_state _ _ h n k l).trans (hs _ _ _)
  match j with
  | 0 => exact e0 k l
  | 1 =>
    refine (congrFun (mid_eq c i A3 A6 A8 A17 A18 A19 A21 A23 A24 f3 f6 f8 f17 f18 f19 f21 f23 f24 h n) _).trans ?_
    exact stOf_at c i A3 A17 A18 A19 A20 A21 A22 A23 A24 f3 f17 f18 f19 f20 f21 f22 f23 f24 h25 hH hv h 0 n e0 k l

/-- The state that a point leaves. -/
theorem state_after (f : A8.view.ty.Contents (Elt Ideal)) (h25 : body_run.sl.v25 i ≠ 1#1) (hH : HeldAt c A17 A18 A19 A20 A21 A22 A23 A24 f17 f18 f19 f20 f21 f22 f23 f24 ch)
    (hv : ∀ h (j : Fin 2) (r : Fin 64) e, A3.view.read (Elt Ideal) f3 (ix3 h ⟨64 * j.val + r.val, by omega⟩ e) = ((V h j r e : ℝ) : EReal))
    (hs : ∀ h k e, A8.view.read (Elt Ideal) (stateIn c i A6 A8 f6 f8) (ix3 h k e) = ((S h k e : ℝ) : EReal)) (h : Fin 4) (k : Fin 256) (e : Fin 512) :
    A8.view.read (Elt Ideal) (A8.view.writes (Elt Ideal) f (body_run.sl.H8_16 c i A3 A6 A8 A17 A18 A19 A21 A23 A24 f3 f6 f8 f17 f18 f19 f21 f23 f24)) (ix3 h k e) = (((ch h 1).next (fun r => V h 1 r e) (fun k => stN ch V S h 1 k e) k : ℝ) : EReal) := by
  obtain ⟨n, l, rfl⟩ : ∃ (n : Fin 2) (l : Fin 256), e = ⟨256 * n.val + l.val, by omega⟩ := ⟨⟨e.val / 256, by omega⟩, ⟨e.val % 256, by omega⟩, Fin.ext (by show e.val = 256 * (e.val / 256) + e.val % 256; omega)⟩
  rw [← readAt_state A8.view _ h n k l, state_second, stores1_fold]
  refine (congrFun (change_hit A8.view (fun k : Fin 4 × Fin 2 => stateR k.1 k.2) _ state_disjoint f (h, n) halves _ halves_nodup (mem_halves _)) _).trans ?_
  exact stOf_at c i A3 A17 A18 A19 A20 A21 A22 A23 A24 f3 f17 f18 f19 f20 f21 f22 f23 f24 h25 hH hv h 1 n
    (fun k l => stateAt_at c i A3 A6 A8 A17 A18 A19 A20 A21 A22 A23 A24 f3 f6 f8 f17 f18 f19 f20 f21 f22 f23 f24 h25 hH hv hs h 1 n k l) k l

/-- The outputs' parts, in the order they are stored. -/
def outHalves : List (Fin 2 × Fin 4 × Fin 2) := halves.map (fun k => (0, k)) ++ halves.map (fun k => (1, k))
theorem outHalves_nodup : outHalves.Nodup := by decide
theorem mem_outHalves (k : Fin 2 × Fin 4 × Fin 2) : k ∈ outHalves := by revert k; decide

theorem outs_fold : body_run.sl.H7_16 c i A3 A6 A8 A17 A18 A19 A20 A21 A22 A23 A24 f3 f6 f8 f17 f18 f19 f20 f21 f22 f23 f24 = outHalves.foldl (change A7.view (fun k => outR k.2.1 k.1 k.2.2) (fun k _ =>
    oOf c i A3 A17 A19 A20 A21 A22 f3 f17 f19 f20 f21 f22 k.2.1 k.1 k.2.2 (stateAt c i A3 A6 A8 A17 A18 A19 A21 A23 A24 f3 f6 f8 f17 f18 f19 f21 f23 f24 k.2.1 k.1 k.2.2))) [] :=
  (outs_run c i A3 A6 A8 A17 A18 A19 A20 A21 A22 A23 A24 f3 f6 f8 f17 f18 f19 f20 f21 f22 f23 f24).trans rfl

/-- The outputs that a point leaves. -/
theorem outs_after (f : A7.view.ty.Contents (Elt Ideal)) (h25 : body_run.sl.v25 i ≠ 1#1) (hH : HeldAt c A17 A18 A19 A20 A21 A22 A23 A24 f17 f18 f19 f20 f21 f22 f23 f24 ch)
    (hv : ∀ h (j : Fin 2) (r : Fin 64) e, A3.view.read (Elt Ideal) f3 (ix3 h ⟨64 * j.val + r.val, by omega⟩ e) = ((V h j r e : ℝ) : EReal))
    (hs : ∀ h k e, A8.view.read (Elt Ideal) (stateIn c i A6 A8 f6 f8) (ix3 h k e) = ((S h k e : ℝ) : EReal)) (h : Fin 4) (j : Fin 2) (r : Fin 64) (e : Fin 512) :
    A7.view.read (Elt Ideal) (A7.view.writes (Elt Ideal) f (body_run.sl.H7_16 c i A3 A6 A8 A17 A18 A19 A20 A21 A22 A23 A24 f3 f6 f8 f17 f18 f19 f20 f21 f22 f23 f24)) (ix3 h ⟨64 * j.val + r.val, by omega⟩ e) = (((ch h j).out (fun r => V h j r e) (fun k => stN ch V S h j k e) r : ℝ) : EReal) := by
  obtain ⟨n, l, rfl⟩ : ∃ (n : Fin 2) (l : Fin 256), e = ⟨256 * n.val + l.val, by omega⟩ := ⟨⟨e.val / 256, by omega⟩, ⟨e.val % 256, by omega⟩, Fin.ext (by show e.val = 256 * (e.val / 256) + e.val % 256; omega)⟩
  rw [← out_emb h j n r l, outs_fold c i A3 A7]
  refine (congrFun (change_hit A7.view (fun k : Fin 2 × Fin 4 × Fin 2 => outR k.2.1 k.1 k.2.2) _ out_disjoint f (j, h, n) outHalves _ outHalves_nodup (mem_outHalves _)) (ix3 0 r l)).trans ?_
  exact oOf_at c i A3 A17 A18 A19 A20 A21 A22 A23 A24 f3 f17 f18 f19 f20 f21 f22 f23 f24 h25 hH hv h j n
    (fun k l => stateAt_at c i A3 A6 A8 A17 A18 A19 A20 A21 A22 A23 A24 f3 f6 f8 f17 f18 f19 f20 f21 f22 f23 f24 h25 hH hv hs h j n k l) r l
end Recurrence

end Cert.KernelIdeal.Hand

end
-- ==== Proof.DeltaStep.lean ====
/- What the run leaves in the windows of the outputs and the state and in the scratches, point by point. -/
module

public import proofs.«01_k».proof.Proof.KernelIdealStep
public import proofs.«01_k».proof.Proof.DeltaPoint

@[expose] public noncomputable section

set_option maxRecDepth 100000
set_option synthInstance.maxHeartbeats 0
set_option maxHeartbeats 0

namespace Cert.KernelIdeal.Hand

open Idealize.SL Idealize.ShloMosaic Idealize.ShloMosaic.TcCoe
open Idealize.ShloMosaic.Pipeline (Dat RDat)
open Cert.KernelIdeal Cert.KernelIdeal.Gen
open Cert.Delta Cert.Quant

/-! ## The grid's points -/

theorem index0_2 : ∀ t : Fin cfg0.N, win0_2.index t = ![(t.val - 1) / 64, (t.val - 1) % 64, 0] := by decide +kernel
theorem index0_3 : ∀ t : Fin cfg0.N, win0_3.index t = ![grpN t, 0, 0] := by decide +kernel
theorem index0_4 : ∀ t : Fin cfg0.N, win0_4.index t = ![grpN t, 0, 0] := by decide +kernel
theorem index0_5 : ∀ t : Fin cfg0.N, win0_5.index t = ![(t.val - 1) / 64, 0, 0] := by decide +kernel
theorem start : ∀ t : Fin cfg0.N, (body_run.sl.v25 (grid0.coords t) = 1#1) ↔ t.val = 0 := by decide +kernel
theorem fresh : ∀ t : Fin cfg0.N, (body_run.sl.v31 (grid0.coords t) = 1#1) ↔ (t.val - 1) % 64 = 0 := by decide +kernel
theorem rowOff_at : ∀ (h : Fin 4) (j : Fin 2) (t : Fin cfg0.N), rowOff (grid0.coords t) h j = ![h.val, 2 * blkN t + j.val, 0] := by decide +kernel
theorem kept7 : ∀ t : Fin cfg0.N, (t.val - 1) % 64 ≠ 0 → (cfg0.win 7).fetch t = false ∧ t.val ≠ 0
    ∧ (cfg0.win 7).flush ⟨t.val - 1, Nat.lt_of_le_of_lt (Nat.sub_le _ _) t.isLt⟩ = false := by decide +kernel

/-- The head `h` of a point's group, and the chunk `j` of its block. -/
abbrev headN (t : Fin cfg0.N) (h : Fin 4) : Fin 24 := ⟨4 * grpN t + h.val, by have := grpN_lt t; omega⟩
abbrev chunkN (t : Fin cfg0.N) (j : Fin 2) : Fin 128 := ⟨2 * blkN t + j.val, by have := blkN_lt t; omega⟩
/-- The point before. -/
abbrev prev (t : Fin cfg0.N) : Fin cfg0.N := ⟨t.val - 1, Nat.lt_of_le_of_lt (Nat.sub_le _ _) t.isLt⟩

theorem grp_prev (t : Fin cfg0.N) : (t.val - 1) / 64 = grpN (prev t) := by
  have : t.val < 385 := t.isLt
  show _ = min (t.val - 1) 383 / 64
  omega
theorem blk_prev (t : Fin cfg0.N) : (t.val - 1) % 64 = blkN (prev t) := by
  have : t.val < 385 := t.isLt
  show _ = min (t.val - 1) 383 % 64
  omega

theorem number (t : Fin cfg0.N) (j : Fin 2) : chunkNo (grid0.coords t) j = BitVec.ofNat 32 (chunkN t j).val := match j with
  | 0 => lane0 t
  | 1 => lane1 t

/-! ## The delta rule over the arrays -/

section Rule
variable (K Q : S24x8192x256.Idx → EReal) (V : S24x8192x512.Idx → EReal) (G B : S24x128x64.Idx → EReal) (I : S24x256x512.Idx → EReal)

/-- Chunk `n` of head `a`. -/
def chN (a : Fin 24) (n : Fin 128) : Chunk := chunkOf (chunkA K a n) (chunkA Q a n) (fun j => (G (ix3 a n j)).toReal) (fun j => (B (ix3 a n j)).toReal)
/-- Its values. -/
def vN (a : Fin 24) (n : Fin 128) (r : Fin 64) (e : Fin 512) : ℝ := (V (ix3 a ⟨64 * n.val + r.val, by omega⟩ e)).toReal
/-- The state of head `a` before chunk `n`. -/
def stateN (a : Fin 24) : ℕ → Fin 256 → Fin 512 → ℝ
  | 0 => fun k e => (I (ix3 a k e)).toReal
  | n + 1 => fun k e => (chN K Q G B a ⟨n % 128, Nat.mod_lt _ (by decide)⟩).next (fun r => vN V a ⟨n % 128, Nat.mod_lt _ (by decide)⟩ r e) (fun k => stateN a n k e) k
/-- The outputs of its chunk `n`. -/
def outN (a : Fin 24) (n : Fin 128) (r : Fin 64) (e : Fin 512) : ℝ := (chN K Q G B a n).out (fun r => vN V a n r e) (fun k => stateN K Q V G B I a n.val k e) r

theorem stateN_succ (a : Fin 24) (n : Fin 128) (k : Fin 256) (e : Fin 512) :
    stateN K Q V G B I a (n.val + 1) k e = (chN K Q G B a n).next (fun r => vN V a n r e) (fun k => stateN K Q V G B I a n.val k e) k := by
  have : (⟨n.val % 128, Nat.mod_lt _ (by decide)⟩ : Fin 128) = n := Fin.ext (Nat.mod_eq_of_lt n.isLt)
  show (chN K Q G B a ⟨n.val % 128, _⟩).next (fun r => vN V a ⟨n.val % 128, _⟩ r e) (fun k => stateN K Q V G B I a n.val k e) k = _
  rw [this]
end Rule

variable (m : (ℓ : Loc nD τ sig) → Buf (Elt Ideal) ℓ)

abbrev arrV (c : Dev nD) : S24x8192x512.Idx → EReal := V m c main_v2
abbrev arrG (c : Dev nD) : S24x128x64.Idx → EReal := V m c main_v3
abbrev arrB (c : Dev nD) : S24x128x64.Idx → EReal := V m c main_v4
abbrev arrI (c : Dev nD) : S24x256x512.Idx → EReal := V m c main_v5

abbrev chM (c : Dev nD) := chN (arrK m c) (arrQ m c) (arrG m c) (arrB m c)
abbrev stateM (c : Dev nD) := stateN (arrK m c) (arrQ m c) (arrV m c) (arrG m c) (arrB m c) (arrI m c)
abbrev outM (c : Dev nD) := outN (arrK m c) (arrQ m c) (arrV m c) (arrG m c) (arrB m c) (arrI m c)

theorem blkV_apply (c : Dev nD) (t : Fin cfg0.N) (h : Fin 4) (r : Fin 128) (l : Fin 512) :
    (iblk m c 2 t : Vec Ideal S4x128x512 .bf16) (ix3 h r l) = arrV m c (ix3 (headN (prev t) h) ⟨128 * blkN (prev t) + r.val, by have := blkN_lt (prev t); omega⟩ l) := by
  blk_ext [iblk, index0_2 t, grp_prev t, blk_prev t]
theorem blkG_apply (c : Dev nD) (t : Fin cfg0.N) (h : Fin 4) (r : Fin 128) (l : Fin 64) :
    (iblk m c 3 t : Vec Ideal S4x128x64 .f32) (ix3 h r l) = arrG m c (ix3 (headN t h) r l) := by
  blk_ext [iblk, index0_3 t]
theorem blkB_apply (c : Dev nD) (t : Fin cfg0.N) (h : Fin 4) (r : Fin 128) (l : Fin 64) :
    (iblk m c 4 t : Vec Ideal S4x128x64 .f32) (ix3 h r l) = arrB m c (ix3 (headN t h) r l) := by
  blk_ext [iblk, index0_4 t]
theorem blkI_apply (c : Dev nD) (t : Fin cfg0.N) (h : Fin 4) (r : Fin 256) (l : Fin 512) :
    (iblk m c 5 t : Vec Ideal S4x256x512 .f32) (ix3 h r l) = arrI m c (ix3 (headN (prev t) h) r l) := by
  blk_ext [iblk, index0_5 t, grp_prev t]

/-! ## The relations -/

/-- The outputs of the block before a point. -/
def R6 (c : Dev nD) (t : Fin cfg0.N) (X : S4x128x512.Idx → Elt Ideal .bf16) : Prop :=
  t.val ≠ 0 → ∀ (h : Fin 4) (j : Fin 2) (r : Fin 64) (e : Fin 512), X (ix3 h ⟨64 * j.val + r.val, by omega⟩ e) = ((outM m c (headN (prev t) h) (chunkN (prev t) j) r e : ℝ) : EReal)
/-- The state after that block. -/
def R7 (c : Dev nD) (t : Fin cfg0.N) (X : S4x256x512.Idx → Elt Ideal .f32) : Prop :=
  t.val ≠ 0 → ∀ (h : Fin 4) (k : Fin 256) (e : Fin 512), X (ix3 h k e) = ((stateM m c (headN (prev t) h) (2 * blkN (prev t) + 2) k e : ℝ) : EReal)
/-- The numbers of a point's group. -/
def grpG (c : Dev nD) (t : Fin cfg0.N) (h : Fin 4) (n : Fin 128) (j : Fin 64) : ℝ := (arrG m c (ix3 (headN t h) n j)).toReal
def grpB (c : Dev nD) (t : Fin cfg0.N) (h : Fin 4) (n : Fin 128) (j : Fin 64) : ℝ := (arrB m c (ix3 (headN t h) n j)).toReal
/-- The tables of a point's group and the chunks of its block. -/
def Filled (c : Dev nD) (t : Fin cfg0.N) (s : Scr Ideal c) : Prop :=
  Table (Memref.whole cc0_scratch0).view s.s0 (fun h r n => cumOf (grpG m c t h n) r) ∧ Table (Memref.whole cc0_scratch1).view s.s1 (fun h r n => grpB m c t h n r)
  ∧ Table (Memref.whole cc0_scratch2).view s.s2 (fun h n l => cumOf (grpG m c t h n) (lm l)) ∧ Table (Memref.whole cc0_scratch3).view s.s3 (fun h n l => grpB m c t h n (lm l))
  ∧ HeldAt c (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) s.s4 s.s5 s.s6 s.s7 s.s8 s.s9 s.s10 s.s11 (fun h j => chM m c (headN t h) (chunkN t j))
/-- Before the first point the scratch is as found; then it holds the point before's. -/
def SC (c : Dev nD) (u : Fin (cfg0.N + 1)) (s : Scr Ideal c) : Prop := ∀ t : Fin cfg0.N, t.val + 1 = u.val → Filled m c t s

/-! ## The run -/

section
variable (c : Dev nD) (t : Fin cfg0.N) (f0 : Buf (Elt Ideal) ((st0_0 t).view.loc (c : Thread nD τ))) (f1 : Buf (Elt Ideal) ((st0_1 t).view.loc (c : Thread nD τ))) (f2 : Buf (Elt Ideal) ((st0_2 t).view.loc (c : Thread nD τ))) (f3 : Buf (Elt Ideal) ((st0_3 t).view.loc (c : Thread nD τ))) (f4 : Buf (Elt Ideal) ((st0_4 t).view.loc (c : Thread nD τ))) (f5 : Buf (Elt Ideal) ((st0_5 t).view.loc (c : Thread nD τ))) (f6 : Buf (Elt Ideal) ((st0_6 t).view.loc (c : Thread nD τ))) (f7 : Buf (Elt Ideal) ((st0_7 t).view.loc (c : Thread nD τ))) (f8 : Buf (Elt Ideal) ((st0_8 t).view.loc (c : Thread nD τ))) (f9 : Buf (Elt Ideal) ((st0_9 t).view.loc (c : Thread nD τ))) (f10 : Buf (Elt Ideal) ((st0_10 t).view.loc (c : Thread nD τ))) (f11 : Buf (Elt Ideal) ((st0_11 t).view.loc (c : Thread nD τ))) (s : Scr Ideal c)

theorem ran_g7 : (ran c t f0 f1 f2 f3 f4 f5 f6 f7 f8 f9 f10 f11 s).g7 = (st0_6 t).view.writes (Elt Ideal) f6 (body_run.sl.H7_16 c (grid0.coords t) (st0_2 t) (st0_5 t) (st0_7 t) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) f2 f5 f7 s.s4 s.s5 s.s6 s.s7 s.s8 s.s9 s.s10 s.s11) := by
  unfold ran body_run; dsimp only
theorem ran_g8 : (ran c t f0 f1 f2 f3 f4 f5 f6 f7 f8 f9 f10 f11 s).g8 = (st0_7 t).view.writes (Elt Ideal) (stateIn c (grid0.coords t) (st0_5 t) (st0_7 t) f5 f7) (body_run.sl.H8_16 c (grid0.coords t) (st0_2 t) (st0_5 t) (st0_7 t) (Memref.whole cc0_scratch4) (Memref.whole cc0_scratch5) (Memref.whole cc0_scratch6) (Memref.whole cc0_scratch8) (Memref.whole cc0_scratch10) (Memref.whole cc0_scratch11) f2 f5 f7 s.s4 s.s5 s.s6 s.s8 s.s10 s.s11) := by
  unfold ran body_run; dsimp only
theorem ran_s0 : (ran c t f0 f1 f2 f3 f4 f5 f6 f7 f8 f9 f10 f11 s).scr.s0 = tabT c (grid0.coords t) (st0_3 t) (Memref.whole cc0_scratch0) f3 s.s0 := by
  show (ran c t f0 f1 f2 f3 f4 f5 f6 f7 f8 f9 f10 f11 s).g13 = _; unfold ran body_run; dsimp only; rfl
theorem ran_s1 : (ran c t f0 f1 f2 f3 f4 f5 f6 f7 f8 f9 f10 f11 s).scr.s1 = tab14 c (grid0.coords t) (st0_4 t) (Memref.whole cc0_scratch1) f4 s.s1 := by
  show (ran c t f0 f1 f2 f3 f4 f5 f6 f7 f8 f9 f10 f11 s).g14 = _; unfold ran body_run; dsimp only; rfl
theorem ran_s2 : (ran c t f0 f1 f2 f3 f4 f5 f6 f7 f8 f9 f10 f11 s).scr.s2 = tab15 c (grid0.coords t) (st0_3 t) (Memref.whole cc0_scratch2) f3 s.s2 := by
  show (ran c t f0 f1 f2 f3 f4 f5 f6 f7 f8 f9 f10 f11 s).g15 = _; unfold ran body_run; dsimp only; rfl
theorem ran_s3 : (ran c t f0 f1 f2 f3 f4 f5 f6 f7 f8 f9 f10 f11 s).scr.s3 = tab16 c (grid0.coords t) (st0_4 t) (Memref.whole cc0_scratch3) f4 s.s3 := by
  show (ran c t f0 f1 f2 f3 f4 f5 f6 f7 f8 f9 f10 f11 s).g16 = _; unfold ran body_run; dsimp only; rfl
theorem ran_s4 : ∃ f, (ran c t f0 f1 f2 f3 f4 f5 f6 f7 f8 f9 f10 f11 s).scr.s4 = (Memref.whole cc0_scratch4).view.writes (Elt Ideal) f (body_run.sl.H17_8 c (st0_0 t) (st0_1 t) f0 f1) := by
  show ∃ f, (ran c t f0 f1 f2 f3 f4 f5 f6 f7 f8 f9 f10 f11 s).g17 = _; unfold ran body_run; dsimp only; exact ⟨_, rfl⟩
theorem ran_s5 : ∃ f, (ran c t f0 f1 f2 f3 f4 f5 f6 f7 f8 f9 f10 f11 s).scr.s5 = (Memref.whole cc0_scratch5).view.writes (Elt Ideal) f (body_run.sl.H18_8 c (st0_1 t) f1) := by
  show ∃ f, (ran c t f0 f1 f2 f3 f4 f5 f6 f7 f8 f9 f10 f11 s).g18 = _; unfold ran body_run; dsimp only; exact ⟨_, rfl⟩
theorem ran_s6 : ∃ f, (ran c t f0 f1 f2 f3 f4 f5 f6 f7 f8 f9 f10 f11 s).scr.s6 = (Memref.whole cc0_scratch6).view.writes (Elt Ideal) f (cells (a := 128) (b := 256) (e := .bf16) (tCell c (grid0.coords t) (st0_4 t) (Memref.whole cc0_scratch3) f4 s.s3
    (triRun c (grid0.coords t) (st0_0 t) (st0_1 t) (st0_3 t) (st0_4 t) (Memref.whole cc0_scratch0) (Memref.whole cc0_scratch1) (Memref.whole cc0_scratch2) f0 f1 f3 f4 s.s0 s.s1 s.s2))) := by
  show ∃ f, (ran c t f0 f1 f2 f3 f4 f5 f6 f7 f8 f9 f10 f11 s).g19 = _; unfold ran body_run; dsimp only
  exact ⟨_, congrArg ((Memref.whole cc0_scratch6).view.writes (Elt Ideal) _) (t_scratch c (grid0.coords t) (st0_0 t) (st0_1 t) (st0_3 t) (st0_4 t) (Memref.whole cc0_scratch0) (Memref.whole cc0_scratch1) (Memref.whole cc0_scratch2) (Memref.whole cc0_scratch3) f0 f1 f3 f4 s.s0 s.s1 s.s2 s.s3)⟩
theorem ran_s7 : ∃ f, (ran c t f0 f1 f2 f3 f4 f5 f6 f7 f8 f9 f10 f11 s).scr.s7 = (Memref.whole cc0_scratch7).view.writes (Elt Ideal) f (body_run.sl.H20_8 c (grid0.coords t) (st0_0 t) (st0_1 t) (st0_3 t) (Memref.whole cc0_scratch0) (Memref.whole cc0_scratch2) f0 f1 f3 s.s0 s.s2) := by
  show ∃ f, (ran c t f0 f1 f2 f3 f4 f5 f6 f7 f8 f9 f10 f11 s).g20 = _; unfold ran body_run; dsimp only; exact ⟨_, rfl⟩
theorem ran_s8 : ∃ f, (ran c t f0 f1 f2 f3 f4 f5 f6 f7 f8 f9 f10 f11 s).scr.s8 = (Memref.whole cc0_scratch8).view.writes (Elt Ideal) f (body_run.sl.H21_8 c (grid0.coords t) (st0_1 t) (st0_3 t) (Memref.whole cc0_scratch0) f1 f3 s.s0) := by
  show ∃ f, (ran c t f0 f1 f2 f3 f4 f5 f6 f7 f8 f9 f10 f11 s).g21 = _; unfold ran body_run; dsimp only; exact ⟨_, rfl⟩
theorem ran_s9 : ∃ f, (ran c t f0 f1 f2 f3 f4 f5 f6 f7 f8 f9 f10 f11 s).scr.s9 = (Memref.whole cc0_scratch9).view.writes (Elt Ideal) f (body_run.sl.H22_8 c (grid0.coords t) (st0_0 t) (st0_3 t) (Memref.whole cc0_scratch0) f0 f3 s.s0) := by
  show ∃ f, (ran c t f0 f1 f2 f3 f4 f5 f6 f7 f8 f9 f10 f11 s).g22 = _; unfold ran body_run; dsimp only; exact ⟨_, rfl⟩
theorem ran_s10 : ∃ f, (ran c t f0 f1 f2 f3 f4 f5 f6 f7 f8 f9 f10 f11 s).scr.s10 = (Memref.whole cc0_scratch10).view.writes (Elt Ideal) f (body_run.sl.H23_8 c (grid0.coords t) (st0_1 t) (st0_3 t) (Memref.whole cc0_scratch0) f1 f3 s.s0) := by
  show ∃ f, (ran c t f0 f1 f2 f3 f4 f5 f6 f7 f8 f9 f10 f11 s).g23 = _; unfold ran body_run; dsimp only; exact ⟨_, rfl⟩
theorem ran_s11 : ∃ f, (ran c t f0 f1 f2 f3 f4 f5 f6 f7 f8 f9 f10 f11 s).scr.s11 = (Memref.whole cc0_scratch11).view.writes (Elt Ideal) f (body_run.sl.H24_8 c (grid0.coords t) (st0_3 t) (Memref.whole cc0_scratch0) f3 s.s0) := by
  show ∃ f, (ran c t f0 f1 f2 f3 f4 f5 f6 f7 f8 f9 f10 f11 s).g24 = _; unfold ran body_run; dsimp only; exact ⟨_, rfl⟩

variable (hQ : ∀ a n, InRange (chunkA (arrQ m c) a n)) (hK : ∀ a n, InRange (chunkA (arrK m c) a n))
  (hG : ∀ i, ((arrG m c i).toReal : EReal) = arrG m c i) (hB : ∀ i, ((arrB m c i).toReal : EReal) = arrB m c i)

include hQ hK hG hB in
/-- A point fills the scratches with its block's chunks. -/
theorem filled (hs : SC m c t.castSucc s) (e0 : (st0_0 t).view.read (Elt Ideal) f0 = blkQ m c t) (e1 : (st0_1 t).view.read (Elt Ideal) f1 = blkK m c t)
    (e3 : (st0_3 t).view.read (Elt Ideal) f3 = (iblk m c 3 t : Vec Ideal S4x128x64 .f32)) (e4 : (st0_4 t).view.read (Elt Ideal) f4 = (iblk m c 4 t : Vec Ideal S4x128x64 .f32)) :
    Filled m c t (ran c t f0 f1 f2 f3 f4 f5 f6 f7 f8 f9 f10 f11 s).scr := by
  have old : body_run.sl.v28 (grid0.coords t) ≠ 1#1 → Filled m c (prev t) s ∧ grpN (prev t) = grpN t := fun h => by
    have hb : blkN t ≠ 0 := fun e => h ((first t).mpr e)
    have ht : t.val ≠ 0 := (kept9 t hb).2.1
    exact ⟨hs (prev t) (by show t.val - 1 + 1 = t.val; omega), grpN_pred t hb⟩
  have gG : grpN (prev t) = grpN t → grpG m c (prev t) = grpG m c t := fun h => by
    unfold grpG headN; simp only [h]
  have gB : grpN (prev t) = grpN t → grpB m c (prev t) = grpB m c t := fun h => by
    unfold grpB headN; simp only [h]
  have tG : Table (st0_3 t).view f3 (grpG m c t) := fun h n j => by
    rw [e3, blkG_apply]; exact (hG _).symm
  have tB : Table (st0_4 t).view f4 (grpB m c t) := fun h n j => by
    rw [e4, blkB_apply]; exact (hB _).symm
  have h13 := tabT_holds c (grid0.coords t) (st0_3 t) (Memref.whole cc0_scratch0) f3 s.s0 tG (fun h => gG (old h).2 ▸ (old h).1.1)
  have h14 := tab14_holds c (grid0.coords t) (st0_4 t) (Memref.whole cc0_scratch1) f4 s.s1 tB (fun h => gB (old h).2 ▸ (old h).1.2.1)
  have h15 := tab15_holds c (grid0.coords t) (st0_3 t) (Memref.whole cc0_scratch2) f3 s.s2 tG (fun h => gG (old h).2 ▸ (old h).1.2.2.1)
  have h16 := tab16_holds c (grid0.coords t) (st0_4 t) (Memref.whole cc0_scratch3) f4 s.s3 tB (fun h => gB (old h).2 ▸ (old h).1.2.2.2.1)
  obtain ⟨g4, r4⟩ := ran_s4 c t f0 f1 f2 f3 f4 f5 f6 f7 f8 f9 f10 f11 s
  obtain ⟨g5, r5⟩ := ran_s5 c t f0 f1 f2 f3 f4 f5 f6 f7 f8 f9 f10 f11 s
  obtain ⟨g6, r6⟩ := ran_s6 c t f0 f1 f2 f3 f4 f5 f6 f7 f8 f9 f10 f11 s
  obtain ⟨g7, r7⟩ := ran_s7 c t f0 f1 f2 f3 f4 f5 f6 f7 f8 f9 f10 f11 s
  obtain ⟨g8, r8⟩ := ran_s8 c t f0 f1 f2 f3 f4 f5 f6 f7 f8 f9 f10 f11 s
  obtain ⟨g9, r9⟩ := ran_s9 c t f0 f1 f2 f3 f4 f5 f6 f7 f8 f9 f10 f11 s
  obtain ⟨g10, r10⟩ := ran_s10 c t f0 f1 f2 f3 f4 f5 f6 f7 f8 f9 f10 f11 s
  obtain ⟨g11, r11⟩ := ran_s11 c t f0 f1 f2 f3 f4 f5 f6 f7 f8 f9 f10 f11 s
  have hh := held_after c (grid0.coords t) (st0_0 t) (st0_1 t) (st0_3 t) (st0_4 t) (Memref.whole cc0_scratch0) (Memref.whole cc0_scratch1) (Memref.whole cc0_scratch2) (Memref.whole cc0_scratch3) f0 f1 f3 f4 s.s0 s.s1 s.s2 s.s3 (G := grpG m c t) (B := grpB m c t) (chunkN t) (number t)
    (fun h j => rowOff_at h j t) (fun h j => by rw [e1, chunkK]; exact hK _ _) (fun h j => by rw [e0, chunkQ]; exact hQ _ _) h13 h14 h15 h16
    (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) g4 g5 g6 g7 g8 g9 g10 g11
  refine ⟨by rw [ran_s0]; exact h13, by rw [ran_s1]; exact h14, by rw [ran_s2]; exact h15, by rw [ran_s3]; exact h16, ?_⟩
  rw [r4, r5, r6, r7, r8, r9, r10, r11]
  have ec : chAt c (st0_0 t) (st0_1 t) f0 f1 (chunkN t) (grpG m c t) (grpB m c t) = fun h j => chM m c (headN t h) (chunkN t j) := funext fun h => funext fun j => by
    unfold chAt; rw [e0, e1, chunkK, chunkQ]; rfl
  rw [← ec]
  exact hh
end

/-- The state that a point finds, where it loads none. -/
theorem found (c : Dev nD) (t : Fin cfg0.N) (hb : (t.val - 1) % 64 ≠ 0) {Y : S4x256x512.Idx → Elt Ideal .f32}
    (hF : (rdat (V m) (rel m (R6 m) (R7 m)) (SC m) c).Finds 7 t Y) (h : Fin 4) (k : Fin 256) (e : Fin 512) :
    Y (ix3 h k e) = ((stateM m c (headN (prev t) h) (2 * blkN (prev t)) k e : ℝ) : EReal) := by
  obtain ⟨k1, k2, k3⟩ := kept7 t hb
  rcases ((rdat (V m) (rel m (R6 m) (R7 m)) (SC m) c).finds_of_pos k1 k2 _).mp hF with h' | ⟨Y', _, hR⟩
  · rw [k3] at h'; exact absurd h' Bool.false_ne_true
  · have ht : t.val < 385 := t.isLt
    have hR : R7 m c (prev t) Y := hR
    refine (hR (by show t.val - 1 ≠ 0; omega) h k e).trans ?_
    have e1 : grpN (prev (prev t)) = grpN (prev t) := by rw [← grp_prev, ← grp_prev]; show (t.val - 1 - 1) / 64 = _; omega
    have e2 : 2 * blkN (prev (prev t)) + 2 = 2 * blkN (prev t) := by rw [← blk_prev, ← blk_prev]; show 2 * ((t.val - 1 - 1) % 64) + 2 = _; omega
    have e3 : headN (prev (prev t)) h = headN (prev t) h := Fin.ext (by show 4 * _ + _ = 4 * _ + _; rw [e1])
    rw [e2, e3]

theorem load_whole {κ : Kind} {sp : Space} (v : View sig κ sp S4x256x512 .f32) (f : v.ty.Contents (Elt Ideal)) (w : Vec Ideal S4x256x512 .f32) (h : Fin 4) (k : Fin 256) (e : Fin 512) :
    v.read (Elt Ideal) (v.writes (Elt Ideal) f [⟨Rect.unit (s := S4x256x512) ![0, 0, 0] S4x256x512.size inb_S4x256x512_S4x256x512_0_0_0, w⟩]) (ix3 h k e) = w (ix3 h k e) :=
  View.read_writes_cons_unit_of_mem v f inb_S4x256x512_S4x256x512_0_0_0 w [] (ix3 h k e) (ix3 h k e) rfl (by
    intro a; fin_cases a
    · exact (Nat.zero_add _).symm
    · exact (Nat.zero_add _).symm
    · exact (Nat.zero_add _).symm)

theorem pay39_at (x : Vec Ideal S4x256x512 .f32) (h : Fin 4) (k : Fin 256) (e : Fin 512) : k0_pay39 x (ix3 h k e) = x (ix3 h k e) := by
  unfold k0_pay39
  pointwise []

/-- One point of the run. -/
theorem step (c : Dev nD) (hQ : ∀ a n, InRange (chunkA (arrQ m c) a n)) (hK : ∀ a n, InRange (chunkA (arrK m c) a n))
    (hV : ∀ i, ((arrV m c i).toReal : EReal) = arrV m c i) (hG : ∀ i, ((arrG m c i).toReal : EReal) = arrG m c i)
    (hB : ∀ i, ((arrB m c i).toReal : EReal) = arrB m c i) (hI : ∀ i, ((arrI m c i).toReal : EReal) = arrI m c i) :
    Step (V m) (rel m (R6 m) (R7 m)) (SC m) c := by
  refine step_of m (R6 m) (R7 m) (SC m) c hQ hK ?_
  intro t Y s f0 f1 f2 f3 f4 f5 f6 f7 f8 f9 f10 f11 hF hs e0 e1 e2 e3 e4 e5 e6 e7 _ _ _ _
  have q2 : (st0_2 t).view.read (Elt Ideal) f2 = (iblk m c 2 t : Vec Ideal S4x128x512 .bf16) := e2.trans (finds_2 (hF 2))
  have q5 : (st0_5 t).view.read (Elt Ideal) f5 = (iblk m c 5 t : Vec Ideal S4x256x512 .f32) := e5.trans (finds_5 (hF 5))
  refine ⟨fun t' ht => ?_, fun ht => ?_, fun ht => ?_⟩
  · obtain rfl : t' = t := Fin.ext (by have : t'.val + 1 = t.val + 1 := ht; omega)
    exact filled m c t' f0 f1 f2 f3 f4 f5 f6 f7 f8 f9 f10 f11 s hQ hK hG hB hs (e0.trans (finds_0 (hF 0))) (e1.trans (finds_1 (hF 1))) (e3.trans (finds_3 (hF 3))) (e4.trans (finds_4 (hF 4)))
  all_goals
    have hf := hs (prev t) (by show t.val - 1 + 1 = t.val; omega)
    have h25 : body_run.sl.v25 (grid0.coords t) ≠ 1#1 := fun e => ht ((start t).mp e)
    have hv : ∀ h (j : Fin 2) (r : Fin 64) e, (st0_2 t).view.read (Elt Ideal) f2 (ix3 h ⟨64 * j.val + r.val, by omega⟩ e) = ((vN (arrV m c) (headN (prev t) h) (chunkN (prev t) j) r e : ℝ) : EReal) := fun h j r e => by
      rw [q2, blkV_apply]
      unfold vN
      rw [hV]
      exact congrArg (fun q : Fin 8192 => arrV m c (ix3 (headN (prev t) h) q e)) (Fin.ext (by show 128 * blkN (prev t) + (64 * j.val + r.val) = 64 * (2 * blkN (prev t) + j.val) + r.val; omega))
    have hst : ∀ h k e, (st0_7 t).view.read (Elt Ideal) (stateIn c (grid0.coords t) (st0_5 t) (st0_7 t) f5 f7) (ix3 h k e) = ((stateM m c (headN (prev t) h) (2 * blkN (prev t)) k e : ℝ) : EReal) := fun h k e => by
      unfold stateIn
      by_cases hc : (t.val - 1) % 64 = 0
      · rw [dif_pos ((fresh t).mpr hc), load_whole, pay39_at, ← blk_prev, hc]
        refine Eq.trans ?_ (hI _).symm
        refine Eq.trans ?_ (blkI_apply m c t h k e)
        rw [← q5]
        exact View.ld_unit_apply_of _ _ _ _ _ _ (by
          intro a; fin_cases a
          · exact (Nat.zero_add _).symm
          · exact (Nat.zero_add _).symm
          · exact (Nat.zero_add _).symm)
      · rw [dif_neg (fun h => hc ((fresh t).mp h)), e7]
        exact found m c t hc (hF 7) h k e
    have key : ∀ h, stN (fun h j => chM m c (headN (prev t) h) (chunkN (prev t) j)) (fun h j => vN (arrV m c) (headN (prev t) h) (chunkN (prev t) j)) (fun h k e => stateM m c (headN (prev t) h) (2 * blkN (prev t)) k e) h 1
        = fun k e => stateM m c (headN (prev t) h) (2 * blkN (prev t) + 1) k e := fun h => funext fun k => funext fun e =>
      (stateN_succ _ _ _ _ _ _ (headN (prev t) h) (chunkN (prev t) 0) k e).symm
  · intro h j r e
    rw [ran_g7]
    refine (outs_after c (grid0.coords t) (st0_2 t) (st0_6 t) (st0_5 t) (st0_7 t) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) f2 f5 f7 s.s4 s.s5 s.s6 s.s7 s.s8 s.s9 s.s10 s.s11 f6 h25 hf.2.2.2.2 hv hst h j r e).trans ?_
    match j with
    | 0 => rfl
    | 1 => rw [key]; rfl
  · intro h k e
    rw [ran_g8]
    refine (state_after c (grid0.coords t) (st0_2 t) (st0_5 t) (st0_7 t) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) f2 f5 f7 s.s4 s.s5 s.s6 s.s7 s.s8 s.s9 s.s10 s.s11 _ h25 hf.2.2.2.2 hv hst h k e).trans ?_
    rw [key]
    exact congrArg _ (stateN_succ _ _ _ _ _ _ (headN (prev t) h) (chunkN (prev t) 1) k e).symm

end Cert.KernelIdeal.Hand

end
-- ==== Proof.DeltaArr.lean ====
/- What all six result arrays hold when the kernel has run. -/
module

public import proofs.«01_k».proof.Proof.KernelIdealArr
public import proofs.«01_k».proof.Proof.DeltaStep

@[expose] public noncomputable section

set_option maxRecDepth 100000
set_option synthInstance.maxHeartbeats 0
set_option maxHeartbeats 0

namespace Cert.KernelIdeal.Hand

open Idealize.SL Idealize.ShloMosaic Idealize.ShloMosaic.TcCoe
open Idealize.ShloMosaic.Pipeline (Dat RDat)
open Cert.KernelIdeal Cert.KernelIdeal.Gen
open Cert.Delta Cert.Quant

theorem index0_6 : ∀ t : Fin cfg0.N, win0_6.index t = ![(t.val - 1) / 64, (t.val - 1) % 64, 0] := by decide +kernel
theorem index0_7 : ∀ t : Fin cfg0.N, win0_7.index t = ![(t.val - 1) / 64, 0, 0] := by decide +kernel
theorem flush6 : ∀ t : Fin cfg0.N, (cfg0.win 6).flush t = true → t.val ≠ 0 := by decide +kernel
theorem flush7 : ∀ t : Fin cfg0.N, (cfg0.win 7).flush t = true → t.val ≠ 0 ∧ (t.val - 1) % 64 = 63 := by decide +kernel

/-- The point after block `b` of group `g`. -/
theorem next_of (g : ℕ) (b : ℕ) (hg : g < 6) (hb : b < 64) : ∃ t : Fin cfg0.N, (t.val - 1) / 64 = g ∧ (t.val - 1) % 64 = b :=
  ⟨⟨64 * g + b + 1, by show _ < 385; omega⟩, by dsimp only; omega, by dsimp only; omega⟩

theorem covers6 : (cfg0.win 6).Covers := by
  refine Pipeline.Window.covers_of_index_surj (w := win0_6) rfl (by decide) fun β => ?_
  obtain ⟨t, h0, h1⟩ := next_of (β 0).val (β 1).val (β 0).isLt (β 1).isLt
  refine ⟨t, fun a => ?_⟩
  rw [index0_6, h0, h1]
  fin_cases a
  · rfl
  · rfl
  · have := (β 2).isLt; change (β 2).val < 1 at this; show 0 = (β 2).val; omega

theorem covers7 : (cfg0.win 7).Covers := by
  refine Pipeline.Window.covers_of_index_surj (w := win0_7) rfl (by decide) fun β => ?_
  obtain ⟨t, h0, h1⟩ := next_of (β 0).val 0 (β 0).isLt (by decide)
  refine ⟨t, fun a => ?_⟩
  rw [index0_7, h0]
  fin_cases a
  · rfl
  · have := (β 1).isLt; change (β 1).val < 1 at this; show 0 = (β 1).val; omega
  · have := (β 2).isLt; change (β 2).val < 1 at this; show 0 = (β 2).val; omega

variable (m : (ℓ : Loc nD τ sig) → Buf (Elt Ideal) ℓ)

/-- The outputs, chunk by chunk. -/
def outsOf (c : Dev nD) (i : S24x8192x512.Idx) : EReal :=
  ((outM m c (i 0) ⟨(i 1).val / 64, by have : (i 1).val < 8192 := (i 1).isLt; omega⟩ ⟨(i 1).val % 64, Nat.mod_lt _ (by decide)⟩ (i 2) : ℝ) : EReal)
/-- The state after the last chunk. -/
def finalOf (c : Dev nD) (i : S24x256x512.Idx) : EReal := ((stateM m c (i 0) 128 (i 1) (i 2) : ℝ) : EReal)

section
variable {m} (c : Dev nD)
  (after : (w' : Fin cfg0.W) → Fin cfg0.N → (cfg0.win w').block.Idx → Elt Ideal (cfg0.win w').elt)
  (hL : ∀ (w : Fin cfg0.W) (u : Fin cfg0.N), (cfg0.win w).flush u = true → (rdat (V m) (rel m (R6 m) (R7 m)) (SC m) c).Leaves w u (after w u))

include hL

theorem arr6 : ((rdat (V m) (rel m (R6 m) (R7 m)) (SC m) c).withAfter after).arrAt 6 cfg0.N = outsOf m c := by
  refine Dat.arrAt_eq_of_covers _ 6 _ covers6 fun t hf y => ?_
  obtain ⟨Y, _, hR⟩ := hL 6 t hf
  replace hR : R6 m c t (after 6 t) := hR
  obtain ⟨h, r, l, rfl⟩ : ∃ (h : Fin 4) (r : Fin 128) (l : Fin 512), y = ix3 h r l := ⟨y 0, y 1, y 2, eq_ix3 (n0 := 4) (n1 := 128) (n2 := 512) y⟩
  have hb := blkN_lt (prev t)
  have e : (win0_6.blk t).view.emb (ix3 h r l)
      = (ix3 (headN (prev t) h) ⟨128 * blkN (prev t) + r.val, by omega⟩ l : S24x8192x512.Idx) := by
    blk_ext [index0_6 t, grp_prev t, blk_prev t]
  have e1 : (⟨64 * (⟨r.val / 64, by omega⟩ : Fin 2).val + (⟨r.val % 64, Nat.mod_lt _ (by decide)⟩ : Fin 64).val, by dsimp only; omega⟩ : Fin 128) = r := Fin.ext (by dsimp only; omega)
  have key := hR (flush6 t hf) h ⟨r.val / 64, by omega⟩ ⟨r.val % 64, Nat.mod_lt _ (by decide)⟩ l
  rw [e1] at key
  refine key.trans (Eq.trans ?_ (congrArg (outsOf m c) e.symm))
  have e2 : chunkN (prev t) ⟨r.val / 64, by omega⟩ = ⟨(128 * blkN (prev t) + r.val) / 64, by omega⟩ := Fin.ext (by show 2 * blkN (prev t) + r.val / 64 = (128 * blkN (prev t) + r.val) / 64; omega)
  have e3 : (⟨r.val % 64, Nat.mod_lt _ (by decide)⟩ : Fin 64) = ⟨(128 * blkN (prev t) + r.val) % 64, Nat.mod_lt _ (by decide)⟩ := Fin.ext (by show r.val % 64 = (128 * blkN (prev t) + r.val) % 64; omega)
  rw [e2, e3]
  rfl

theorem arr7 : ((rdat (V m) (rel m (R6 m) (R7 m)) (SC m) c).withAfter after).arrAt 7 cfg0.N = finalOf m c := by
  refine Dat.arrAt_eq_of_covers _ 7 _ covers7 fun t hf y => ?_
  obtain ⟨Y, _, hR⟩ := hL 7 t hf
  replace hR : R7 m c t (after 7 t) := hR
  obtain ⟨h, r, l, rfl⟩ : ∃ (h : Fin 4) (r : Fin 256) (l : Fin 512), y = ix3 h r l := ⟨y 0, y 1, y 2, eq_ix3 (n0 := 4) (n1 := 256) (n2 := 512) y⟩
  have e : (win0_7.blk t).view.emb (ix3 h r l) = (ix3 (headN (prev t) h) r l : S24x256x512.Idx) := by
    blk_ext [index0_7 t, grp_prev t]
  refine (hR (flush7 t hf).1 h r l).trans (Eq.trans ?_ (congrArg (finalOf m c) e.symm))
  rw [← blk_prev, (flush7 t hf).2]
  rfl

end

/-- The kernel's run: the arguments as launched, the six results those of the chunks. -/
theorem run_all (ρ : Dev nD → PrngReg) (hQ : ∀ c a n, InRange (chunkA (arrQ m c) a n)) (hK : ∀ c a n, InRange (chunkA (arrK m c) a n))
    (hV : ∀ c i, ((arrV m c i).toReal : EReal) = arrV m c i) (hG : ∀ c i, ((arrG m c i).toReal : EReal) = arrG m c i)
    (hB : ∀ c i, ((arrB m c i).toReal : EReal) = arrB m c i) (hI : ∀ c i, ((arrI m c i).toReal : EReal) = arrI m c i) :
    θ_run defs (onTc (τ := τ) (main (F := Ideal))) ⟨m, fun _ => 0, ρ⟩ (fun r => (∀ c : Dev nD,
      r.2.mem ((c.tc : Thread nD τ).loc main_v6_0) = outsOf m c ∧ r.2.mem ((c.tc : Thread nD τ).loc main_v6_1) = finalOf m c
      ∧ r.2.mem ((c.tc : Thread nD τ).loc main_v6_2) = codesOf (arrK m c) ∧ r.2.mem ((c.tc : Thread nD τ).loc main_v6_3) = scalesOf (arrK m c)
      ∧ r.2.mem ((c.tc : Thread nD τ).loc main_v6_4) = codesOf (arrQ m c) ∧ r.2.mem ((c.tc : Thread nD τ).loc main_v6_5) = scalesOf (arrQ m c)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) := by
  refine (θ_run defs _ _).mono (fun r h => ⟨fun c => ?_, h.2⟩)
    (launch m ρ (rel m (R6 m) (R7 m)) (SC m) (fun _ _ _ ht => absurd ht (Nat.succ_ne_zero _))
      fun c => step m c (hQ c) (hK c) (hV c) (hG c) (hB c) (hI c))
  obtain ⟨after, hL, hA⟩ := Pipeline.RDat.FramePost.exists_exact h.1 c
  exact ⟨(hA 6).trans (arr6 c after hL), (hA 7).trans (arr7 c after hL),
    (hA 8).trans (arr8 c after hL), (hA 9).trans (arr9 c after hL), (hA 10).trans (arr10 c after hL), (hA 11).trans (arr11 c after hL),
    frame_of_launch m _ _ r h.1 c⟩

end Cert.KernelIdeal.Hand

end
-- ==== Proof.ReferenceDelta.lean ====
/- One step of the reference's loop over finite numbers: what it writes, and the state it carries on. -/
module

public import proofs.«01_k».proof.Proof.Gen.ReferenceIdeal.Frame
public import proofs.«01_k».proof.Proof.DeltaTables
public import Idealize.ShloMosaic.Lib.Pointwise
public import Idealize.ShloMosaic.Lib.Pipeline.ValueKit

@[expose] public noncomputable section

set_option maxRecDepth 100000
set_option synthInstance.maxHeartbeats 0

namespace Cert.ReferenceIdeal.Hand

open Idealize.ShloMosaic Idealize.ShloMosaic.TcCoe
open Cert.ReferenceIdeal Cert.ReferenceIdeal.Gen
open Cert.Delta Cert.Quant
open Cert.KernelIdeal.Hand (coe_sum coe_sum_mul sel_if sge64 sgt64 eq64 sle64 exp_at chunkOf code_real scale_real entry_real norm_real eps sixteenth)
open Cert.KernelIdeal.Hand renaming norm → rnorm

/-- The power of two that the reference writes at position `k` of its list. -/
theorem exp2_at (k : ℕ) (hk : k < 253) : (FloatOps.exp2 (F := Ideal) (φ := .f32) (FloatOps.sitofp (F := Ideal) (w := 32) FTy.f32 (BitVec.ofNat 32 k) - Ideal.ofBits FTy.f32 0x42FA0000#32 : EReal) : EReal)
    = Ideal.exp2 (((k : ℝ) - 125 : ℝ) : EReal) := by
  have h1 : Ideal.ofBits FTy.f32 0x42FA0000#32 = ((125 : ℝ) : EReal) := by
    have h : Ideal.ofBits .f32 0x42FA0000#32 = _ := ieee_pos (b := 0x42FA0000#32) (i := 133) (m := 7995392) (by decide) (by decide) (by decide) (by decide) (by decide)
    rw [h]; norm_num
  have h2 : (FloatOps.sitofp (F := Ideal) (w := 32) FTy.f32 (BitVec.ofNat 32 k) : EReal) = ((k : ℝ) : EReal) := by
    show (((BitVec.ofNat 32 k).toInt : ℝ) : EReal) = _
    rw [BitVec.toInt_eq_toNat_of_lt (by rw [BitVec.toNat_ofNat]; omega), BitVec.toNat_ofNat, Nat.mod_eq_of_lt (by omega)]
    rfl
  rw [h1, h2, ← EReal.coe_sub]
  rfl

theorem one_bits : Ideal.ofBits .f32 0x3F800000#32 = ((1 : ℝ) : EReal) := by
  have h : Ideal.ofBits .f32 0x3F800000#32 = _ := ieee_pos (b := 0x3F800000#32) (i := 127) (m := 0) (by decide) (by decide) (by decide) (by decide) (by decide)
  rw [h]; norm_num
theorem zero_bits : Ideal.ofBits .f32 0x00000000#32 = ((0 : ℝ) : EReal) := by simp [Ideal.ofBits, Ideal.ieee]

/-- Row and column numbers. -/
abbrev rowI : IVec S1x64x64 32 := iota .tc S1x64x64 32 [1] iota_S1x64x64_d1_w32
abbrev colI : IVec S1x64x64 32 := iota .tc S1x64x64 32 [2] iota_S1x64x64_d2_w32
abbrev zeroF : Ideal .f32 := Scalar.ofBits .f32 0x00000000#32
abbrev bigF : Ideal .f32 := Scalar.ofBits .f32 0x43E00000#32

section Parts
variable (xk xq : Vec Ideal S24x1x64x256 .bf16) (xv : Vec Ideal S24x1x64x512 .bf16) (xg xb : Vec Ideal S24x1x1x64 .f32)

/-- A head's rows of a chunk. -/
def rowsOf (x : Vec Ideal S24x1x64x256 .bf16) (a : Fin 24) : Fin 64 → Fin 256 → EReal := fun r l => x (ix4 a 0 r l)

def ksV : FVec Ideal S24x1x1 .f32 := k0_pay13 (k0_pay11 xk) (k0_pay12 xk)
def kcV : FVec Ideal S24x64x256 .fp8e4m3 := k0_pay14 (k0_pay7 xk) (k0_pay11 xk) (k0_pay12 xk)
def qsV : FVec Ideal S24x1x1 .f32 := k0_pay15 (k0_pay6 xq)
def qcV : FVec Ideal S24x64x256 .fp8e4m3 := k0_pay18 (k0_pay16 (k0_pay6 xq)) bigF k0_pay17
def rkV : FVec Ideal S24x64x1 .f32 := k0_pay23 (k0_pay7 xk)
def rqV : FVec Ideal S24x64x1 .f32 := k0_pay24 (k0_pay6 xq)
def knV : FVec Ideal S24x64x256 .f32 := k0_pay27 (rkV xk) (k0_pay25 (kcV xk)) (k0_pay26 (ksV xk))
def qnV : FVec Ideal S24x64x256 .f32 := k0_pay28 (qsV xq) (qcV xq) (rqV xq)
def cumV : FVec Ideal S24x64x1 .f32 := k0_pay29 rowI colI (k0_pay9 xg)
def decV : FVec Ideal S24x64x64 .f32 := k0_pay30 rowI colI (k0_pay9 xg)
def rrV : FVec Ideal S24x1x64 .f32 := k0_pay31 rowI colI (rkV xk)
def bcV : FVec Ideal S24x64x1 .f32 := k0_pay34 zeroF (k0_pay32 rowI colI) (k0_pay33 (k0_pay10 xb))
def qkV : FVec Ideal S24x64x64 .f32 := k0_pay35 (ksV xk) (kcV xk) (qsV xq) (qcV xq) (rqV xq) (rrV xk)
def triV : FVec Ideal S24x64x64 .f32 := k0_pay36 rowI colI (ksV xk) (kcV xk) (rkV xk) (decV xg) (rrV xk) zeroF (k0_pay32 rowI colI) (k0_pay33 (k0_pay10 xb))

abbrev zeroM : FVec Ideal S24x64x64 .f32 := constant S24x64x64 .f32 0x00000000#32
/-- Products of the heads' square matrices. -/
def mm (x y : FVec Ideal S24x64x64 .f32) : FVec Ideal S24x64x64 .f32 := matmul dot_S24x64x64_S24x64x64_S24x64x64_2_1_1_2_0_0 (some .fp32) x y zeroM
/-- The matrices after `n` doublings. -/
def twiceV (A : FVec Ideal S24x64x64 .f32) : ℕ → FVec Ideal S24x64x64 .f32 × FVec Ideal S24x64x64 .f32
  | 0 => (A, subf (broadcastTo S24x64x64 k0_pay1 broadcasts_S1x64x64_S24x64x64) A)
  | n + 1 => let B := mm (twiceV A n).1 (twiceV A n).1; (B, addf (twiceV A n).2 (mm (twiceV A n).2 B))

def t4V : FVec Ideal S24x64x64 .f32 := k0_pay41 rowI colI k0_pay1 (ksV xk) (kcV xk) (rkV xk) (decV xg) (rrV xk) zeroF (k0_pay32 rowI colI) (k0_pay33 (k0_pay10 xb))
def a5V : FVec Ideal S24x64x64 .f32 := k0_pay42 rowI colI (ksV xk) (kcV xk) (rkV xk) (decV xg) (rrV xk) zeroF (k0_pay32 rowI colI) (k0_pay33 (k0_pay10 xb))
theorem t4V_eq : t4V xk xg xb = (twiceV (triV xk xg xb) 4).2 := rfl
theorem a5V_eq : a5V xk xg xb = (twiceV (triV xk xg xb) 5).1 := rfl

def newV (acc : FVec Ideal S24x256x512 .f32) : FVec Ideal S24x64x512 .f32 := k0_pay3 acc (k0_pay8 xv) (knV xk) (cumV xg) (bcV xb) (t4V xk xg xb) (a5V xk xg xb) zeroM
def outV (acc : FVec Ideal S24x256x512 .f32) : FVec Ideal S24x1x64x512 .bf16 := k0_pay4 acc (k0_pay8 xv) (knV xk) (qnV xq) (cumV xg) (decV xg) (bcV xb) (qkV xk xq) (t4V xk xg xb) (a5V xk xg xb) zeroM
def nextV (acc : FVec Ideal S24x256x512 .f32) : FVec Ideal S24x256x512 .f32 := k0_pay5 acc (k0_pay8 xv) (k0_pay9 xg) (knV xk) (cumV xg) (bcV xb) (t4V xk xg xb) (a5V xk xg xb) zeroM

/-! ## Codes, scales and norms -/

theorem ks_at (a : Fin 24) : ksV xk (ix3 a 0 0) = scale (rowsOf xk a) := by
  unfold ksV k0_pay13 k0_pay12 k0_pay11 k0_pay7 scale scaleOf mulOf absMax
  pointwise []
  rw [negInf, posInf]
  have e : ∀ k : Fin 253, (FloatOps.exp2 (F := Ideal) (φ := .f32) (FloatOps.sitofp (F := Ideal) (w := 32) FTy.f32 (BitVec.ofNat 32 k.val) - Ideal.ofBits FTy.f32 0x42FA0000#32 : EReal) : EReal)
      = Ideal.exp2 (((k.val : ℝ) - 125 : ℝ) : EReal) := fun k => exp2_at k.val k.isLt
  simp only [e]
  rfl
theorem kc_at (a : Fin 24) (r : Fin 64) (l : Fin 256) : kcV xk (ix3 a r l) = code (rowsOf xk a) r l := by
  have h := ks_at xk a
  unfold ksV at h
  unfold kcV k0_pay14 code
  rw [← h]
  generalize k0_pay13 (F := Ideal) (k0_pay11 xk) (k0_pay12 xk) = s
  unfold k0_pay7
  pointwise []
  rfl
theorem q_eq (x : Vec Ideal S24x1x64x256 .bf16) : qsV x = ksV x ∧ qcV x = kcV x := ⟨rfl, rfl⟩

theorem rk_at {a : Fin 24} (hK : InRange (rowsOf xk a)) (r : Fin 64) : rkV xk (ix3 a r 0) = rnorm (rowsOf xk a) r := by
  unfold rkV k0_pay23 k0_pay7 rnorm
  pointwise []
  obtain ⟨c, hc, he⟩ := eps
  have e : ∑ l, xk (ix4 a 0 r l) * xk (ix4 a 0 r l) + (c : EReal) = ((∑ l, (rowsOf xk a r l).toReal * (rowsOf xk a r l).toReal + c : ℝ) : EReal) := by
    rw [EReal.coe_add, ← coe_sum_mul]
    exact congrArg (· + _) (Finset.sum_congr rfl fun l _ => by rw [entry_real hK]; rfl)
  have hp : 0 < ∑ l, (rowsOf xk a r l).toReal * (rowsOf xk a r l).toReal + c := add_pos_of_nonneg_of_pos (Finset.sum_nonneg fun l _ => mul_self_nonneg _) hc
  have e' : ∑ l, rowsOf xk a r l * rowsOf xk a r l + (c : EReal) = _ := e
  rw [he, e, e']
  generalize ∑ l, (rowsOf xk a r l).toReal * (rowsOf xk a r l).toReal + c = y at hp
  show Ideal.div ((1 : ℝ) : EReal) (if y < 0 then (⊥ : EReal) else ((√y : ℝ) : EReal)) = if y < 0 then (⊥ : EReal) else if y = 0 then ⊤ else (((√y)⁻¹ : ℝ) : EReal)
  rw [if_neg (not_lt.mpr hp.le), if_neg (not_lt.mpr hp.le), if_neg hp.ne']
  have hs : (√y : ℝ) ≠ 0 := (Real.sqrt_pos.mpr hp).ne'
  rw [Ideal.div_coe hs, ← EReal.coe_mul, one_mul, one_div]
theorem rq_eq (x : Vec Ideal S24x1x64x256 .bf16) : rqV x = rkV x := rfl

variable {xk xq xv xg xb} {a : Fin 24} {g b : Fin 64 → ℝ} {v : Fin 64 → Fin 512 → ℝ}
  (hK : InRange (rowsOf xk a)) (hQ : InRange (rowsOf xq a)) (hg : ∀ j, xg (ix4 a 0 0 j) = ((g j : ℝ) : EReal)) (hb : ∀ j, xb (ix4 a 0 0 j) = ((b j : ℝ) : EReal))
  (hv : ∀ r e, xv (ix4 a 0 r e) = ((v r e : ℝ) : EReal))

include hK in
theorem kn_at (r : Fin 64) (l : Fin 256) : knV xk (ix3 a r l) = (((chunkOf (rowsOf xk a) (rowsOf xq a) g b).kc r l * (chunkOf (rowsOf xk a) (rowsOf xq a) g b).sk r : ℝ) : EReal) := by
  have h1 := kc_at xk a
  have h2 := ks_at xk a
  have h3 := rk_at xk hK r
  unfold knV
  generalize kcV xk = x at h1 ⊢
  generalize ksV xk = y at h2 ⊢
  generalize rkV xk = z at h3 ⊢
  unfold k0_pay27 k0_pay25 k0_pay26
  pointwise []
  rw [h1, h2, h3, ← code_real, ← scale_real hK, ← norm_real hK, ← EReal.coe_mul, ← EReal.coe_mul]
  refine congrArg _ ?_
  show (code (rowsOf xk a) r l).toReal * (scale (rowsOf xk a)).toReal * (rnorm (rowsOf xk a) r).toReal = (code (rowsOf xk a) r l).toReal * ((rnorm (rowsOf xk a) r).toReal * (scale (rowsOf xk a)).toReal)
  ring

include hQ in
theorem qn_at (r : Fin 64) (l : Fin 256) : qnV xq (ix3 a r l) = (((chunkOf (rowsOf xk a) (rowsOf xq a) g b).qc r l * (chunkOf (rowsOf xk a) (rowsOf xq a) g b).sq r : ℝ) : EReal) := by
  have h1 := kc_at xq a
  have h2 := ks_at xq a
  have h3 := rk_at xq hQ r
  obtain ⟨c, hc⟩ := sixteenth
  unfold qnV
  rw [(q_eq xq).1, (q_eq xq).2, rq_eq]
  generalize kcV xq = x at h1 ⊢
  generalize ksV xq = y at h2 ⊢
  generalize rkV xq = z at h3 ⊢
  unfold k0_pay28
  pointwise []
  rw [h1, h2, h3, ← code_real, ← scale_real hQ, ← norm_real hQ, hc, ← EReal.coe_mul, ← EReal.coe_mul, ← EReal.coe_mul]
  refine congrArg _ ?_
  show (code (rowsOf xq a) r l).toReal * (scale (rowsOf xq a)).toReal * (rnorm (rowsOf xq a) r).toReal * c
    = (code (rowsOf xq a) r l).toReal * ((rnorm (rowsOf xq a) r).toReal * ((scale (rowsOf xq a)).toReal * (Ideal.ofBits .f32 0x3D800000#32).toReal))
  rw [hc, EReal.toReal_coe]
  ring

/-! ## Sums and masks -/

theorem pick_sum (f : Fin 64 → EReal) (j : Fin 64) : ∑ x, (if x = j then f x else 0) = f j := by
  refine (Finset.sum_ite_eq' Finset.univ j f).trans ?_
  simp
theorem pick_sum' (f : Fin 64 → EReal) (j : Fin 64) : ∑ x, (if j = x then f x else 0) = f j := by
  refine (Finset.sum_ite_eq Finset.univ j f).trans ?_
  simp

include hg in
theorem cum_at (r : Fin 64) : cumV xg (ix3 a r 0) = (((chunkOf (rowsOf xk a) (rowsOf xq a) g b).cum r : ℝ) : EReal) := by
  unfold cumV k0_pay29 k0_pay9
  pointwise []
  show _ = ((∑ j, g j * (if j ≤ r then 1 else 0) : ℝ) : EReal)
  rw [← coe_sum]
  refine Finset.sum_congr rfl fun j _ => ?_
  rw [sle64, sel_if, hg]
  split <;> simp

include hg in
theorem dec_at (i j : Fin 64) : decV xg (ix3 a i j) = ((if j ≤ i then Real.exp ((chunkOf (rowsOf xk a) (rowsOf xq a) g b).cum i - (chunkOf (rowsOf xk a) (rowsOf xq a) g b).cum j) else 0 : ℝ) : EReal) := by
  have h := cum_at (xk := xk) (xq := xq) (b := b) hg
  unfold cumV at h
  unfold decV k0_pay30
  generalize k0_pay29 (F := Ideal) rowI colI (k0_pay9 xg) = x at h ⊢
  pointwise []
  rw [sge64, sel_if]
  have e : (∑ y : Fin 64, Scalar.select (IntOp.cmpi CmpIPredicate.eq (BitVec.ofNat 32 y.val) (BitVec.ofNat 32 j.val)) (x (ix3 a y 0)) 0) = x (ix3 a j 0) := by
    refine Eq.trans (Finset.sum_congr rfl fun y _ => ?_) (pick_sum (fun y => x (ix3 a y 0)) j)
    rw [eq64, sel_if]
  rw [e, h, h, ← EReal.coe_sub, exp_at]
  split <;> rfl

theorem rr_at (j : Fin 64) : rrV xk (ix3 a 0 j) = rkV xk (ix3 a j 0) := by
  unfold rrV
  generalize rkV xk = x
  unfold k0_pay31
  pointwise []
  refine Eq.trans (Finset.sum_congr rfl fun y _ => ?_) (pick_sum (fun y => x (ix3 a y 0)) j)
  rw [eq64, sel_if]

include hb in
theorem bc_at (r : Fin 64) : bcV xb (ix3 a r 0) = ((b r : ℝ) : EReal) := by
  rw [← hb]
  unfold bcV k0_pay34 k0_pay32 k0_pay33 k0_pay10
  pointwise []
  refine Eq.trans (Finset.sum_congr rfl fun y _ => ?_) (pick_sum' (fun y => xb (ix4 a 0 0 y)) r)
  rw [eq64, sel_if]

/-! ## The matrices -/

/-- A head's matrix has these entries. -/
def Mat (x : FVec Ideal S24x64x64 .f32) (a : Fin 24) (X : M64) : Prop := ∀ i j, x (ix3 a i j) = ((X i j : ℝ) : EReal)

theorem mm_at {x y : FVec Ideal S24x64x64 .f32} {X Y : M64} (hx : Mat x a X) (hy : Mat y a Y) : Mat (mm x y) a (X * Y) := fun i j => by
  unfold mm
  pointwise []
  rw [Matrix.mul_apply, ← coe_sum_mul]
  exact Finset.sum_congr rfl fun k _ => by rw [hx, hy]

theorem twice_at {x : FVec Ideal S24x64x64 .f32} {X : M64} (hx : Mat x a X) (n : ℕ) : Mat (twiceV x n).1 a (doubled X n).1 ∧ Mat (twiceV x n).2 a (doubled X n).2 := by
  induction n with
  | zero =>
    refine ⟨hx, fun i j => ?_⟩
    show subf (broadcastTo S24x64x64 k0_pay1 broadcasts_S1x64x64_S24x64x64) x (ix3 a i j) = (((1 - X : M64) i j : ℝ) : EReal)
    unfold k0_pay1
    pointwise []
    rw [eq64, sel_if, hx, Matrix.sub_apply, Matrix.one_apply, EReal.coe_sub]
    split <;> rfl
  | succ n ih =>
    have h := mm_at ih.1 ih.1
    refine ⟨h, fun i j => ?_⟩
    have h2 := mm_at ih.2 h i j
    show (twiceV x n).2 (ix3 a i j) + mm (twiceV x n).2 (mm (twiceV x n).1 (twiceV x n).1) (ix3 a i j) = _
    rw [h2, ih.2, ← EReal.coe_add]
    rfl

include hK hg hb in
theorem tri_at : Mat (triV xk xg xb) a (chunkOf (rowsOf xk a) (rowsOf xq a) g b).tri := fun i j => by
  have h1 := kc_at xk a
  have h2 := ks_at xk a
  have h3 := rk_at xk hK
  have h4 := dec_at (xk := xk) (xq := xq) (b := b) hg
  have h5 := rr_at (xk := xk) (a := a)
  have h6 := bc_at hb
  unfold bcV at h6
  unfold triV k0_pay36
  generalize kcV xk = x at h1 ⊢
  generalize ksV xk = y at h2 ⊢
  generalize rrV xk = w at h5 ⊢
  generalize rkV xk = z at h3 h5 ⊢
  generalize decV xg = d at h4 ⊢
  generalize k0_pay34 (F := Ideal) zeroF (k0_pay32 rowI colI) (k0_pay33 (k0_pay10 xb)) = u at h6 ⊢
  pointwise []
  rw [sgt64, sel_if, h6, h2, h3, h5, h3, h4]
  have e : (∑ l, x (ix3 a i l) * x (ix3 a j l) : EReal) = ((∑ l, (code (rowsOf xk a) i l).toReal * (code (rowsOf xk a) j l).toReal : ℝ) : EReal) := by
    rw [← coe_sum_mul]
    exact Finset.sum_congr rfl fun l _ => by rw [h1, h1, code_real, code_real]
  rw [e, ← scale_real hK, ← norm_real hK, ← norm_real hK (r := j)]
  simp only [← EReal.coe_mul]
  show _ = ((if j < i then (∑ l, (code (rowsOf xk a) i l).toReal * (code (rowsOf xk a) j l).toReal) * (b i * ((rnorm (rowsOf xk a) i).toReal * (scale (rowsOf xk a)).toReal))
    * (Real.exp ((chunkOf (rowsOf xk a) (rowsOf xq a) g b).cum i - (chunkOf (rowsOf xk a) (rowsOf xq a) g b).cum j) * ((rnorm (rowsOf xk a) j).toReal * (scale (rowsOf xk a)).toReal)) else 0 : ℝ) : EReal)
  by_cases h : j < i
  · rw [if_pos h, if_pos h, if_pos h.le]
    exact congrArg _ (by ring)
  · rw [if_neg h, if_neg h]; rfl

include hK hQ hg in
theorem att_at (i j : Fin 64) : (if j ≤ i then qkV xk xq (ix3 a i j) * decV xg (ix3 a i j) else ((0 : ℝ) : EReal)) = (((chunkOf (rowsOf xk a) (rowsOf xq a) g b).att i j : ℝ) : EReal) := by
  have h1 := kc_at xk a
  have h2 := ks_at xk a
  have h1' := kc_at xq a
  have h2' := ks_at xq a
  have h3 := rk_at xk hK
  have h3' := rk_at xq hQ
  have h4 := dec_at (xk := xk) (xq := xq) (b := b) hg
  have h5 := rr_at (xk := xk) (a := a)
  obtain ⟨c, hc⟩ := sixteenth
  unfold qkV
  rw [(q_eq xq).1, (q_eq xq).2, rq_eq, h4]
  generalize kcV xk = x at h1 ⊢
  generalize ksV xk = y at h2 ⊢
  generalize kcV xq = x' at h1' ⊢
  generalize ksV xq = y' at h2' ⊢
  generalize rkV xq = z' at h3' ⊢
  generalize rrV xk = w at h5 ⊢
  generalize rkV xk = z at h3 h5
  have e0 : k0_pay35 (F := Ideal) y x y' x' z' w (ix3 a i j) = (∑ l, x' (ix3 a i l) * x (ix3 a j l)) * (y' (ix3 a 0 0) * y (ix3 a 0 0)) * z' (ix3 a i 0) * w (ix3 a 0 j) * Ideal.ofBits .f32 0x3D800000#32 := by
    unfold k0_pay35
    pointwise []
  have e : (∑ l, x' (ix3 a i l) * x (ix3 a j l) : EReal) = ((∑ l, (code (rowsOf xq a) i l).toReal * (code (rowsOf xk a) j l).toReal : ℝ) : EReal) := by
    rw [← coe_sum_mul]
    exact Finset.sum_congr rfl fun l _ => by rw [h1, h1', code_real, code_real]
  rw [e0, e, h2, h2', h3', h5, h3, hc, ← scale_real hK, ← scale_real hQ, ← norm_real hK, ← norm_real hQ]
  simp only [← EReal.coe_mul]
  show _ = ((if j ≤ i then (∑ l, (code (rowsOf xq a) i l).toReal * (code (rowsOf xk a) j l).toReal) * ((rnorm (rowsOf xq a) i).toReal * ((scale (rowsOf xq a)).toReal * (Ideal.ofBits .f32 0x3D800000#32).toReal))
    * (Real.exp ((chunkOf (rowsOf xk a) (rowsOf xq a) g b).cum i - (chunkOf (rowsOf xk a) (rowsOf xq a) g b).cum j) * ((rnorm (rowsOf xk a) j).toReal * (scale (rowsOf xk a)).toReal)) else 0 : ℝ) : EReal)
  rw [hc, EReal.toReal_coe]
  by_cases h : j ≤ i
  · rw [if_pos h, if_pos h, if_pos h]
    exact congrArg _ (by ring)
  · rw [if_neg h, if_neg h]

/-! ## The step -/

variable {acc : FVec Ideal S24x256x512 .f32} {S : Fin 256 → Fin 512 → ℝ} (hs : ∀ k e, acc (ix3 a k e) = ((S k e : ℝ) : EReal))

/-- The new values, as the reference adds them up. -/
theorem new_sum (T : M64) (c : Chunk) (v : Fin 64 → ℝ) (s : Fin 256 → ℝ) (i : Fin 64) :
    (∑ j, T i j * (c.b j * v j)) - ∑ k, (∑ j, T i j * (c.b j * Real.exp (c.cum j) * (c.kc j k * c.sk j))) * s k
      = ∑ j, T i j * c.b j * (v j - Real.exp (c.cum j) * c.sk j * ∑ k, c.kc j k * s k) := by
  have e : ∑ k, (∑ j, T i j * (c.b j * Real.exp (c.cum j) * (c.kc j k * c.sk j))) * s k = ∑ j, T i j * c.b j * (Real.exp (c.cum j) * c.sk j * ∑ k, c.kc j k * s k) := by
    simp only [Finset.sum_mul, Finset.mul_sum]
    rw [Finset.sum_comm]
    exact Finset.sum_congr rfl fun j _ => Finset.sum_congr rfl fun k _ => by ring
  rw [e, ← Finset.sum_sub_distrib]
  exact Finset.sum_congr rfl fun j _ => by ring

include hK hg hb hv hs in
theorem new_at (i : Fin 64) (e : Fin 512) : newV xk xv xg xb acc (ix3 a i e) = (((chunkOf (rowsOf xk a) (rowsOf xq a) g b).new (fun r => v r e) (fun k => S k e) i : ℝ) : EReal) := by
  have hT := (twice_at (tri_at (xq := xq) hK hg hb) 5).2
  have h0 := kn_at (xq := xq) (g := g) (b := b) hK
  have h1 := cum_at (xk := xk) (xq := xq) (b := b) hg
  have h2 := bc_at hb
  have hb5 := blockInv_eq (chunkOf (rowsOf xk a) (rowsOf xq a) g b).tri_lower
  unfold newV
  rw [t4V_eq, a5V_eq]
  unfold k0_pay3
  have eT : addf (F := Ideal) (twiceV (triV xk xg xb) 4).2 (matmul dot_S24x64x64_S24x64x64_S24x64x64_2_1_1_2_0_0 (some .fp32) (twiceV (triV xk xg xb) 4).2 (twiceV (triV xk xg xb) 5).1 zeroM) = (twiceV (triV xk xg xb) 5).2 := rfl
  simp only [eT]
  generalize (twiceV (triV xk xg xb) 5).2 = t at hT ⊢
  unfold k0_pay8
  generalize knV xk = x at h0 ⊢
  generalize cumV xg = y at h1 ⊢
  generalize bcV xb = z at h2 ⊢
  rw [← hb5] at hT
  generalize hc : chunkOf (rowsOf xk a) (rowsOf xq a) g b = c at *
  have hbc : c.b = b := by rw [← hc]; rfl
  pointwise []
  have e1 : ∀ k, (∑ j, t (ix3 a i j) * (z (ix3 a j 0) * Ideal.exp (y (ix3 a j 0)) * x (ix3 a j k))) = ((∑ j, blockInv c.tri i j * (c.b j * Real.exp (c.cum j) * (c.kc j k * c.sk j)) : ℝ) : EReal) := fun k => by
    rw [← coe_sum]
    exact Finset.sum_congr rfl fun j _ => by rw [hT, h2, h1, exp_at, h0, hbc]; simp only [← EReal.coe_mul]
  have e2 : (∑ j, t (ix3 a i j) * (z (ix3 a j 0) * xv (ix4 a 0 j e))) = ((∑ j, blockInv c.tri i j * (c.b j * v j e) : ℝ) : EReal) := by
    rw [← coe_sum]
    exact Finset.sum_congr rfl fun j _ => by rw [hT, h2, hv, hbc]; simp only [← EReal.coe_mul]
  have e3 : (∑ k, (∑ j, t (ix3 a i j) * (z (ix3 a j 0) * Ideal.exp (y (ix3 a j 0)) * x (ix3 a j k))) * acc (ix3 a k e)) = ((∑ k, (∑ j, blockInv c.tri i j * (c.b j * Real.exp (c.cum j) * (c.kc j k * c.sk j))) * S k e : ℝ) : EReal) := by
    rw [← coe_sum_mul]
    exact Finset.sum_congr rfl fun k _ => by rw [e1, hs]
  refine (congrArg₂ (· - ·) e2 e3).trans ?_
  rw [← EReal.coe_sub]
  exact congrArg _ (new_sum (blockInv c.tri) c (fun r => v r e) (fun k => S k e) i)

include hK hQ hg hb hv hs in
theorem out_at (i : Fin 64) (e : Fin 512) : outV xk xq xv xg xb acc (ix4 a 0 i e) = (((chunkOf (rowsOf xk a) (rowsOf xq a) g b).out (fun r => v r e) (fun k => S k e) i : ℝ) : EReal) := by
  have hN := new_at (xq := xq) hK hg hb hv hs
  have h0 := qn_at (xk := xk) (g := g) (b := b) hQ
  have h1 := cum_at (xk := xk) (xq := xq) (b := b) hg
  have hA := att_at (b := b) hK hQ hg
  unfold newV at hN
  unfold outV k0_pay4
  generalize k0_pay3 (F := Ideal) acc (k0_pay8 xv) (knV xk) (cumV xg) (bcV xb) (t4V xk xg xb) (a5V xk xg xb) zeroM = n at hN ⊢
  generalize qkV xk xq = w at hA ⊢
  generalize decV xg = d at hA ⊢
  generalize qnV xq = x at h0 ⊢
  generalize cumV xg = y at h1 ⊢
  generalize hc : chunkOf (rowsOf xk a) (rowsOf xq a) g b = c at *
  pointwise []
  have e1 : (∑ k, Ideal.exp (y (ix3 a i 0)) * x (ix3 a i k) * acc (ix3 a k e)) = ((∑ k, Real.exp (c.cum i) * (c.qc i k * c.sq i) * S k e : ℝ) : EReal) := by
    rw [← coe_sum_mul]
    exact Finset.sum_congr rfl fun k _ => by rw [h1, exp_at, h0, hs]; simp only [← EReal.coe_mul]
  have e2 : (∑ j : Fin 64, Scalar.select (IntOp.cmpi CmpIPredicate.sge (BitVec.ofNat 32 i.val) (BitVec.ofNat 32 j.val)) (w (ix3 a i j) * d (ix3 a i j) * n (ix3 a j e)) 0)
      = ((∑ j, c.att i j * c.new (fun r => v r e) (fun k => S k e) j : ℝ) : EReal) := by
    rw [← coe_sum_mul]
    exact Finset.sum_congr rfl fun j _ => by
      rw [sge64, sel_if, ← hA, ← hN]
      split
      · rfl
      · exact (zero_mul _).symm
  refine (congrArg₂ (· + ·) e1 e2).trans ?_
  rw [← EReal.coe_add]
  refine congrArg _ (congrArg (· + _) ?_)
  show _ = Real.exp (c.cum i) * c.sq i * ∑ k, c.qc i k * S k e
  rw [Finset.mul_sum]
  exact Finset.sum_congr rfl fun k _ => by ring

include hK hg hb hv hs in
theorem next_at (k : Fin 256) (e : Fin 512) : nextV xk xv xg xb acc (ix3 a k e) = (((chunkOf (rowsOf xk a) (rowsOf xq a) g b).next (fun r => v r e) (fun k => S k e) k : ℝ) : EReal) := by
  have hN := new_at (xq := xq) hK hg hb hv hs
  have h0 := kn_at (xq := xq) (g := g) (b := b) hK
  have h1 := cum_at (xk := xk) (xq := xq) (b := b) hg
  have hl : (∑ j, xg (ix4 a 0 0 j)) = (((chunkOf (rowsOf xk a) (rowsOf xq a) g b).cum 63 : ℝ) : EReal) := by
    show _ = ((∑ j, g j * (if j ≤ 63 then 1 else 0) : ℝ) : EReal)
    rw [← coe_sum]
    exact Finset.sum_congr rfl fun j _ => by rw [hg, if_pos (by show j.val ≤ 63; omega), mul_one]
  unfold newV at hN
  unfold nextV k0_pay5
  generalize k0_pay3 (F := Ideal) acc (k0_pay8 xv) (knV xk) (cumV xg) (bcV xb) (t4V xk xg xb) (a5V xk xg xb) zeroM = n at hN ⊢
  generalize knV xk = x at h0 ⊢
  generalize cumV xg = y at h1 ⊢
  generalize hc : chunkOf (rowsOf xk a) (rowsOf xq a) g b = c at *
  unfold k0_pay9
  pointwise []
  rw [hl, hs, exp_at]
  have e2 : (∑ j : Fin 64, Ideal.exp (((c.cum 63 : ℝ) : EReal) - y (ix3 a j 0)) * x (ix3 a j k) * n (ix3 a j e))
      = ((∑ j, Real.exp (c.cum 63 - c.cum j) * (c.kc j k * c.sk j) * c.new (fun r => v r e) (fun k => S k e) j : ℝ) : EReal) := by
    rw [← coe_sum]
    exact Finset.sum_congr rfl fun j _ => by rw [h1, ← EReal.coe_sub, exp_at, h0, hN]; simp only [← EReal.coe_mul]
  refine (congrArg₂ (· + ·) (EReal.coe_mul _ _).symm e2).trans ?_
  rw [← EReal.coe_add]
  refine congrArg _ (congrArg (_ + ·) (Finset.sum_congr rfl fun j _ => by ring))

end Parts

end Cert.ReferenceIdeal.Hand

end
-- ==== Proof.ReferenceRun.lean ====
/- The reference's loop over the chunks: the state it carries, and the rows it writes. -/
module

public import proofs.«01_k».proof.Proof.ReferenceDelta
public import proofs.«01_k».proof.Proof.DeltaStep

@[expose] public noncomputable section

set_option maxRecDepth 100000
set_option maxHeartbeats 1000000

namespace Cert.ReferenceIdeal.Hand

open Idealize.ShloMosaic Idealize.ShloMosaic.TcCoe
open Cert.ReferenceIdeal Cert.ReferenceIdeal.Gen
open Cert.Delta Cert.Quant
open Cert.KernelIdeal.Hand (chunkOf chunkA chN vN stateN outN stateN_succ)

theorem trips : k0_t1_loop.trips = 128 := by decide +kernel
/-- The trip of a chunk. -/
def tk (k : Fin 128) : Fin k0_t1_loop.trips := ⟨k.val, by rw [trips]; exact k.isLt⟩
theorem off1 : ∀ k : Fin 128, k0_off1 (tk k) = ![0, k.val, 0, 0] := by decide +kernel
theorem off2 : ∀ k : Fin 128, k0_off2 (tk k) = ![0, k.val, 0, 0] := by decide +kernel
theorem off3 : ∀ k : Fin 128, k0_off3 (tk k) = ![0, k.val, 0, 0] := by decide +kernel
theorem off4 : ∀ k : Fin 128, k0_off4 (tk k) = ![0, k.val, 0, 0] := by decide +kernel

/-- A load of one chunk of every head. -/
theorem load_at {p q : ℕ} {e : EltTy} (v : View sig .tc .vmem ⟨4, ![24, 128, p, q]⟩ e) (X : v.ty.Contents (Elt Ideal)) {off : Fin 4 → ℕ} (k : Fin 128) (hoff : off = ![0, k.val, 0, 0])
    (inb : ∀ a, off a + (![24, 1, p, q] : Fin 4 → ℕ) a ≤ (![24, 128, p, q] : Fin 4 → ℕ) a) (a : Fin 24) (r : Fin p) (l : Fin q) :
    v.readAt (Elt Ideal) (Rect.unit (s := ⟨4, ![24, 128, p, q]⟩) off ![24, 1, p, q] inb).toLoadRect X (ix4 a 0 r l) = v.read (Elt Ideal) X (ix4 a k r l) := by
  subst hoff
  refine congrArg (v.read (Elt Ideal) X) (funext fun b => Fin.ext ?_)
  fin_cases b
  · show 0 + 1 * a.val = a.val; omega
  · show k.val + 1 * 0 = k.val; omega
  · show 0 + 1 * r.val = r.val; omega
  · show 0 + 1 * l.val = l.val; omega

/-- What stores of one chunk after another leave. -/
theorem rows_written {p q : ℕ} {e : EltTy} (v : View sig .tc .vmem ⟨4, ![24, 128, p, q]⟩ e) (f : v.ty.Contents (Elt Ideal)) (L : ℕ → List (View.Piece (Elt Ideal) ⟨4, ![24, 128, p, q]⟩ e))
    (off : Fin 128 → Fin 4 → ℕ) (hoff : ∀ k, off k = ![0, k.val, 0, 0]) (inb : ∀ k a, off k a + (![24, 1, p, q] : Fin 4 → ℕ) a ≤ (![24, 128, p, q] : Fin 4 → ℕ) a)
    (w : Fin 128 → (⟨4, ![24, 1, p, q]⟩ : Shape).Idx → Elt Ideal e)
    (hL : ∀ k : Fin 128, L (k.val + 1) = ⟨Rect.unit (s := ⟨4, ![24, 128, p, q]⟩) (off k) ![24, 1, p, q] (inb k), w k⟩ :: L k.val)
    (n : ℕ) (hn : n ≤ 128) (k : Fin 128) (hk : k.val < n) (a : Fin 24) (r : Fin p) (l : Fin q) :
    v.read (Elt Ideal) (v.writes (Elt Ideal) f (L n)) (ix4 a k r l) = w k (ix4 a 0 r l) := by
  induction n with
  | zero => exact absurd hk (Nat.not_lt_zero _)
  | succ n ih =>
    rw [hL ⟨n, hn⟩]
    by_cases h : k.val = n
    · obtain rfl : k = ⟨n, hn⟩ := Fin.ext h
      refine View.read_writes_cons_unit_of_mem v f (inb _) _ _ _ (ix4 a 0 r l) (hoff _) fun b => ?_
      fin_cases b
      · show a.val = 0 + a.val; omega
      · show n = n + 0; omega
      · show r.val = 0 + r.val; omega
      · show l.val = 0 + l.val; omega
    · refine (View.read_writes_cons_unit_of_not_mem v f (inb _) _ _ _ (hoff _) (1 : Fin 4) (Or.inl ?_)).trans (ih (by omega) (by omega))
      show k.val < n
      omega

section Trip
variable (𝒱 : Variants) (c : Dev nD) (bd : Option 𝒱.V) (arg0 : Memref sig .tc .vmem S24x128x64x256 .bf16) (harg0 : arg0.IsWhole) (arg1 : Memref sig .tc .vmem S24x128x64x256 .bf16) (harg1 : arg1.IsWhole) (arg2 : Memref sig .tc .vmem S24x128x64x512 .bf16) (harg2 : arg2.IsWhole) (arg3 : Memref sig .tc .vmem S24x128x1x64 .f32) (harg3 : arg3.IsWhole) (arg4 : Memref sig .tc .vmem S24x128x1x64 .f32) (harg4 : arg4.IsWhole) (arg5 : Memref sig .tc .vmem S24x256x512 .f32) (harg5 : arg5.IsWhole) (arg6 : Memref sig .tc .vmem S24x128x64x512 .bf16) (harg6 : arg6.IsWhole) (arg7 : Memref sig .tc .vmem S24x256x512 .f32) (harg7 : arg7.IsWhole) (arg8 : Memref sig .tc .vmem S24x128x64x256 .fp8e4m3) (harg8 : arg8.IsWhole) (arg9 : Memref sig .tc .vmem S24x128x1x1 .f32) (harg9 : arg9.IsWhole) (arg10 : Memref sig .tc .vmem S24x128x64x256 .fp8e4m3) (harg10 : arg10.IsWhole) (arg11 : Memref sig .tc .vmem S24x128x1x1 .f32) (harg11 : arg11.IsWhole) (X_arg0 : BufTy.Contents (Elt Ideal) arg0.view.ty) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty)

def ldq (k : Fin 128) : Vec Ideal S24x1x64x256 .bf16 := arg0.view.readAt (Elt Ideal) (Rect.unit (s := S24x128x64x256) (k0_off1 (tk k)) S24x1x64x256.size (k0_off1_inb (tk k))).toLoadRect X_arg0
def ldk (k : Fin 128) : Vec Ideal S24x1x64x256 .bf16 := arg1.view.readAt (Elt Ideal) (Rect.unit (s := S24x128x64x256) (k0_off1 (tk k)) S24x1x64x256.size (k0_off1_inb (tk k))).toLoadRect X_arg1
def ldv (k : Fin 128) : Vec Ideal S24x1x64x512 .bf16 := arg2.view.readAt (Elt Ideal) (Rect.unit (s := S24x128x64x512) (k0_off2 (tk k)) S24x1x64x512.size (k0_off2_inb (tk k))).toLoadRect X_arg2
def ldg (k : Fin 128) : Vec Ideal S24x1x1x64 .f32 := arg3.view.readAt (Elt Ideal) (Rect.unit (s := S24x128x1x64) (k0_off3 (tk k)) S24x1x1x64.size (k0_off3_inb (tk k))).toLoadRect X_arg3
def ldb (k : Fin 128) : Vec Ideal S24x1x1x64 .f32 := arg4.view.readAt (Elt Ideal) (Rect.unit (s := S24x128x1x64) (k0_off3 (tk k)) S24x1x1x64.size (k0_off3_inb (tk k))).toLoadRect X_arg4

theorem tripR_eq (k : Fin 128) (acc : FVec Ideal S24x256x512 .f32) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc = nextV (ldk arg1 X_arg1 k) (ldv arg2 X_arg2 k) (ldg arg3 X_arg3 k) (ldb arg4 X_arg4 k) acc := by
  unfold tripR_k0_t1 trip_k0_t1; dsimp only; rfl

theorem tripL6_eq (k : Fin 128) (acc : FVec Ideal S24x256x512 .f32) :
    (tripL_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc).1 = [⟨Rect.unit (s := S24x128x64x512) (k0_off2 (tk k)) S24x1x64x512.size (k0_off2_inb (tk k)), outV (ldk arg1 X_arg1 k) (ldq arg0 X_arg0 k) (ldv arg2 X_arg2 k) (ldg arg3 X_arg3 k) (ldb arg4 X_arg4 k) acc⟩] := by
  unfold tripL_k0_t1 trip_k0_t1; dsimp only; rfl
theorem tripL8_eq (k : Fin 128) (acc : FVec Ideal S24x256x512 .f32) :
    (tripL_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc).2.1 = [⟨Rect.unit (s := S24x128x64x256) (k0_off1 (tk k)) S24x1x64x256.size (k0_off1_inb (tk k)), k0_pay19 (kcV (ldk arg1 X_arg1 k))⟩] := by
  unfold tripL_k0_t1 trip_k0_t1; dsimp only; rfl
theorem tripL9_eq (k : Fin 128) (acc : FVec Ideal S24x256x512 .f32) :
    (tripL_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc).2.2.1 = [⟨Rect.unit (s := S24x128x1x1) (k0_off4 (tk k)) S24x1x1x1.size (k0_off4_inb (tk k)), k0_pay21 (ksV (ldk arg1 X_arg1 k))⟩] := by
  unfold tripL_k0_t1 trip_k0_t1; dsimp only; rfl
theorem tripL10_eq (k : Fin 128) (acc : FVec Ideal S24x256x512 .f32) :
    (tripL_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc).2.2.2.1 = [⟨Rect.unit (s := S24x128x64x256) (k0_off1 (tk k)) S24x1x64x256.size (k0_off1_inb (tk k)), k0_pay19 (kcV (ldq arg0 X_arg0 k))⟩] := by
  unfold tripL_k0_t1 trip_k0_t1; dsimp only; rfl
theorem tripL11_eq (k : Fin 128) (acc : FVec Ideal S24x256x512 .f32) :
    (tripL_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 (tk k) acc).2.2.2.2 = [⟨Rect.unit (s := S24x128x1x1) (k0_off4 (tk k)) S24x1x1x1.size (k0_off4_inb (tk k)), k0_pay21 (ksV (ldq arg0 X_arg0 k))⟩] := by
  unfold tripL_k0_t1 trip_k0_t1; dsimp only; rfl

variable (init : FVec Ideal S24x256x512 .f32)

/-! ### Codes and scales -/

theorem pay19_at (x : FVec Ideal S24x64x256 .fp8e4m3) (a : Fin 24) (r : Fin 64) (l : Fin 256) : k0_pay19 x (ix4 a 0 r l) = x (ix3 a r l) := by
  unfold k0_pay19; pointwise []
theorem pay21_at (x : FVec Ideal S24x1x1 .f32) (a : Fin 24) : k0_pay21 x (ix4 a 0 0 0) = x (ix3 a 0 0) := by
  unfold k0_pay21; pointwise []

theorem codes8 (v : View sig .tc .vmem S24x128x64x256 .fp8e4m3) (f : v.ty.Contents (Elt Ideal)) (a : Fin 24) (k : Fin 128) (r : Fin 64) (l : Fin 256) :
    v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init 128).2.2.1) (ix4 a k r l) = code (rowsOf (ldk arg1 X_arg1 k) a) r l := by
  refine (rows_written v f (fun n => (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).2.2.1) _ off1 (fun k => k0_off1_inb (tk k)) (fun k => k0_pay19 (kcV (ldk arg1 X_arg1 k))) (fun k => ?_) 128 le_rfl k k.isLt a r l).trans ?_
  · show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk k).val + 1)).2.2.1 = _
    rw [st_k0_t1_succ]
    exact congrArg (· ++ _) (tripL8_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 k _)
  · rw [pay19_at, kc_at]
theorem codes10 (v : View sig .tc .vmem S24x128x64x256 .fp8e4m3) (f : v.ty.Contents (Elt Ideal)) (a : Fin 24) (k : Fin 128) (r : Fin 64) (l : Fin 256) :
    v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init 128).2.2.2.2.1) (ix4 a k r l) = code (rowsOf (ldq arg0 X_arg0 k) a) r l := by
  refine (rows_written v f (fun n => (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).2.2.2.2.1) _ off1 (fun k => k0_off1_inb (tk k)) (fun k => k0_pay19 (kcV (ldq arg0 X_arg0 k))) (fun k => ?_) 128 le_rfl k k.isLt a r l).trans ?_
  · show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk k).val + 1)).2.2.2.2.1 = _
    rw [st_k0_t1_succ]
    exact congrArg (· ++ _) (tripL10_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 k _)
  · rw [pay19_at, kc_at]
theorem scales9 (v : View sig .tc .vmem S24x128x1x1 .f32) (f : v.ty.Contents (Elt Ideal)) (a : Fin 24) (k : Fin 128) :
    v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init 128).2.2.2.1) (ix4 a k 0 0) = scale (rowsOf (ldk arg1 X_arg1 k) a) := by
  refine (rows_written v f (fun n => (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).2.2.2.1) _ off4 (fun k => k0_off4_inb (tk k)) (fun k => k0_pay21 (ksV (ldk arg1 X_arg1 k))) (fun k => ?_) 128 le_rfl k k.isLt a 0 0).trans ?_
  · show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk k).val + 1)).2.2.2.1 = _
    rw [st_k0_t1_succ]
    exact congrArg (· ++ _) (tripL9_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 k _)
  · rw [pay21_at, ks_at]
theorem scales11 (v : View sig .tc .vmem S24x128x1x1 .f32) (f : v.ty.Contents (Elt Ideal)) (a : Fin 24) (k : Fin 128) :
    v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init 128).2.2.2.2.2) (ix4 a k 0 0) = scale (rowsOf (ldq arg0 X_arg0 k) a) := by
  refine (rows_written v f (fun n => (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).2.2.2.2.2) _ off4 (fun k => k0_off4_inb (tk k)) (fun k => k0_pay21 (ksV (ldq arg0 X_arg0 k))) (fun k => ?_) 128 le_rfl k k.isLt a 0 0).trans ?_
  · show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk k).val + 1)).2.2.2.2.2 = _
    rw [st_k0_t1_succ]
    exact congrArg (· ++ _) (tripL11_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 k _)
  · rw [pay21_at, ks_at]

/-! ### The state and the outputs -/

section Values
variable {K Q : Cert.KernelIdeal.S24x8192x256.Idx → EReal} {V : Cert.KernelIdeal.S24x8192x512.Idx → EReal} {G B : Cert.KernelIdeal.S24x128x64.Idx → EReal} {I : Cert.KernelIdeal.S24x256x512.Idx → EReal}
  (hK : ∀ k a, rowsOf (ldk arg1 X_arg1 k) a = chunkA K a k) (hQ : ∀ k a, rowsOf (ldq arg0 X_arg0 k) a = chunkA Q a k)
  (hV : ∀ k a r e, ldv arg2 X_arg2 k (ix4 a 0 r e) = ((vN V a k r e : ℝ) : EReal))
  (hG : ∀ k a j, ldg arg3 X_arg3 k (ix4 a 0 0 j) = (((G (ix3 a k j)).toReal : ℝ) : EReal))
  (hB : ∀ k a j, ldb arg4 X_arg4 k (ix4 a 0 0 j) = (((B (ix3 a k j)).toReal : ℝ) : EReal))
  (hI : ∀ a k e, init (ix3 a k e) = ((stateN K Q V G B I a 0 k e : ℝ) : EReal))
  (rK : ∀ a n, InRange (chunkA K a n)) (rQ : ∀ a n, InRange (chunkA Q a n))

include hK hQ hV hG hB hI rK in
theorem carried (n : ℕ) (hn : n ≤ 128) (a : Fin 24) (k : Fin 256) (e : Fin 512) : (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).1 (ix3 a k e) = ((stateN K Q V G B I a n k e : ℝ) : EReal) := by
  induction n generalizing a k e with
  | zero => exact hI a k e
  | succ n ih =>
    have hs := ih (by omega)
    have e0 : (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init (n + 1)).1 = nextV (ldk arg1 X_arg1 ⟨n, hn⟩) (ldv arg2 X_arg2 ⟨n, hn⟩) (ldg arg3 X_arg3 ⟨n, hn⟩) (ldb arg4 X_arg4 ⟨n, hn⟩) (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).1 := by
      show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk ⟨n, hn⟩).val + 1)).1 = _
      rw [st_k0_t1_succ]
      exact tripR_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 ⟨n, hn⟩ _
    rw [e0, next_at (xq := ldq arg0 X_arg0 ⟨n, hn⟩) (by rw [hK]; exact rK _ _) (hG _ _) (hB _ _) (hV _ _) (hs a), hK, hQ]
    exact congrArg _ (stateN_succ K Q V G B I a ⟨n, hn⟩ k e).symm

include hK hQ hV hG hB hI rK rQ in
theorem outs6 (v : View sig .tc .vmem S24x128x64x512 .bf16) (f : v.ty.Contents (Elt Ideal)) (a : Fin 24) (k : Fin 128) (r : Fin 64) (e : Fin 512) :
    v.read (Elt Ideal) (v.writes (Elt Ideal) f (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init 128).2.1) (ix4 a k r e) = ((outN K Q V G B I a k r e : ℝ) : EReal) := by
  refine (rows_written v f (fun n => (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init n).2.1) _ off2 (fun k => k0_off2_inb (tk k)) (fun k => outV (ldk arg1 X_arg1 k) (ldq arg0 X_arg0 k) (ldv arg2 X_arg2 k) (ldg arg3 X_arg3 k) (ldb arg4 X_arg4 k) (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init k.val).1) (fun k => ?_) 128 le_rfl k k.isLt a r e).trans ?_
  · show (st_k0_t1 (F := Ideal) 𝒱 c bd arg0 harg0 arg1 harg1 arg2 harg2 arg3 harg3 arg4 harg4 arg5 harg5 arg6 harg6 arg7 harg7 arg8 harg8 arg9 harg9 arg10 harg10 arg11 harg11 rowI colI X_arg0 X_arg1 X_arg2 X_arg3 X_arg4 init ((tk k).val + 1)).2.1 = _
    rw [st_k0_t1_succ]
    exact congrArg (· ++ _) (tripL6_eq 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 k _)
  · rw [out_at (by rw [hK]; exact rK _ _) (by rw [hQ]; exact rQ _ _) (hG _ _) (hB _ _) (hV _ _) (carried 𝒱 c bd arg0 harg0 arg1 harg1 arg2 harg2 arg3 harg3 arg4 harg4 arg5 harg5 arg6 harg6 arg7 harg7 arg8 harg8 arg9 harg9 arg10 harg10 arg11 harg11 X_arg0 X_arg1 X_arg2 X_arg3 X_arg4 init hK hQ hV hG hB hI rK k.val k.isLt.le a), hK, hQ]
    rfl

end Values
end Trip

end Cert.ReferenceIdeal.Hand

end
-- ==== Proof.ReferenceArr.lean ====
/- What the reference returns: all six results, from the arrays the problem gives it. -/
module

public import proofs.«01_k».proof.Proof.Gen.ReferenceIdeal.Frame
public import proofs.«01_k».proof.Proof.ReferenceRun
public import proofs.«01_k».proof.Proof.KernelIdealArr
public import Idealize.ShloMosaic.Lib.Pointwise
public import Idealize.ShloMosaic.Lib.Pipeline.ValueKit
public import Idealize.ShloMosaic.Lib.Claim

@[expose] public noncomputable section

set_option maxRecDepth 100000
set_option maxHeartbeats 1000000

namespace Cert.ReferenceIdeal.Hand

open Idealize.ShloMosaic Idealize.ShloMosaic.TcCoe Idealize.ShloMosaic.Tactic Idealize.ShloMosaic.Pipeline
open Cert.ReferenceIdeal Cert.ReferenceIdeal.Gen
open Cert.Delta Cert.Quant
open Cert.KernelIdeal.Hand (chunkA vN stateN outN codesOf scalesOf)

variable (m : (ℓ : Loc nD τ sig) → Buf (Elt Ideal) ℓ)

/-- The one grid point. -/
def t0 : Fin cfg0.N := ⟨0, by decide⟩

theorem whole : ∀ w : Fin cfg0.W, 6 ≤ w.val → (cfg0.win w).WholeAt t0 := by decide +kernel

theorem in0 (c : Dev nD) : iblk m c 0 t0 = V m c main_v0 := by
  funext j
  exact congrArg (V m c main_v0) (by funext a; apply Fin.ext; exact Window.rect_emb_val_of_index_zero win0_0 t0 a (by fin_cases a <;> rfl) j)
theorem in1 (c : Dev nD) : iblk m c 1 t0 = V m c main_v1 := by
  funext j
  exact congrArg (V m c main_v1) (by funext a; apply Fin.ext; exact Window.rect_emb_val_of_index_zero win0_1 t0 a (by fin_cases a <;> rfl) j)
theorem in2 (c : Dev nD) : iblk m c 2 t0 = V m c main_v2 := by
  funext j
  exact congrArg (V m c main_v2) (by funext a; apply Fin.ext; exact Window.rect_emb_val_of_index_zero win0_2 t0 a (by fin_cases a <;> rfl) j)
theorem in3 (c : Dev nD) : iblk m c 3 t0 = V m c main_v3 := by
  funext j
  exact congrArg (V m c main_v3) (by funext a; apply Fin.ext; exact Window.rect_emb_val_of_index_zero win0_3 t0 a (by fin_cases a <;> rfl) j)
theorem in4 (c : Dev nD) : iblk m c 4 t0 = V m c main_v4 := by
  funext j
  exact congrArg (V m c main_v4) (by funext a; apply Fin.ext; exact Window.rect_emb_val_of_index_zero win0_4 t0 a (by fin_cases a <;> rfl) j)
theorem in5 (c : Dev nD) : iblk m c 5 t0 = V m c main_v5 := by
  funext j
  exact congrArg (V m c main_v5) (by funext a; apply Fin.ext; exact Window.rect_emb_val_of_index_zero win0_5 t0 a (by fin_cases a <;> rfl) j)

theorem sv0 : kernelRun0_A.sl.v0 = rowI := rfl
theorem sv1 : kernelRun0_A.sl.v1 = colI := rfl
theorem tripsN : Scf.trips (0#32) (Scalar.addi 0#32 128#32) 1#32 = 128 := trips

/-- A chunk of a whole array. -/
theorem ld_at {p q : ℕ} {e : EltTy} (v : Memref sig .tc .vmem ⟨4, ![24, 128, p, q]⟩ e) (hv : v.IsWhole) (x : Vec Ideal ⟨4, ![24, 128, p, q]⟩ e) {off : Fin 4 → ℕ} (k : Fin 128) (hoff : off = ![0, k.val, 0, 0])
    (inb : ∀ a, off a + (![24, 1, p, q] : Fin 4 → ℕ) a ≤ (![24, 128, p, q] : Fin 4 → ℕ) a) (a : Fin 24) (r : Fin p) (l : Fin q) :
    v.view.readAt (Elt Ideal) (Rect.unit (s := ⟨4, ![24, 128, p, q]⟩) off ![24, 1, p, q] inb).toLoadRect (hv.unread x) (ix4 a 0 r l) = x (ix4 a k r l) :=
  (load_at v.view _ k hoff inb a r l).trans (congrFun (hv.read_unread x) _)

/-- The carried state starts as the array the kernel is given. -/
theorem init_at (v : Memref sig .tc .vmem S24x256x512 .f32) (hv : v.IsWhole) (x : Vec Ideal S24x256x512 .f32) (inb) :
    k0_pay2 (F := Ideal) (v.view.readAt (Elt Ideal) (Rect.unit (s := S24x256x512) ![0, 0, 0] ![24, 256, 512] inb).toLoadRect (hv.unread x)) = x := by
  unfold k0_pay2
  funext i
  refine (shapeCast_apply (s := S24x256x512) (t := S24x256x512) _ _ i i rfl).trans ?_
  refine (congrArg (v.view.read (Elt Ideal) (hv.unread x)) (funext fun b => Fin.ext ?_)).trans (congrFun (hv.read_unread x) i)
  fin_cases b
  · show 0 + 1 * (i 0).val = (i 0).val; omega
  · show 0 + 1 * (i 1).val = (i 1).val; omega
  · show 0 + 1 * (i 2).val = (i 2).val; omega

theorem all4 {n0 n1 n2 n3 : ℕ} {α : Sort*} {f g : (⟨4, ![n0, n1, n2, n3]⟩ : Shape).Idx → α} (h : ∀ a b c d, f (ix4 a b c d) = g (ix4 a b c d)) (i) : f i = g i := by
  rw [eq_ix4 (n0 := n0) (n1 := n1) (n2 := n2) (n3 := n3) i]; exact h _ _ _ _
theorem all3 {n0 n1 n2 : ℕ} {α : Sort*} {f g : (⟨3, ![n0, n1, n2]⟩ : Shape).Idx → α} (h : ∀ a b c, f (ix3 a b c) = g (ix3 a b c)) (i) : f i = g i := by
  rw [eq_ix3 (n0 := n0) (n1 := n1) (n2 := n2) i]; exact h _ _ _

theorem arr8 (c : Dev nD) : (dats m 0 c).arrAt 8 cfg0.N = fun j : S24x128x64x256.Idx => code (fun r l => V m c main_v1 (ix4 (j 0) (j 1) r l)) (j 2) (j 3) := by
  refine Dat.arrAt_eq_of_after_last _ 8 t0 (whole 8 (by decide)) _ (fun j => ?_)
  rw [after0_8]
  unfold outsAt0 out0_A_8 kernelRun0_A
  dsimp only
  rw [sv0, sv1, tripsN, in0, in1, in2, in3, in4]
  refine (cast_eq _ _).trans (all4 (g := fun j : S24x128x64x256.Idx => code (fun r l => V m c main_v1 (ix4 (j 0) (j 1) r l)) (j 2) (j 3)) (fun a k r l => ?_) _)
  refine (codes8 Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ VO0_8 _ a k r l).trans (congrArg (fun X => code X r l) (funext₂ fun r l => ?_))
  exact ld_at (ms0_1 t0) (hs0_1 t0) (V m c main_v1) k (off1 k) _ a r l

theorem arr9 (c : Dev nD) : (dats m 0 c).arrAt 9 cfg0.N = fun j : S24x128x1x1.Idx => scale (fun r l => V m c main_v1 (ix4 (j 0) (j 1) r l)) := by
  refine Dat.arrAt_eq_of_after_last _ 9 t0 (whole 9 (by decide)) _ (fun j => ?_)
  rw [after0_9]
  unfold outsAt0 out0_A_9 kernelRun0_A
  dsimp only
  rw [sv0, sv1, tripsN, in0, in1, in2, in3, in4]
  refine (cast_eq _ _).trans (all4 (g := fun j : S24x128x1x1.Idx => scale (fun r l => V m c main_v1 (ix4 (j 0) (j 1) r l))) (fun a k r l => ?_) _)
  obtain rfl : r = 0 := Subsingleton.elim _ _
  obtain rfl : l = 0 := Subsingleton.elim _ _
  refine (scales9 Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ VO0_9 _ a k).trans (congrArg scale (funext₂ fun r l => ?_))
  exact ld_at (ms0_1 t0) (hs0_1 t0) (V m c main_v1) k (off1 k) _ a r l

theorem arr10 (c : Dev nD) : (dats m 0 c).arrAt 10 cfg0.N = fun j : S24x128x64x256.Idx => code (fun r l => V m c main_v0 (ix4 (j 0) (j 1) r l)) (j 2) (j 3) := by
  refine Dat.arrAt_eq_of_after_last _ 10 t0 (whole 10 (by decide)) _ (fun j => ?_)
  rw [after0_10]
  unfold outsAt0 out0_A_10 kernelRun0_A
  dsimp only
  rw [sv0, sv1, tripsN, in0, in1, in2, in3, in4]
  refine (cast_eq _ _).trans (all4 (g := fun j : S24x128x64x256.Idx => code (fun r l => V m c main_v0 (ix4 (j 0) (j 1) r l)) (j 2) (j 3)) (fun a k r l => ?_) _)
  refine (codes10 Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ VO0_10 _ a k r l).trans (congrArg (fun X => code X r l) (funext₂ fun r l => ?_))
  exact ld_at (ms0_0 t0) (hs0_0 t0) (V m c main_v0) k (off1 k) _ a r l

theorem arr11 (c : Dev nD) : (dats m 0 c).arrAt 11 cfg0.N = fun j : S24x128x1x1.Idx => scale (fun r l => V m c main_v0 (ix4 (j 0) (j 1) r l)) := by
  refine Dat.arrAt_eq_of_after_last _ 11 t0 (whole 11 (by decide)) _ (fun j => ?_)
  rw [after0_11]
  unfold outsAt0 out0_A_11 kernelRun0_A
  dsimp only
  rw [sv0, sv1, tripsN, in0, in1, in2, in3, in4]
  refine (cast_eq _ _).trans (all4 (g := fun j : S24x128x1x1.Idx => scale (fun r l => V m c main_v0 (ix4 (j 0) (j 1) r l))) (fun a k r l => ?_) _)
  obtain rfl : r = 0 := Subsingleton.elim _ _
  obtain rfl : l = 0 := Subsingleton.elim _ _
  refine (scales11 Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ VO0_11 _ a k).trans (congrArg scale (funext₂ fun r l => ?_))
  exact ld_at (ms0_0 t0) (hs0_0 t0) (V m c main_v0) k (off1 k) _ a r l

/-- The arrays the reference is given, written through the kernel's. -/
structure Given (c : Dev nD) (K Q : Cert.KernelIdeal.S24x8192x256.Idx → EReal) (W : Cert.KernelIdeal.S24x8192x512.Idx → EReal) (G B : Cert.KernelIdeal.S24x128x64.Idx → EReal) (I : Cert.KernelIdeal.S24x256x512.Idx → EReal) : Prop where
  hK : ∀ a k r l, V m c main_v1 (ix4 a k r l) = chunkA K a k r l
  hQ : ∀ a k r l, V m c main_v0 (ix4 a k r l) = chunkA Q a k r l
  hV : ∀ a k r e, V m c main_v2 (ix4 a k r e) = ((vN W a k r e : ℝ) : EReal)
  hG : ∀ a k j, V m c main_v3 (ix4 a k 0 j) = (((G (ix3 a k j)).toReal : ℝ) : EReal)
  hB : ∀ a k j, V m c main_v4 (ix4 a k 0 j) = (((B (ix3 a k j)).toReal : ℝ) : EReal)
  hI : ∀ a k e, V m c main_v5 (ix3 a k e) = ((stateN K Q W G B I a 0 k e : ℝ) : EReal)
  rK : ∀ a n, InRange (chunkA K a n)
  rQ : ∀ a n, InRange (chunkA Q a n)

section
variable {m} {c : Dev nD} {K Q : Cert.KernelIdeal.S24x8192x256.Idx → EReal} {W : Cert.KernelIdeal.S24x8192x512.Idx → EReal} {G B : Cert.KernelIdeal.S24x128x64.Idx → EReal} {I : Cert.KernelIdeal.S24x256x512.Idx → EReal} (g : Given m c K Q W G B I)
include g

theorem arr6 : (dats m 0 c).arrAt 6 cfg0.N = fun j : S24x128x64x512.Idx => ((outN K Q W G B I (j 0) (j 1) (j 2) (j 3) : ℝ) : EReal) := by
  refine Dat.arrAt_eq_of_after_last _ 6 t0 (whole 6 (by decide)) _ (fun j => ?_)
  rw [after0_6]
  unfold outsAt0 out0_A_6 kernelRun0_A
  dsimp only
  rw [sv0, sv1, tripsN, in0, in1, in2, in3, in4, in5]
  refine (cast_eq _ _).trans (all4 (g := fun j : S24x128x64x512.Idx => ((outN K Q W G B I (j 0) (j 1) (j 2) (j 3) : ℝ) : EReal)) (fun a k r l => ?_) _)
  exact outs6 Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ (fun k a => funext₂ fun r l => (ld_at (ms0_1 t0) (hs0_1 t0) _ k (off1 k) _ a r l).trans (g.hK a k r l)) (fun k a => funext₂ fun r l => (ld_at (ms0_0 t0) (hs0_0 t0) _ k (off1 k) _ a r l).trans (g.hQ a k r l)) (fun k a r e => (ld_at (ms0_2 t0) (hs0_2 t0) _ k (off2 k) _ a r e).trans (g.hV a k r e)) (fun k a j => (ld_at (ms0_3 t0) (hs0_3 t0) _ k (off3 k) _ a 0 j).trans (g.hG a k j)) (fun k a j => (ld_at (ms0_4 t0) (hs0_4 t0) _ k (off3 k) _ a 0 j).trans (g.hB a k j)) (fun a k e => (congrFun (init_at (ms0_5 t0) (hs0_5 t0) _ _) _).trans (g.hI a k e)) g.rK g.rQ VO0_6 _ a k r l

theorem arr7 : (dats m 0 c).arrAt 7 cfg0.N = fun j : S24x256x512.Idx => ((stateN K Q W G B I (j 0) 128 (j 1) (j 2) : ℝ) : EReal) := by
  refine Dat.arrAt_eq_of_after_last _ 7 t0 (whole 7 (by decide)) _ (fun j => ?_)
  rw [after0_7]
  unfold outsAt0 out0_A_7 kernelRun0_A
  dsimp only
  rw [sv0, sv1, tripsN, in0, in1, in2, in3, in4, in5]
  refine (cast_eq _ _).trans (all3 (g := fun j : S24x256x512.Idx => ((stateN K Q W G B I (j 0) 128 (j 1) (j 2) : ℝ) : EReal)) (fun a k e => ?_) _)
  refine (View.read_writes_cons_unit_of_mem VO0_7 _ _ _ _ _ (ix3 a k e) rfl fun b => ?_).trans
    (carried Variants.none c none (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ (fun k a => funext₂ fun r l => (ld_at (ms0_1 t0) (hs0_1 t0) _ k (off1 k) _ a r l).trans (g.hK a k r l)) (fun k a => funext₂ fun r l => (ld_at (ms0_0 t0) (hs0_0 t0) _ k (off1 k) _ a r l).trans (g.hQ a k r l)) (fun k a r e => (ld_at (ms0_2 t0) (hs0_2 t0) _ k (off2 k) _ a r e).trans (g.hV a k r e)) (fun k a j => (ld_at (ms0_3 t0) (hs0_3 t0) _ k (off3 k) _ a 0 j).trans (g.hG a k j)) (fun k a j => (ld_at (ms0_4 t0) (hs0_4 t0) _ k (off3 k) _ a 0 j).trans (g.hB a k j)) (fun a k e => (congrFun (init_at (ms0_5 t0) (hs0_5 t0) _ _) _).trans (g.hI a k e)) g.rK 128 (Nat.le_refl _) a k e)
  fin_cases b
  · show a.val = 0 + a.val; omega
  · show k.val = 0 + k.val; omega
  · show e.val = 0 + e.val; omega

end
theorem tail7 (c : Dev nD) : Pipeline.afterTail₀ cfgs (dats m) 0 (V0 m) [hostOps1] c main_v7 = shapeCast S24x8192x512 ((dats m 0 c).arrAt 6 cfg0.N) shapeCasts_S24x128x64x512_S24x8192x512 := by
  unfold Pipeline.afterTail₀
  simp only [hostOps1, List.flatten_cons, List.flatten_nil, List.append_nil]
  after_results
  exact congrArg (fun x => shapeCast S24x8192x512 x shapeCasts_S24x128x64x512_S24x8192x512) (withArrays_arr spec0 (by decide) c _ _ 6)

theorem tail8 (c : Dev nD) : Pipeline.afterTail₀ cfgs (dats m) 0 (V0 m) [hostOps1] c main_v8 = shapeCast S24x8192x256 ((dats m 0 c).arrAt 8 cfg0.N) shapeCasts_S24x128x64x256_S24x8192x256 := by
  unfold Pipeline.afterTail₀
  simp only [hostOps1, List.flatten_cons, List.flatten_nil, List.append_nil]
  after_results
  exact congrArg (fun x => shapeCast S24x8192x256 x shapeCasts_S24x128x64x256_S24x8192x256) (withArrays_arr spec0 (by decide) c _ _ 8)

theorem tail9 (c : Dev nD) : Pipeline.afterTail₀ cfgs (dats m) 0 (V0 m) [hostOps1] c main_v9 = shapeCast S6x4x128 ((dats m 0 c).arrAt 9 cfg0.N) shapeCasts_S24x128x1x1_S6x4x128 := by
  unfold Pipeline.afterTail₀
  simp only [hostOps1, List.flatten_cons, List.flatten_nil, List.append_nil]
  after_results
  exact congrArg (fun x => shapeCast S6x4x128 x shapeCasts_S24x128x1x1_S6x4x128) (withArrays_arr spec0 (by decide) c _ _ 9)

theorem tail10 (c : Dev nD) : Pipeline.afterTail₀ cfgs (dats m) 0 (V0 m) [hostOps1] c main_v10 = shapeCast S24x8192x256 ((dats m 0 c).arrAt 10 cfg0.N) shapeCasts_S24x128x64x256_S24x8192x256 := by
  unfold Pipeline.afterTail₀
  simp only [hostOps1, List.flatten_cons, List.flatten_nil, List.append_nil]
  after_results
  exact congrArg (fun x => shapeCast S24x8192x256 x shapeCasts_S24x128x64x256_S24x8192x256) (withArrays_arr spec0 (by decide) c _ _ 10)

theorem tail11 (c : Dev nD) : Pipeline.afterTail₀ cfgs (dats m) 0 (V0 m) [hostOps1] c main_v11 = shapeCast S6x4x128 ((dats m 0 c).arrAt 11 cfg0.N) shapeCasts_S24x128x1x1_S6x4x128 := by
  unfold Pipeline.afterTail₀
  simp only [hostOps1, List.flatten_cons, List.flatten_nil, List.append_nil]
  after_results
  exact congrArg (fun x => shapeCast S6x4x128 x shapeCasts_S24x128x1x1_S6x4x128) (withArrays_arr spec0 (by decide) c _ _ 11)

theorem host0 (c : Dev nD) : V m c main_v0 = shapeCast S24x128x64x256 (m ((c : Thread nD τ).loc main_arg0)) shapeCasts_S2x12x8192x256_S24x128x64x256 := by
  unfold V V0
  simp only [hostOps0, List.flatten_cons, List.flatten_nil, List.append_nil]
  after_results
  rfl

theorem host1 (c : Dev nD) : V m c main_v1 = shapeCast S24x128x64x256 (m ((c : Thread nD τ).loc main_arg1)) shapeCasts_S2x12x8192x256_S24x128x64x256 := by
  unfold V V0
  simp only [hostOps0, List.flatten_cons, List.flatten_nil, List.append_nil]
  after_results
  rfl

theorem host2 (c : Dev nD) : V m c main_v2 = shapeCast S24x128x64x512 (m ((c : Thread nD τ).loc main_arg2)) shapeCasts_S2x12x8192x512_S24x128x64x512 := by
  unfold V V0
  simp only [hostOps0, List.flatten_cons, List.flatten_nil, List.append_nil]
  after_results
  rfl

theorem host3 (c : Dev nD) : V m c main_v3 = shapeCast S24x128x1x64 (m ((c : Thread nD τ).loc main_arg3)) shapeCasts_S2x12x8192_S24x128x1x64 := by
  unfold V V0
  simp only [hostOps0, List.flatten_cons, List.flatten_nil, List.append_nil]
  after_results
  rfl

theorem host4 (c : Dev nD) : V m c main_v4 = shapeCast S24x128x1x64 (m ((c : Thread nD τ).loc main_arg4)) shapeCasts_S2x12x8192_S24x128x1x64 := by
  unfold V V0
  simp only [hostOps0, List.flatten_cons, List.flatten_nil, List.append_nil]
  after_results
  rfl

theorem host5 (c : Dev nD) : V m c main_v5 = shapeCast S24x256x512 (m ((c : Thread nD τ).loc main_arg5)) shapeCasts_S2x12x256x512_S24x256x512 := by
  unfold V V0
  simp only [hostOps0, List.flatten_cons, List.flatten_nil, List.append_nil]
  after_results
  rfl

/-! ### The results, in rows -/

theorem codes_rows (K : Cert.KernelIdeal.S24x8192x256.Idx → EReal) (f : S24x128x64x256.Idx → EReal) (hf : ∀ a k r l, f (ix4 a k r l) = chunkA K a k r l) :
    shapeCast S24x8192x256 (fun j : S24x128x64x256.Idx => code (fun r l => f (ix4 (j 0) (j 1) r l)) (j 2) (j 3)) shapeCasts_S24x128x64x256_S24x8192x256 = codesOf K := by
  refine funext (all3 fun (a : Fin 24) (s : Fin 8192) (l : Fin 256) => ?_)
  refine (shapeCast_apply (s := S24x128x64x256) (t := S24x8192x256) _ _ _
    (ix4 a (⟨s.val / 64, by omega⟩ : Fin 128) (⟨s.val % 64, by omega⟩ : Fin 64) l) ?_).trans ?_
  · rw [Shape.rowMajor_val_three, Shape.rowMajor_val_four]
    show ((a.val * 128 + s.val / 64) * 64 + s.val % 64) * 256 + l.val = (a.val * 8192 + s.val) * 256 + l.val
    omega
  · exact congrArg (fun X => code X _ _) (funext₂ fun r l => hf a _ r l)

theorem scales_rows (K : Cert.KernelIdeal.S24x8192x256.Idx → EReal) (f : S24x128x64x256.Idx → EReal) (hf : ∀ a k r l, f (ix4 a k r l) = chunkA K a k r l) :
    shapeCast S6x4x128 (fun j : S24x128x1x1.Idx => scale (fun r l => f (ix4 (j 0) (j 1) r l))) shapeCasts_S24x128x1x1_S6x4x128 = scalesOf K := by
  refine funext (all3 fun (g : Fin 6) (h : Fin 4) (n : Fin 128) => ?_)
  refine (shapeCast_apply (s := S24x128x1x1) (t := S6x4x128) _ _ _
    (ix4 (⟨4 * g.val + h.val, by omega⟩ : Fin 24) n (0 : Fin 1) (0 : Fin 1)) ?_).trans ?_
  · rw [Shape.rowMajor_val_three, Shape.rowMajor_val_four]
    show (((4 * g.val + h.val) * 128 + n.val) * 1 + 0) * 1 + 0 = (g.val * 4 + h.val) * 128 + n.val
    omega
  · exact congrArg scale (funext₂ fun r l => hf _ _ r l)

theorem outs_rows (F : Fin 24 → Fin 128 → Fin 64 → Fin 512 → ℝ) :
    shapeCast S24x8192x512 (fun j : S24x128x64x512.Idx => ((F (j 0) (j 1) (j 2) (j 3) : ℝ) : EReal)) shapeCasts_S24x128x64x512_S24x8192x512
      = fun i : S24x8192x512.Idx => ((F (i 0) ⟨(i 1).val / 64, by have : (i 1).val < 8192 := (i 1).isLt; omega⟩ ⟨(i 1).val % 64, Nat.mod_lt _ (by decide)⟩ (i 2) : ℝ) : EReal) := by
  refine funext (all3 fun (a : Fin 24) (s : Fin 8192) (l : Fin 512) => ?_)
  refine (shapeCast_apply (s := S24x128x64x512) (t := S24x8192x512) _ _ _
    (ix4 a (⟨s.val / 64, by omega⟩ : Fin 128) (⟨s.val % 64, by omega⟩ : Fin 64) l) ?_).trans rfl
  rw [Shape.rowMajor_val_three, Shape.rowMajor_val_four]
  show ((a.val * 128 + s.val / 64) * 64 + s.val % 64) * 512 + l.val = (a.val * 8192 + s.val) * 512 + l.val
  omega

/-- The reference ends with the results of the chunk recursion, the codes and the scales, and leaves its arguments as they were. -/
theorem run (ρ : Dev nD → PrngReg) (K Q : Dev nD → Cert.KernelIdeal.S24x8192x256.Idx → EReal) (W : Dev nD → Cert.KernelIdeal.S24x8192x512.Idx → EReal) (G B : Dev nD → Cert.KernelIdeal.S24x128x64.Idx → EReal) (I : Dev nD → Cert.KernelIdeal.S24x256x512.Idx → EReal)
    (g : ∀ c, Given m c (K c) (Q c) (W c) (G c) (B c) (I c)) : θ_run defs (onTc (τ := τ) (main (F := Ideal))) ⟨m, fun _ => 0, ρ⟩ (fun r =>
    ∀ c : Dev nD, r.2.mem ((c.tc : Thread nD τ).loc main_v7) = (fun i : S24x8192x512.Idx => ((outN (K c) (Q c) (W c) (G c) (B c) (I c) (i 0) ⟨(i 1).val / 64, by have : (i 1).val < 8192 := (i 1).isLt; omega⟩ ⟨(i 1).val % 64, Nat.mod_lt _ (by decide)⟩ (i 2) : ℝ) : EReal))
      ∧ r.2.mem ((c.tc : Thread nD τ).loc main_v6_1) = (fun j : S24x256x512.Idx => ((stateN (K c) (Q c) (W c) (G c) (B c) (I c) (j 0) 128 (j 1) (j 2) : ℝ) : EReal))
      ∧ r.2.mem ((c.tc : Thread nD τ).loc main_v8) = codesOf (K c)
      ∧ r.2.mem ((c.tc : Thread nD τ).loc main_v9) = scalesOf (K c)
      ∧ r.2.mem ((c.tc : Thread nD τ).loc main_v10) = codesOf (Q c)
      ∧ r.2.mem ((c.tc : Thread nD τ).loc main_v11) = scalesOf (Q c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h2 := θ_run_mono (run_main_quiescent m ρ) fun r hr => hr.1
  refine θ_run_mono (θ_run_and h2 (frame_of m ρ (dats m) (A_eq m) h2)) fun r hr c => ?_
  refine ⟨((hr.1 c).2 main_v7 (Pipeline.mem_restRefs_of main_v7 (by decide) (by decide))).trans ?_,
    ((hr.1 c).1 7).trans ?_,
    ((hr.1 c).2 main_v8 (Pipeline.mem_restRefs_of main_v8 (by decide) (by decide))).trans ?_,
    ((hr.1 c).2 main_v9 (Pipeline.mem_restRefs_of main_v9 (by decide) (by decide))).trans ?_,
    ((hr.1 c).2 main_v10 (Pipeline.mem_restRefs_of main_v10 (by decide) (by decide))).trans ?_,
    ((hr.1 c).2 main_v11 (Pipeline.mem_restRefs_of main_v11 (by decide) (by decide))).trans ?_, hr.2 c⟩
  · rw [tail7, arr6 (g c)]; exact outs_rows _
  · exact arr7 (g c)
  · rw [tail8, arr8]; exact codes_rows (K c) _ (g c).hK
  · rw [tail9, arr9]; exact scales_rows (K c) _ (g c).hK
  · rw [tail10, arr10]; exact codes_rows (Q c) _ (g c).hQ
  · rw [tail11, arr11]; exact scales_rows (Q c) _ (g c).hQ

end Cert.ReferenceIdeal.Hand

end
-- ==== Proof.Equation.lean ====
module

-- What the precondition says of the arguments, and that kernel and reference cut them into the same chunks.
public import proofs.«01_k».proof.Proof.DeltaArr
public import proofs.«01_k».proof.Proof.ReferenceArr
public import proofs.«01_k».proof.Pre_in_range
public import Idealize.ShloMosaic.Lib.ReduceAll

@[expose] public noncomputable section

set_option maxRecDepth 100000

namespace Cert.Equation

open Idealize.ShloMosaic Idealize.ShloMosaic.TcCoe Idealize.ShloMosaic.Tactic Idealize.ShloMosaic.Pipeline
open Cert.Quant

/-! ### The kernel's arrays are its arguments -/

section
open Cert.KernelIdeal Cert.KernelIdeal.Gen
variable (m : (ℓ : Loc nD τ sig) → Buf (Elt Ideal) ℓ)

theorem arrQ_eq (c : Dev nD) : Cert.KernelIdeal.Hand.arrQ m c
    = shapeCast S24x8192x256 (m ((c : Thread nD τ).loc main_arg0)) Gen.shapeCasts_S2x12x8192x256_S24x8192x256 := by
  unfold Cert.KernelIdeal.Hand.arrQ V
  unfold_abbrev_sides
  simp only [hostOps0]
  after_results
  rfl

theorem arrK_eq (c : Dev nD) : Cert.KernelIdeal.Hand.arrK m c
    = shapeCast S24x8192x256 (m ((c : Thread nD τ).loc main_arg1)) Gen.shapeCasts_S2x12x8192x256_S24x8192x256 := by
  unfold Cert.KernelIdeal.Hand.arrK V
  unfold_abbrev_sides
  simp only [hostOps0]
  after_results
  rfl

theorem arrV_eq (c : Dev nD) : Cert.KernelIdeal.Hand.arrV m c
    = shapeCast S24x8192x512 (m ((c : Thread nD τ).loc main_arg2)) Gen.shapeCasts_S2x12x8192x512_S24x8192x512 := by
  unfold Cert.KernelIdeal.Hand.arrV V
  unfold_abbrev_sides
  simp only [hostOps0]
  after_results
  rfl

theorem arrG_eq (c : Dev nD) : Cert.KernelIdeal.Hand.arrG m c
    = shapeCast S24x128x64 (m ((c : Thread nD τ).loc main_arg3)) Gen.shapeCasts_S2x12x8192_S24x128x64 := by
  unfold Cert.KernelIdeal.Hand.arrG V
  unfold_abbrev_sides
  simp only [hostOps0]
  after_results
  rfl

theorem arrB_eq (c : Dev nD) : Cert.KernelIdeal.Hand.arrB m c
    = shapeCast S24x128x64 (m ((c : Thread nD τ).loc main_arg4)) Gen.shapeCasts_S2x12x8192_S24x128x64 := by
  unfold Cert.KernelIdeal.Hand.arrB V
  unfold_abbrev_sides
  simp only [hostOps0]
  after_results
  rfl

theorem arrI_eq (c : Dev nD) : Cert.KernelIdeal.Hand.arrI m c
    = shapeCast S24x256x512 (m ((c : Thread nD τ).loc main_arg5)) Gen.shapeCasts_S2x12x256x512_S24x256x512 := by
  unfold Cert.KernelIdeal.Hand.arrI V
  unfold_abbrev_sides
  simp only [hostOps0]
  after_results
  rfl

end

/-! ### One array in two shapes -/

theorem reshape_two {s t u : Shape} {α : Type} (x : s.Idx → α) (h : s.ShapeCasts t) (h' : s.ShapeCasts u) (i : t.Idx) (j : u.Idx)
    (e : (t.rowMajor i).val = (u.rowMajor j).val) : shapeCast t x h i = shapeCast u x h' j := by
  refine shapeCast_apply x h i (Shape.reshapeEquiv h' j) ?_
  exact (Shape.rowMajor_reshapeEquiv h' j).trans e.symm

/-! ### The precondition -/

instance : Cert.Pre_in_range.Facts := ⟨by decide, by decide, by decide, by decide, by decide, by decide, by decide, by decide, by decide, by decide⟩

theorem both {a b : BitVec 1} : a &&& b = 1#1 → a = 1#1 ∧ b = 1#1 := by revert a b; decide

abbrev bound (x : EReal) (b : BitVec 32) : Prop := max x (-x) ≤ Ideal.ofBits .f32 b

theorem of_bit {s : Shape} {x : s.Idx → EReal} {b : BitVec 32} {i : s.Idx} (h : BitVec.ofBool (decide (max (x i) (-x i) ≤ Ideal.ofBits .f32 b)) = 1#1) : bound (x i) b := by
  by_contra hc
  rw [decide_eq_false hc] at h
  exact absurd h (by decide)

instance : Subsingleton Cert.Pre_in_range.S_.Idx := ⟨fun _ _ => funext fun i => i.elim0⟩

/-- The precondition bounds every entry of every argument. -/
theorem pre_entry {x y z} {g b s} (h : Cert.Pre_in_range.fn (F := Ideal) x y z g b s = fun _ => 1#1) :
    (∀ i, bound (x i) 0x7F7F0000#32) ∧ (∀ i, bound (y i) 0x7F7F0000#32) ∧ (∀ i, bound (z i) 0x7F7F0000#32)
      ∧ (∀ i, bound (g i) 0x7F7FFFFF#32) ∧ (∀ i, bound (b i) 0x7F7FFFFF#32) ∧ (∀ i, bound (s i) 0x7F7FFFFF#32) := by
  have h := congrFun h (fun i => i.elim0)
  unfold Cert.Pre_in_range.fn Cert.Pre_in_range.fn_part1 at h
  dsimp only at h
  obtain ⟨h, h6⟩ := both h
  obtain ⟨h, h5⟩ := both h
  obtain ⟨h, h4⟩ := both h
  obtain ⟨h, h3⟩ := both h
  obtain ⟨h1, h2⟩ := both h
  exact ⟨fun i => of_bit (Host.reduce_andi_all _ _ _ _ _ h1 i), fun i => of_bit (Host.reduce_andi_all _ _ _ _ _ h2 i), fun i => of_bit (Host.reduce_andi_all _ _ _ _ _ h3 i),
    fun i => of_bit (Host.reduce_andi_all _ _ _ _ _ h4 i), fun i => of_bit (Host.reduce_andi_all _ _ _ _ _ h5 i), fun i => of_bit (Host.reduce_andi_all _ _ _ _ _ h6 i)⟩

theorem real_of {x : EReal} {b : BitVec 32} {r : ℝ} (hb : Ideal.ofBits .f32 b = (r : EReal)) (h : bound x b) : ((x.toReal : ℝ) : EReal) = x := by
  unfold bound at h
  rw [hb] at h
  refine EReal.coe_toReal ?_ ?_
  · rintro rfl
    exact absurd ((le_max_left _ _).trans h) (not_le.2 (EReal.coe_lt_top r))
  · rintro rfl
    exact absurd ((le_max_right _ _).trans h) (not_le.2 (EReal.coe_lt_top r))

theorem most_bf16 : ∃ r : ℝ, Ideal.ofBits .f32 0x7F7F0000#32 = (r : EReal) :=
  ⟨_, ieee_pos (b := 0x7F7F0000#32) (i := 254) (m := 8323072) (by decide) (by decide) (by decide) (by decide) (by decide)⟩
theorem most_f32 : ∃ r : ℝ, Ideal.ofBits .f32 0x7F7FFFFF#32 = (r : EReal) :=
  ⟨_, ieee_pos (b := 0x7F7FFFFF#32) (i := 254) (m := 8388607) (by decide) (by decide) (by decide) (by decide) (by decide)⟩

theorem real_bf16 {x : EReal} (h : bound x 0x7F7F0000#32) : ((x.toReal : ℝ) : EReal) = x := most_bf16.elim fun _ hr => real_of hr h
theorem real_f32 {x : EReal} (h : bound x 0x7F7FFFFF#32) : ((x.toReal : ℝ) : EReal) = x := most_f32.elim fun _ hr => real_of hr h

/-! ### Both programs cut the same chunks -/

section
open Cert.KernelIdeal.Hand (chunkA)

theorem cut_rows (x : Cert.KernelIdeal.S2x12x8192x256.Idx → EReal) (a : Fin 24) (k : Fin 128) (r : Fin 64) (l : Fin 256) :
    shapeCast Cert.ReferenceIdeal.S24x128x64x256 x Cert.ReferenceIdeal.Gen.shapeCasts_S2x12x8192x256_S24x128x64x256 (ix4 a k r l)
      = chunkA (shapeCast Cert.KernelIdeal.S24x8192x256 x Cert.KernelIdeal.Gen.shapeCasts_S2x12x8192x256_S24x8192x256) a k r l := by
  refine reshape_two x _ _ _ (ix3 a (⟨64 * k.val + r.val, by omega⟩ : Fin 8192) l) ?_
  rw [Shape.rowMajor_val_four, Shape.rowMajor_val_three]
  show ((a.val * 128 + k.val) * 64 + r.val) * 256 + l.val = (a.val * 8192 + (64 * k.val + r.val)) * 256 + l.val
  omega

theorem cut_values (x : Cert.KernelIdeal.S2x12x8192x512.Idx → EReal) (a : Fin 24) (k : Fin 128) (r : Fin 64) (e : Fin 512) :
    shapeCast Cert.ReferenceIdeal.S24x128x64x512 x Cert.ReferenceIdeal.Gen.shapeCasts_S2x12x8192x512_S24x128x64x512 (ix4 a k r e)
      = shapeCast Cert.KernelIdeal.S24x8192x512 x Cert.KernelIdeal.Gen.shapeCasts_S2x12x8192x512_S24x8192x512 (ix3 a (⟨64 * k.val + r.val, by omega⟩ : Fin 8192) e) := by
  refine reshape_two x _ _ _ _ ?_
  rw [Shape.rowMajor_val_four, Shape.rowMajor_val_three]
  show ((a.val * 128 + k.val) * 64 + r.val) * 512 + e.val = (a.val * 8192 + (64 * k.val + r.val)) * 512 + e.val
  omega

theorem cut_gates (x : Cert.KernelIdeal.S2x12x8192.Idx → EReal) (a : Fin 24) (k : Fin 128) (j : Fin 64) :
    shapeCast Cert.ReferenceIdeal.S24x128x1x64 x Cert.ReferenceIdeal.Gen.shapeCasts_S2x12x8192_S24x128x1x64 (ix4 a k 0 j)
      = shapeCast Cert.KernelIdeal.S24x128x64 x Cert.KernelIdeal.Gen.shapeCasts_S2x12x8192_S24x128x64 (ix3 a k j) := by
  refine reshape_two x _ _ _ _ ?_
  rw [Shape.rowMajor_val_four, Shape.rowMajor_val_three]
  show ((a.val * 128 + k.val) * 1 + 0) * 64 + j.val = (a.val * 128 + k.val) * 64 + j.val
  omega

variable (m : (ℓ : Loc Cert.KernelIdeal.nD Cert.KernelIdeal.τ Cert.KernelIdeal.sig) → Buf (Elt Ideal) ℓ) (c : Dev Cert.KernelIdeal.nD)
  (hpre : Cert.Pre_in_range.fn (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1)
include hpre

theorem rangeQ (a n) : InRange (chunkA (Cert.KernelIdeal.Hand.arrQ m c) a n) := by
  rw [arrQ_eq]; exact fun r l => (pre_entry hpre).1 _
theorem rangeK (a n) : InRange (chunkA (Cert.KernelIdeal.Hand.arrK m c) a n) := by
  rw [arrK_eq]; exact fun r l => (pre_entry hpre).2.1 _
theorem realV (i) : ((Cert.KernelIdeal.Hand.arrV m c i).toReal : EReal) = Cert.KernelIdeal.Hand.arrV m c i := by
  rw [arrV_eq]; exact real_bf16 ((pre_entry hpre).2.2.1 _)
theorem realG (i) : ((Cert.KernelIdeal.Hand.arrG m c i).toReal : EReal) = Cert.KernelIdeal.Hand.arrG m c i := by
  rw [arrG_eq]; exact real_f32 ((pre_entry hpre).2.2.2.1 _)
theorem realB (i) : ((Cert.KernelIdeal.Hand.arrB m c i).toReal : EReal) = Cert.KernelIdeal.Hand.arrB m c i := by
  rw [arrB_eq]; exact real_f32 ((pre_entry hpre).2.2.2.2.1 _)
theorem realI (i) : ((Cert.KernelIdeal.Hand.arrI m c i).toReal : EReal) = Cert.KernelIdeal.Hand.arrI m c i := by
  rw [arrI_eq]; exact real_f32 ((pre_entry hpre).2.2.2.2.2 _)

/-- The reference, from the same arguments, is given the kernel's arrays. -/
theorem given (m' : (ℓ : Loc Cert.ReferenceIdeal.nD Cert.ReferenceIdeal.τ Cert.ReferenceIdeal.sig) → Buf (Elt Ideal) ℓ)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.Given m' c (Cert.KernelIdeal.Hand.arrK m c) (Cert.KernelIdeal.Hand.arrQ m c) (Cert.KernelIdeal.Hand.arrV m c)
      (Cert.KernelIdeal.Hand.arrG m c) (Cert.KernelIdeal.Hand.arrB m c) (Cert.KernelIdeal.Hand.arrI m c) where
  hK a k r l := by
    rw [Cert.ReferenceIdeal.Hand.host1, e1, arrK_eq]; exact cut_rows _ a k r l
  hQ a k r l := by
    rw [Cert.ReferenceIdeal.Hand.host0, e0, arrQ_eq]; exact cut_rows _ a k r l
  hV a k r e := by
    refine Eq.trans ?_ (realV m c hpre _).symm
    rw [Cert.ReferenceIdeal.Hand.host2, e2, arrV_eq]; exact cut_values _ a k r e
  hG a k j := by
    refine Eq.trans ?_ (realG m c hpre _).symm
    rw [Cert.ReferenceIdeal.Hand.host3, e3, arrG_eq]; exact cut_gates _ a k j
  hB a k j := by
    refine Eq.trans ?_ (realB m c hpre _).symm
    rw [Cert.ReferenceIdeal.Hand.host4, e4, arrB_eq]; exact cut_gates _ a k j
  hI a k e := by
    refine Eq.trans ?_ (realI m c hpre _).symm
    rw [Cert.ReferenceIdeal.Hand.host5, e5, arrI_eq]
  rK := rangeK m c hpre
  rQ := rangeQ m c hpre
end

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelBody
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The rewrites between the kernel and its ideal program are sound, at each shape they are made. -/
theorem preserves : Cert.preserves_Kernel_KernelIdeal :=
  ⟨IdealRules.bf16_pack.statement _, IdealRules.bf16_pack.statement _, IdealRules.bf16_pack.statement _, IdealRules.bf16_pack.statement _⟩

/-- From arguments in range, kernel and reference end with the same six results. -/
theorem algebraic : Cert.algebraic_KernelIdeal_ReferenceIdeal_pre_in_range := by
  intro m g m' g' hpre hagree
  refine ⟨fun c => Cert.KernelIdeal.Hand.outsOf m c, fun c => Cert.KernelIdeal.Hand.finalOf m c,
    fun c => Cert.KernelIdeal.Hand.codesOf (Cert.KernelIdeal.Hand.arrK m c), fun c => Cert.KernelIdeal.Hand.scalesOf (Cert.KernelIdeal.Hand.arrK m c),
    fun c => Cert.KernelIdeal.Hand.codesOf (Cert.KernelIdeal.Hand.arrQ m c), fun c => Cert.KernelIdeal.Hand.scalesOf (Cert.KernelIdeal.Hand.arrQ m c),
    θ_run_mono (Cert.KernelIdeal.Hand.run_all m g (fun c => Cert.Equation.rangeQ m c (hpre c)) (fun c => Cert.Equation.rangeK m c (hpre c))
      (fun c => Cert.Equation.realV m c (hpre c)) (fun c => Cert.Equation.realG m c (hpre c)) (fun c => Cert.Equation.realB m c (hpre c))
      (fun c => Cert.Equation.realI m c (hpre c))) fun r hr => hr.1, ?_⟩
  exact Cert.ReferenceIdeal.Hand.run m' g' _ _ _ _ _ _ fun c => Cert.Equation.given m c (hpre c) m' (hagree c).1 (hagree c).2.1 (hagree c).2.2.1
    (hagree c).2.2.2.1 (hagree c).2.2.2.2.1 (hagree c).2.2.2.2.2

theorem claim : Cert.Claim := ⟨Cert.Kernel.Gen.facts, Cert.KernelIdeal.Gen.facts, Cert.ReferenceIdeal.Gen.facts, inferInstance,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, preserves, algebraic⟩

end Cert.Proof

end
